-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S128x100000 : Shape := ⟨2, ![128, 100000]⟩
abbrev S128 : Shape := ⟨1, ![128]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) (main_arg1 : FVec F S128 .f32) (main_arg2 : FVec F S128 .f32) (main_arg3 : IVec S128 32) : IVec S_ 1 :=
  let main_cst : FVec F S_ .f32 := constant S_ .f32 0xFF61B1E6#32
  let main_v0 : FVec F S128x100000 .f32 := broadcastInDim S128x100000 ![] bcast_S_S128x100000 main_cst
  let main_v1 : IVec S128x100000 1 := cmpf .ogt main_arg0 main_v0
  let main_c : IVec S_ 1 := constantI S_ 1 1#1
  let main_v2 : IVec S_ 1 := (fun x v => Host.reduce IntOp.andi x v reducesTo_S128x100000_S_d0_1 h_S_) main_v1 main_c
  let main_cst_0 : FVec F S_ .f32 := constant S_ .f32 0x00000000#32
  let main_v3 : FVec F S128 .f32 := broadcastInDim S128 ![] bcast_S_S128 main_cst_0
  let main_v4 : IVec S128 1 := cmpf .ogt main_arg1 main_v3
  let main_c_1 : IVec S_ 1 := constantI S_ 1 1#1
  let main_v5 : IVec S_ 1 := (fun x v => Host.reduce IntOp.andi x v reducesTo_S128_S_d0 h_S_) main_v4 main_c_1
  let main_v6 : IVec S_ 1 := andi main_v2 main_v5
  let main_cst_2 : FVec F S_ .f32 := constant S_ .f32 0x7F800000#32
  let main_v7 : FVec F S128 .f32 := broadcastInDim S128 ![] bcast_S_S128 main_cst_2
  let main_v8 : IVec S128 1 := cmpf .olt main_arg1 main_v7
  let main_c_3 : IVec S_ 1 := constantI S_ 1 1#1
  let main_v9 : IVec S_ 1 := (fun x v => Host.reduce IntOp.andi x v reducesTo_S128_S_d0 h_S_) main_v8 main_c_3
  let main_v10 : IVec S_ 1 := andi main_v6 main_v9
  let main_c_4 : IVec S_ 32 := constantI S_ 32 64#32
  let main_v11 : IVec S128 32 := broadcastInDim S128 ![] bcast_S_S128 main_c_4
  let main_v12 : IVec S128 1 := cmpi .sle main_arg3 main_v11
  let main_c_5 : IVec S_ 1 := constantI S_ 1 1#1
  let main_v13 : IVec S_ 1 := (fun x v => Host.reduce IntOp.andi x v reducesTo_S128_S_d0 h_S_) main_v12 main_c_5
  let main_v14 : IVec S_ 1 := andi main_v10 main_v13
  main_v14
-- ==== Kernel.lean ====
abbrev S128x100000 : Shape := ⟨2, ![128, 100000]⟩
abbrev S128 : Shape := ⟨1, ![128]⟩
abbrev S128x200x500 : Shape := ⟨3, ![128, 200, 500]⟩
abbrev S_ : Shape := ⟨0, ![]⟩
abbrev S1 : Shape := ⟨1, ![1]⟩
abbrev S2 : Shape := ⟨1, ![2]⟩
abbrev S1x1 : Shape := ⟨2, ![1, 1]⟩
abbrev S128x64 : Shape := ⟨2, ![128, 64]⟩
abbrev S16x1x8 : Shape := ⟨3, ![16, 1, 8]⟩
abbrev S16x8x64 : Shape := ⟨3, ![16, 8, 64]⟩
abbrev S8x200x500 : Shape := ⟨3, ![8, 200, 500]⟩
abbrev S1x1x8 : Shape := ⟨3, ![1, 1, 8]⟩
abbrev S1x8x64 : Shape := ⟨3, ![1, 8, 64]⟩
abbrev S8x64 : Shape := ⟨2, ![8, 64]⟩
abbrev S8x1x200x500 : Shape := ⟨4, ![8, 1, 200, 500]⟩
abbrev S8x500 : Shape := ⟨2, ![8, 500]⟩
abbrev S8x1x500 : Shape := ⟨3, ![8, 1, 500]⟩
abbrev S8x5x500 : Shape := ⟨3, ![8, 5, 500]⟩
abbrev S8x1x5x500 : Shape := ⟨4, ![8, 1, 5, 500]⟩
abbrev S8x200 : Shape := ⟨2, ![8, 200]⟩
abbrev S8 : Shape := ⟨1, ![8]⟩
abbrev S8x1x1x1 : Shape := ⟨4, ![8, 1, 1, 1]⟩
abbrev S8x1x5 : Shape := ⟨3, ![8, 1, 5]⟩
abbrev S8x1 : Shape := ⟨2, ![8, 1]⟩
abbrev S1x8 : Shape := ⟨2, ![1, 8]⟩
abbrev S8x1x200 : Shape := ⟨3, ![8, 1, 200]⟩
abbrev S64x64 : Shape := ⟨2, ![64, 64]⟩

abbrev nBuf : Space → Nat
  | .hbm => 289
  | .vmem => 14
  | .smem => 0
  | _ => 0

abbrev hbmTy0_0 (i : Nat) : BufTy := match i % 128 with
  | 0 => ⟨S128x100000, .f32⟩
  | 1 => ⟨S128, .f32⟩
  | 2 => ⟨S128, .f32⟩
  | 3 => ⟨S128, .i32⟩
  | 4 => ⟨S128x200x500, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S_, .f32⟩
  | 16 => ⟨S_, .f32⟩
  | 17 => ⟨S_, .f32⟩
  | 18 => ⟨S1x1, .f32⟩
  | 19 => ⟨S1x1, .f32⟩
  | 20 => ⟨S1, .i32⟩
  | 21 => ⟨S_, .i32⟩
  | 22 => ⟨S1, .i32⟩
  | 23 => ⟨S_, .i32⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S_, .i64⟩
  | 30 => ⟨S128x100000, .i64⟩
  | 31 => ⟨S128x100000, .i64⟩
  | 32 => ⟨S128x100000, .i64⟩
  | 33 => ⟨S_, .i64⟩
  | 34 => ⟨S128x100000, .i64⟩
  | 35 => ⟨S128x100000, .i64⟩
  | 36 => ⟨S128x100000, .i32⟩
  | 37 => ⟨S128x100000, .i32⟩
  | 38 => ⟨S_, .i32⟩
  | 39 => ⟨S_, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S_, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_2 (i : Nat) : BufTy := match i % 128 with
  | 0 => ⟨S128x100000, .i32⟩
  | 1 => ⟨S_, .i32⟩
  | 2 => ⟨S128x100000, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S128x100000, .f32⟩
  | 12 => ⟨S_, .f32⟩
  | 13 => ⟨S128x100000, .f32⟩
  | 14 => ⟨S128x100000, .f32⟩
  | 15 => ⟨S1x1, .f32⟩
  | 16 => ⟨S128x100000, .f32⟩
  | 17 => ⟨S128x100000, .f32⟩
  | 18 => ⟨S128x100000, .f32⟩
  | 19 => ⟨S128x100000, .f32⟩
  | 20 => ⟨S128x100000, .f32⟩
  | 21 => ⟨S128x100000, .f32⟩
  | 22 => ⟨S128x100000, .f32⟩
  | 23 => ⟨S128x100000, .f32⟩
  | 24 => ⟨S128x100000, .f32⟩
  | 25 => ⟨S128x100000, .f32⟩
  | 26 => ⟨S128x64, .f32⟩
  | 27 => ⟨S16x1x8, .f32⟩
  | 28 => ⟨S16x1x8, .f32⟩
  | 29 => ⟨S16x1x8, .i32⟩
  | 30 => ⟨S16x8x64, .f32⟩
  | 31 => ⟨S16x1x8, .i32⟩
  | 32 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | .local _ .vmem, ⟨0, _⟩ => ⟨S8x200x500, .f32⟩
  | .local _ .vmem, ⟨1, _⟩ => ⟨S8x200x500, .f32⟩
  | .local _ .vmem, ⟨2, _⟩ => ⟨S1x1x8, .f32⟩
  | .local _ .vmem, ⟨3, _⟩ => ⟨S1x1x8, .f32⟩
  | .local _ .vmem, ⟨4, _⟩ => ⟨S1x1x8, .f32⟩
  | .local _ .vmem, ⟨5, _⟩ => ⟨S1x1x8, .f32⟩
  | .local _ .vmem, ⟨6, _⟩ => ⟨S1x1x8, .i32⟩
  | .local _ .vmem, ⟨7, _⟩ => ⟨S1x1x8, .i32⟩
  | .local _ .vmem, ⟨8, _⟩ => ⟨S1x8x64, .f32⟩
  | .local _ .vmem, ⟨9, _⟩ => ⟨S1x8x64, .f32⟩
  | .local _ .vmem, ⟨10, _⟩ => ⟨S1x1x8, .i32⟩
  | .local _ .vmem, ⟨11, _⟩ => ⟨S1x1x8, .i32⟩
  | .local _ .vmem, ⟨12, _⟩ => ⟨S8x64, .f32⟩
  | .local _ .vmem, ⟨13, _⟩ => ⟨S8x64, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_cst_0 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_c : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_c_0 : Ref sig .tc := ⟨.hbm, 29, rfl⟩
abbrev main_call0_call0_v11 : Ref sig .tc := ⟨.hbm, 30, rfl⟩
abbrev main_call0_call0_v12 : Ref sig .tc := ⟨.hbm, 31, rfl⟩
abbrev main_call0_call0_v13 : Ref sig .tc := ⟨.hbm, 32, rfl⟩
abbrev main_call0_call0_c_1 : Ref sig .tc := ⟨.hbm, 33, rfl⟩
abbrev main_call0_call0_v14 : Ref sig .tc := ⟨.hbm, 34, rfl⟩
abbrev main_call0_call0_v15 : Ref sig .tc := ⟨.hbm, 35, rfl⟩
abbrev main_call0_call0_v16 : Ref sig .tc := ⟨.hbm, 36, rfl⟩
abbrev main_call0_call0_v17 : Ref sig .tc := ⟨.hbm, 37, rfl⟩
abbrev main_call0_call0_call0_v0 : Ref sig .tc := ⟨.hbm, 38, rfl⟩
abbrev main_call0_call0_call0_c : Ref sig .tc := ⟨.hbm, 39, rfl⟩
abbrev main_call0_call0_call0_v1 : Ref sig .tc := ⟨.hbm, 40, rfl⟩
abbrev main_call0_call0_call0_v2 : Ref sig .tc := ⟨.hbm, 41, rfl⟩
abbrev main_call0_call0_call0_v3 : Ref sig .tc := ⟨.hbm, 42, rfl⟩
abbrev main_call0_call0_call0_v4 : Ref sig .tc := ⟨.hbm, 43, rfl⟩
abbrev main_call0_call0_call0_v5 : Ref sig .tc := ⟨.hbm, 44, rfl⟩
abbrev main_call0_call0_call0_v6 : Ref sig .tc := ⟨.hbm, 45, rfl⟩
abbrev main_call0_call0_call0_c_0 : Ref sig .tc := ⟨.hbm, 46, rfl⟩
abbrev main_call0_call0_call0_v7 : Ref sig .tc := ⟨.hbm, 47, rfl⟩
abbrev main_call0_call0_call0_v8 : Ref sig .tc := ⟨.hbm, 48, rfl⟩
abbrev main_call0_call0_call0_c_1 : Ref sig .tc := ⟨.hbm, 49, rfl⟩
abbrev main_call0_call0_call0_v9 : Ref sig .tc := ⟨.hbm, 50, rfl⟩
abbrev main_call0_call0_call0_v10 : Ref sig .tc := ⟨.hbm, 51, rfl⟩
abbrev main_call0_call0_call0_v11 : Ref sig .tc := ⟨.hbm, 52, rfl⟩
abbrev main_call0_call0_call0_v12 : Ref sig .tc := ⟨.hbm, 53, rfl⟩
abbrev main_call0_call0_call0_v13 : Ref sig .tc := ⟨.hbm, 54, rfl⟩
abbrev main_call0_call0_call0_c_2 : Ref sig .tc := ⟨.hbm, 55, rfl⟩
abbrev main_call0_call0_call0_v14 : Ref sig .tc := ⟨.hbm, 56, rfl⟩
abbrev main_call0_call0_call0_v15 : Ref sig .tc := ⟨.hbm, 57, rfl⟩
abbrev main_call0_call0_call0_c_3 : Ref sig .tc := ⟨.hbm, 58, rfl⟩
abbrev main_call0_call0_call0_v16 : Ref sig .tc := ⟨.hbm, 59, rfl⟩
abbrev main_call0_call0_call0_v17 : Ref sig .tc := ⟨.hbm, 60, rfl⟩
abbrev main_call0_call0_call0_v18 : Ref sig .tc := ⟨.hbm, 61, rfl⟩
abbrev main_call0_call0_call0_v19 : Ref sig .tc := ⟨.hbm, 62, rfl⟩
abbrev main_call0_call0_call0_v20 : Ref sig .tc := ⟨.hbm, 63, rfl⟩
abbrev main_call0_call0_call0_c_4 : Ref sig .tc := ⟨.hbm, 64, rfl⟩
abbrev main_call0_call0_call0_v21 : Ref sig .tc := ⟨.hbm, 65, rfl⟩
abbrev main_call0_call0_call0_v22 : Ref sig .tc := ⟨.hbm, 66, rfl⟩
abbrev main_call0_call0_call0_c_5 : Ref sig .tc := ⟨.hbm, 67, rfl⟩
abbrev main_call0_call0_call0_v23 : Ref sig .tc := ⟨.hbm, 68, rfl⟩
abbrev main_call0_call0_call0_v24 : Ref sig .tc := ⟨.hbm, 69, rfl⟩
abbrev main_call0_call0_call0_v25 : Ref sig .tc := ⟨.hbm, 70, rfl⟩
abbrev main_call0_call0_call0_v26 : Ref sig .tc := ⟨.hbm, 71, rfl⟩
abbrev main_call0_call0_call0_v27 : Ref sig .tc := ⟨.hbm, 72, rfl⟩
abbrev main_call0_call0_call0_c_6 : Ref sig .tc := ⟨.hbm, 73, rfl⟩
abbrev main_call0_call0_call0_v28 : Ref sig .tc := ⟨.hbm, 74, rfl⟩
abbrev main_call0_call0_call0_v29 : Ref sig .tc := ⟨.hbm, 75, rfl⟩
abbrev main_call0_call0_call0_c_7 : Ref sig .tc := ⟨.hbm, 76, rfl⟩
abbrev main_call0_call0_call0_v30 : Ref sig .tc := ⟨.hbm, 77, rfl⟩
abbrev main_call0_call0_call0_v31 : Ref sig .tc := ⟨.hbm, 78, rfl⟩
abbrev main_call0_call0_call0_v32 : Ref sig .tc := ⟨.hbm, 79, rfl⟩
abbrev main_call0_call0_call0_v33 : Ref sig .tc := ⟨.hbm, 80, rfl⟩
abbrev main_call0_call0_call0_v34 : Ref sig .tc := ⟨.hbm, 81, rfl⟩
abbrev main_call0_call0_call0_v35 : Ref sig .tc := ⟨.hbm, 82, rfl⟩
abbrev main_call0_call0_call0_v36 : Ref sig .tc := ⟨.hbm, 83, rfl⟩
abbrev main_call0_call0_call0_v37 : Ref sig .tc := ⟨.hbm, 84, rfl⟩
abbrev main_call0_call0_call0_c_8 : Ref sig .tc := ⟨.hbm, 85, rfl⟩
abbrev main_call0_call0_call0_v38 : Ref sig .tc := ⟨.hbm, 86, rfl⟩
abbrev main_call0_call0_call0_v39 : Ref sig .tc := ⟨.hbm, 87, rfl⟩
abbrev main_call0_call0_call0_v40 : Ref sig .tc := ⟨.hbm, 88, rfl⟩
abbrev main_call0_call0_call0_c_9 : Ref sig .tc := ⟨.hbm, 89, rfl⟩
abbrev main_call0_call0_call0_v41 : Ref sig .tc := ⟨.hbm, 90, rfl⟩
abbrev main_call0_call0_call0_v42 : Ref sig .tc := ⟨.hbm, 91, rfl⟩
abbrev main_call0_call0_call0_c_10 : Ref sig .tc := ⟨.hbm, 92, rfl⟩
abbrev main_call0_call0_call0_v43 : Ref sig .tc := ⟨.hbm, 93, rfl⟩
abbrev main_call0_call0_call0_v44 : Ref sig .tc := ⟨.hbm, 94, rfl⟩
abbrev main_call0_call0_call0_v45 : Ref sig .tc := ⟨.hbm, 95, rfl⟩
abbrev main_call0_call0_call0_v46 : Ref sig .tc := ⟨.hbm, 96, rfl⟩
abbrev main_call0_call0_call0_v47 : Ref sig .tc := ⟨.hbm, 97, rfl⟩
abbrev main_call0_call0_call0_c_11 : Ref sig .tc := ⟨.hbm, 98, rfl⟩
abbrev main_call0_call0_call0_v48 : Ref sig .tc := ⟨.hbm, 99, rfl⟩
abbrev main_call0_call0_call0_v49 : Ref sig .tc := ⟨.hbm, 100, rfl⟩
abbrev main_call0_call0_call0_c_12 : Ref sig .tc := ⟨.hbm, 101, rfl⟩
abbrev main_call0_call0_call0_v50 : Ref sig .tc := ⟨.hbm, 102, rfl⟩
abbrev main_call0_call0_call0_v51 : Ref sig .tc := ⟨.hbm, 103, rfl⟩
abbrev main_call0_call0_call0_v52 : Ref sig .tc := ⟨.hbm, 104, rfl⟩
abbrev main_call0_call0_call0_v53 : Ref sig .tc := ⟨.hbm, 105, rfl⟩
abbrev main_call0_call0_call0_v54 : Ref sig .tc := ⟨.hbm, 106, rfl⟩
abbrev main_call0_call0_call0_c_13 : Ref sig .tc := ⟨.hbm, 107, rfl⟩
abbrev main_call0_call0_call0_v55 : Ref sig .tc := ⟨.hbm, 108, rfl⟩
abbrev main_call0_call0_call0_v56 : Ref sig .tc := ⟨.hbm, 109, rfl⟩
abbrev main_call0_call0_call0_c_14 : Ref sig .tc := ⟨.hbm, 110, rfl⟩
abbrev main_call0_call0_call0_v57 : Ref sig .tc := ⟨.hbm, 111, rfl⟩
abbrev main_call0_call0_call0_v58 : Ref sig .tc := ⟨.hbm, 112, rfl⟩
abbrev main_call0_call0_call0_v59 : Ref sig .tc := ⟨.hbm, 113, rfl⟩
abbrev main_call0_call0_call0_v60 : Ref sig .tc := ⟨.hbm, 114, rfl⟩
abbrev main_call0_call0_call0_v61 : Ref sig .tc := ⟨.hbm, 115, rfl⟩
abbrev main_call0_call0_call0_c_15 : Ref sig .tc := ⟨.hbm, 116, rfl⟩
abbrev main_call0_call0_call0_v62 : Ref sig .tc := ⟨.hbm, 117, rfl⟩
abbrev main_call0_call0_call0_v63 : Ref sig .tc := ⟨.hbm, 118, rfl⟩
abbrev main_call0_call0_call0_c_16 : Ref sig .tc := ⟨.hbm, 119, rfl⟩
abbrev main_call0_call0_call0_v64 : Ref sig .tc := ⟨.hbm, 120, rfl⟩
abbrev main_call0_call0_call0_v65 : Ref sig .tc := ⟨.hbm, 121, rfl⟩
abbrev main_call0_call0_call0_v66 : Ref sig .tc := ⟨.hbm, 122, rfl⟩
abbrev main_call0_call0_call0_v67 : Ref sig .tc := ⟨.hbm, 123, rfl⟩
abbrev main_call0_call0_call0_v68 : Ref sig .tc := ⟨.hbm, 124, rfl⟩
abbrev main_call0_call0_call0_v69 : Ref sig .tc := ⟨.hbm, 125, rfl⟩
abbrev main_call0_call0_call0_v70 : Ref sig .tc := ⟨.hbm, 126, rfl⟩
abbrev main_call0_call0_call0_v71 : Ref sig .tc := ⟨.hbm, 127, rfl⟩
abbrev main_call0_call0_call0_c_17 : Ref sig .tc := ⟨.hbm, 128, rfl⟩
abbrev main_call0_call0_call0_v72 : Ref sig .tc := ⟨.hbm, 129, rfl⟩
abbrev main_call0_call0_call0_v73 : Ref sig .tc := ⟨.hbm, 130, rfl⟩
abbrev main_call0_call0_call0_v74 : Ref sig .tc := ⟨.hbm, 131, rfl⟩
abbrev main_call0_call0_call0_c_18 : Ref sig .tc := ⟨.hbm, 132, rfl⟩
abbrev main_call0_call0_call0_v75 : Ref sig .tc := ⟨.hbm, 133, rfl⟩
abbrev main_call0_call0_call0_v76 : Ref sig .tc := ⟨.hbm, 134, rfl⟩
abbrev main_call0_call0_call0_c_19 : Ref sig .tc := ⟨.hbm, 135, rfl⟩
abbrev main_call0_call0_call0_v77 : Ref sig .tc := ⟨.hbm, 136, rfl⟩
abbrev main_call0_call0_call0_v78 : Ref sig .tc := ⟨.hbm, 137, rfl⟩
abbrev main_call0_call0_call0_v79 : Ref sig .tc := ⟨.hbm, 138, rfl⟩
abbrev main_call0_call0_call0_v80 : Ref sig .tc := ⟨.hbm, 139, rfl⟩
abbrev main_call0_call0_call0_v81 : Ref sig .tc := ⟨.hbm, 140, rfl⟩
abbrev main_call0_call0_call0_c_20 : Ref sig .tc := ⟨.hbm, 141, rfl⟩
abbrev main_call0_call0_call0_v82 : Ref sig .tc := ⟨.hbm, 142, rfl⟩
abbrev main_call0_call0_call0_v83 : Ref sig .tc := ⟨.hbm, 143, rfl⟩
abbrev main_call0_call0_call0_c_21 : Ref sig .tc := ⟨.hbm, 144, rfl⟩
abbrev main_call0_call0_call0_v84 : Ref sig .tc := ⟨.hbm, 145, rfl⟩
abbrev main_call0_call0_call0_v85 : Ref sig .tc := ⟨.hbm, 146, rfl⟩
abbrev main_call0_call0_call0_v86 : Ref sig .tc := ⟨.hbm, 147, rfl⟩
abbrev main_call0_call0_call0_v87 : Ref sig .tc := ⟨.hbm, 148, rfl⟩
abbrev main_call0_call0_call0_v88 : Ref sig .tc := ⟨.hbm, 149, rfl⟩
abbrev main_call0_call0_call0_c_22 : Ref sig .tc := ⟨.hbm, 150, rfl⟩
abbrev main_call0_call0_call0_v89 : Ref sig .tc := ⟨.hbm, 151, rfl⟩
abbrev main_call0_call0_call0_v90 : Ref sig .tc := ⟨.hbm, 152, rfl⟩
abbrev main_call0_call0_call0_c_23 : Ref sig .tc := ⟨.hbm, 153, rfl⟩
abbrev main_call0_call0_call0_v91 : Ref sig .tc := ⟨.hbm, 154, rfl⟩
abbrev main_call0_call0_call0_v92 : Ref sig .tc := ⟨.hbm, 155, rfl⟩
abbrev main_call0_call0_call0_v93 : Ref sig .tc := ⟨.hbm, 156, rfl⟩
abbrev main_call0_call0_call0_v94 : Ref sig .tc := ⟨.hbm, 157, rfl⟩
abbrev main_call0_call0_call0_v95 : Ref sig .tc := ⟨.hbm, 158, rfl⟩
abbrev main_call0_call0_call0_c_24 : Ref sig .tc := ⟨.hbm, 159, rfl⟩
abbrev main_call0_call0_call0_v96 : Ref sig .tc := ⟨.hbm, 160, rfl⟩
abbrev main_call0_call0_call0_v97 : Ref sig .tc := ⟨.hbm, 161, rfl⟩
abbrev main_call0_call0_call0_c_25 : Ref sig .tc := ⟨.hbm, 162, rfl⟩
abbrev main_call0_call0_call0_v98 : Ref sig .tc := ⟨.hbm, 163, rfl⟩
abbrev main_call0_call0_call0_v99 : Ref sig .tc := ⟨.hbm, 164, rfl⟩
abbrev main_call0_call0_call0_v100 : Ref sig .tc := ⟨.hbm, 165, rfl⟩
abbrev main_call0_call0_call0_v101 : Ref sig .tc := ⟨.hbm, 166, rfl⟩
abbrev main_call0_call0_call0_v102 : Ref sig .tc := ⟨.hbm, 167, rfl⟩
abbrev main_call0_call0_call0_v103 : Ref sig .tc := ⟨.hbm, 168, rfl⟩
abbrev main_call0_call0_call0_v104 : Ref sig .tc := ⟨.hbm, 169, rfl⟩
abbrev main_call0_call0_call0_v105 : Ref sig .tc := ⟨.hbm, 170, rfl⟩
abbrev main_call0_call0_call0_c_26 : Ref sig .tc := ⟨.hbm, 171, rfl⟩
abbrev main_call0_call0_call0_v106 : Ref sig .tc := ⟨.hbm, 172, rfl⟩
abbrev main_call0_call0_call0_v107 : Ref sig .tc := ⟨.hbm, 173, rfl⟩
abbrev main_call0_call0_call0_v108 : Ref sig .tc := ⟨.hbm, 174, rfl⟩
abbrev main_call0_call0_call0_c_27 : Ref sig .tc := ⟨.hbm, 175, rfl⟩
abbrev main_call0_call0_call0_v109 : Ref sig .tc := ⟨.hbm, 176, rfl⟩
abbrev main_call0_call0_call0_v110 : Ref sig .tc := ⟨.hbm, 177, rfl⟩
abbrev main_call0_call0_call0_c_28 : Ref sig .tc := ⟨.hbm, 178, rfl⟩
abbrev main_call0_call0_call0_v111 : Ref sig .tc := ⟨.hbm, 179, rfl⟩
abbrev main_call0_call0_call0_v112 : Ref sig .tc := ⟨.hbm, 180, rfl⟩
abbrev main_call0_call0_call0_v113 : Ref sig .tc := ⟨.hbm, 181, rfl⟩
abbrev main_call0_call0_call0_v114 : Ref sig .tc := ⟨.hbm, 182, rfl⟩
abbrev main_call0_call0_call0_v115 : Ref sig .tc := ⟨.hbm, 183, rfl⟩
abbrev main_call0_call0_call0_c_29 : Ref sig .tc := ⟨.hbm, 184, rfl⟩
abbrev main_call0_call0_call0_v116 : Ref sig .tc := ⟨.hbm, 185, rfl⟩
abbrev main_call0_call0_call0_v117 : Ref sig .tc := ⟨.hbm, 186, rfl⟩
abbrev main_call0_call0_call0_c_30 : Ref sig .tc := ⟨.hbm, 187, rfl⟩
abbrev main_call0_call0_call0_v118 : Ref sig .tc := ⟨.hbm, 188, rfl⟩
abbrev main_call0_call0_call0_v119 : Ref sig .tc := ⟨.hbm, 189, rfl⟩
abbrev main_call0_call0_call0_v120 : Ref sig .tc := ⟨.hbm, 190, rfl⟩
abbrev main_call0_call0_call0_v121 : Ref sig .tc := ⟨.hbm, 191, rfl⟩
abbrev main_call0_call0_call0_v122 : Ref sig .tc := ⟨.hbm, 192, rfl⟩
abbrev main_call0_call0_call0_c_31 : Ref sig .tc := ⟨.hbm, 193, rfl⟩
abbrev main_call0_call0_call0_v123 : Ref sig .tc := ⟨.hbm, 194, rfl⟩
abbrev main_call0_call0_call0_v124 : Ref sig .tc := ⟨.hbm, 195, rfl⟩
abbrev main_call0_call0_call0_c_32 : Ref sig .tc := ⟨.hbm, 196, rfl⟩
abbrev main_call0_call0_call0_v125 : Ref sig .tc := ⟨.hbm, 197, rfl⟩
abbrev main_call0_call0_call0_v126 : Ref sig .tc := ⟨.hbm, 198, rfl⟩
abbrev main_call0_call0_call0_v127 : Ref sig .tc := ⟨.hbm, 199, rfl⟩
abbrev main_call0_call0_call0_v128 : Ref sig .tc := ⟨.hbm, 200, rfl⟩
abbrev main_call0_call0_call0_v129 : Ref sig .tc := ⟨.hbm, 201, rfl⟩
abbrev main_call0_call0_call0_c_33 : Ref sig .tc := ⟨.hbm, 202, rfl⟩
abbrev main_call0_call0_call0_v130 : Ref sig .tc := ⟨.hbm, 203, rfl⟩
abbrev main_call0_call0_call0_v131 : Ref sig .tc := ⟨.hbm, 204, rfl⟩
abbrev main_call0_call0_call0_c_34 : Ref sig .tc := ⟨.hbm, 205, rfl⟩
abbrev main_call0_call0_call0_v132 : Ref sig .tc := ⟨.hbm, 206, rfl⟩
abbrev main_call0_call0_call0_v133 : Ref sig .tc := ⟨.hbm, 207, rfl⟩
abbrev main_call0_call0_call0_v134 : Ref sig .tc := ⟨.hbm, 208, rfl⟩
abbrev main_call0_call0_call0_v135 : Ref sig .tc := ⟨.hbm, 209, rfl⟩
abbrev main_call0_call0_call0_v136 : Ref sig .tc := ⟨.hbm, 210, rfl⟩
abbrev main_call0_call0_call0_v137 : Ref sig .tc := ⟨.hbm, 211, rfl⟩
abbrev main_call0_call0_call0_v138 : Ref sig .tc := ⟨.hbm, 212, rfl⟩
abbrev main_call0_call0_call0_v139 : Ref sig .tc := ⟨.hbm, 213, rfl⟩
abbrev main_call0_call0_call0_c_35 : Ref sig .tc := ⟨.hbm, 214, rfl⟩
abbrev main_call0_call0_call0_v140 : Ref sig .tc := ⟨.hbm, 215, rfl⟩
abbrev main_call0_call0_call0_v141 : Ref sig .tc := ⟨.hbm, 216, rfl⟩
abbrev main_call0_call0_call0_v142 : Ref sig .tc := ⟨.hbm, 217, rfl⟩
abbrev main_call0_call0_call0_c_36 : Ref sig .tc := ⟨.hbm, 218, rfl⟩
abbrev main_call0_call0_call0_v143 : Ref sig .tc := ⟨.hbm, 219, rfl⟩
abbrev main_call0_call0_call0_v144 : Ref sig .tc := ⟨.hbm, 220, rfl⟩
abbrev main_call0_call0_call0_c_37 : Ref sig .tc := ⟨.hbm, 221, rfl⟩
abbrev main_call0_call0_call0_v145 : Ref sig .tc := ⟨.hbm, 222, rfl⟩
abbrev main_call0_call0_call0_v146 : Ref sig .tc := ⟨.hbm, 223, rfl⟩
abbrev main_call0_call0_call0_v147 : Ref sig .tc := ⟨.hbm, 224, rfl⟩
abbrev main_call0_call0_call0_v148 : Ref sig .tc := ⟨.hbm, 225, rfl⟩
abbrev main_call0_call0_call0_v149 : Ref sig .tc := ⟨.hbm, 226, rfl⟩
abbrev main_call0_call0_call0_c_38 : Ref sig .tc := ⟨.hbm, 227, rfl⟩
abbrev main_call0_call0_call0_v150 : Ref sig .tc := ⟨.hbm, 228, rfl⟩
abbrev main_call0_call0_call0_v151 : Ref sig .tc := ⟨.hbm, 229, rfl⟩
abbrev main_call0_call0_call0_c_39 : Ref sig .tc := ⟨.hbm, 230, rfl⟩
abbrev main_call0_call0_call0_v152 : Ref sig .tc := ⟨.hbm, 231, rfl⟩
abbrev main_call0_call0_call0_v153 : Ref sig .tc := ⟨.hbm, 232, rfl⟩
abbrev main_call0_call0_call0_v154 : Ref sig .tc := ⟨.hbm, 233, rfl⟩
abbrev main_call0_call0_call0_v155 : Ref sig .tc := ⟨.hbm, 234, rfl⟩
abbrev main_call0_call0_call0_v156 : Ref sig .tc := ⟨.hbm, 235, rfl⟩
abbrev main_call0_call0_call0_c_40 : Ref sig .tc := ⟨.hbm, 236, rfl⟩
abbrev main_call0_call0_call0_v157 : Ref sig .tc := ⟨.hbm, 237, rfl⟩
abbrev main_call0_call0_call0_v158 : Ref sig .tc := ⟨.hbm, 238, rfl⟩
abbrev main_call0_call0_call0_c_41 : Ref sig .tc := ⟨.hbm, 239, rfl⟩
abbrev main_call0_call0_call0_v159 : Ref sig .tc := ⟨.hbm, 240, rfl⟩
abbrev main_call0_call0_call0_v160 : Ref sig .tc := ⟨.hbm, 241, rfl⟩
abbrev main_call0_call0_call0_v161 : Ref sig .tc := ⟨.hbm, 242, rfl⟩
abbrev main_call0_call0_call0_v162 : Ref sig .tc := ⟨.hbm, 243, rfl⟩
abbrev main_call0_call0_call0_v163 : Ref sig .tc := ⟨.hbm, 244, rfl⟩
abbrev main_call0_call0_call0_c_42 : Ref sig .tc := ⟨.hbm, 245, rfl⟩
abbrev main_call0_call0_call0_v164 : Ref sig .tc := ⟨.hbm, 246, rfl⟩
abbrev main_call0_call0_call0_v165 : Ref sig .tc := ⟨.hbm, 247, rfl⟩
abbrev main_call0_call0_call0_c_43 : Ref sig .tc := ⟨.hbm, 248, rfl⟩
abbrev main_call0_call0_call0_v166 : Ref sig .tc := ⟨.hbm, 249, rfl⟩
abbrev main_call0_call0_call0_v167 : Ref sig .tc := ⟨.hbm, 250, rfl⟩
abbrev main_call0_call0_call0_v168 : Ref sig .tc := ⟨.hbm, 251, rfl⟩
abbrev main_call0_call0_call0_v169 : Ref sig .tc := ⟨.hbm, 252, rfl⟩
abbrev main_call0_call0_call0_v170 : Ref sig .tc := ⟨.hbm, 253, rfl⟩
abbrev main_call0_call0_v18_0 : Ref sig .tc := ⟨.hbm, 254, rfl⟩
abbrev main_call0_call0_call0_v172 : Ref sig .tc := ⟨.hbm, 255, rfl⟩
abbrev main_call0_call0_call0_v173 : Ref sig .tc := ⟨.hbm, 256, rfl⟩
abbrev main_call0_call0_call0_c_44 : Ref sig .tc := ⟨.hbm, 257, rfl⟩
abbrev main_call0_call0_call0_v174 : Ref sig .tc := ⟨.hbm, 258, rfl⟩
abbrev main_call0_call0_v18_1 : Ref sig .tc := ⟨.hbm, 259, rfl⟩
abbrev main_call0_call0_v19 : Ref sig .tc := ⟨.hbm, 260, rfl⟩
abbrev main_call0_call0_c_2 : Ref sig .tc := ⟨.hbm, 261, rfl⟩
abbrev main_call0_call0_v20 : Ref sig .tc := ⟨.hbm, 262, rfl⟩
abbrev main_call0_call0_v21 : Ref sig .tc := ⟨.hbm, 263, rfl⟩
abbrev main_call0_call0_c_3 : Ref sig .tc := ⟨.hbm, 264, rfl⟩
abbrev main_call0_call0_v22 : Ref sig .tc := ⟨.hbm, 265, rfl⟩
abbrev main_call0_call0_v23 : Ref sig .tc := ⟨.hbm, 266, rfl⟩
abbrev main_call0_call0_v24 : Ref sig .tc := ⟨.hbm, 267, rfl⟩
abbrev main_call0_call0_cst : Ref sig .tc := ⟨.hbm, 268, rfl⟩
abbrev main_call0_call0_v25 : Ref sig .tc := ⟨.hbm, 269, rfl⟩
abbrev main_call0_call0_v26 : Ref sig .tc := ⟨.hbm, 270, rfl⟩
abbrev main_call0_call0_v27 : Ref sig .tc := ⟨.hbm, 271, rfl⟩
abbrev main_call0_call0_v28 : Ref sig .tc := ⟨.hbm, 272, rfl⟩
abbrev main_call0_call0_v29 : Ref sig .tc := ⟨.hbm, 273, rfl⟩
abbrev main_call0_call0_v30 : Ref sig .tc := ⟨.hbm, 274, rfl⟩
abbrev main_call0_call0_v31 : Ref sig .tc := ⟨.hbm, 275, rfl⟩
abbrev main_call0_call0_v32 : Ref sig .tc := ⟨.hbm, 276, rfl⟩
abbrev main_call0_v0 : Ref sig .tc := ⟨.hbm, 277, rfl⟩
abbrev main_call0_v1 : Ref sig .tc := ⟨.hbm, 278, rfl⟩
abbrev main_call0_v2 : Ref sig .tc := ⟨.hbm, 279, rfl⟩
abbrev main_call0_v3 : Ref sig .tc := ⟨.hbm, 280, rfl⟩
abbrev main_v8 : Ref sig .tc := ⟨.hbm, 281, rfl⟩
abbrev main_v9 : Ref sig .tc := ⟨.hbm, 282, rfl⟩
abbrev main_v10 : Ref sig .tc := ⟨.hbm, 283, rfl⟩
abbrev main_v11 : Ref sig .tc := ⟨.hbm, 284, rfl⟩
abbrev main_v12 : Ref sig .tc := ⟨.hbm, 285, rfl⟩
abbrev main_v13 : Ref sig .tc := ⟨.hbm, 286, rfl⟩
abbrev main_v14 : Ref sig .tc := ⟨.hbm, 287, rfl⟩
abbrev main_v15 : Ref sig .tc := ⟨.hbm, 288, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_65 : BitVec 32 := 0#32
  let c64_i32_66 : BitVec 32 := 64#32
  let v192 : BitVec 32 := Scalar.addi c0_i32_65 c64_i32_66
  let c1_i32_67 : BitVec 32 := 1#32
  ⟨c0_i32_65, v192, c1_i32_67⟩
@[reducible] def k0_t2_loop : Scf.Loop 32 :=
  let c0_i32_68 : BitVec 32 := 0#32
  let c64_i32_69 : BitVec 32 := 64#32
  let v195 : BitVec 32 := Scalar.addi c0_i32_68 c64_i32_69
  let c1_i32_70 : BitVec 32 := 1#32
  ⟨c0_i32_68, v195, c1_i32_70⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x200x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S128x100000 : Shape := ⟨2, ![128, 100000]⟩
abbrev S128 : Shape := ⟨1, ![128]⟩
abbrev S128x1 : Shape := ⟨2, ![128, 1]⟩
abbrev S_ : Shape := ⟨0, ![]⟩
abbrev S128x100000x1 : Shape := ⟨3, ![128, 100000, 1]⟩
abbrev S1 : Shape := ⟨1, ![1]⟩
abbrev S1x1x1 : Shape := ⟨3, ![1, 1, 1]⟩
abbrev S100000 : Shape := ⟨1, ![100000]⟩
abbrev S1x100000 : Shape := ⟨2, ![1, 100000]⟩
abbrev S2 : Shape := ⟨1, ![2]⟩
abbrev S1x1 : Shape := ⟨2, ![1, 1]⟩
abbrev S128x1x1 : Shape := ⟨3, ![128, 1, 1]⟩

abbrev nBuf : Space → Nat
  | .hbm => 378
  | .vmem => 0
  | .smem => 0
  | _ => 0

abbrev hbmTy0_0 (i : Nat) : BufTy := match i % 128 with
  | 0 => ⟨S128x100000, .f32⟩
  | 1 => ⟨S128, .f32⟩
  | 2 => ⟨S128, .f32⟩
  | 3 => ⟨S128, .i32⟩
  | 4 => ⟨S128x1, .f32⟩
  | 5 => ⟨S128x100000, .f32⟩
  | 6 => ⟨S128x100000, .f32⟩
  | 7 => ⟨S128x100000, .f32⟩
  | 8 => ⟨S128x100000, .i32⟩
  | 9 => ⟨S128x100000, .f32⟩
  | 10 => ⟨S128x100000, .i32⟩
  | 11 => ⟨S_, .i32⟩
  | 12 => ⟨S128x100000, .i32⟩
  | 13 => ⟨S128x100000, .i1⟩
  | 14 => ⟨S_, .i32⟩
  | 15 => ⟨S128x100000, .i32⟩
  | 16 => ⟨S128x100000, .i32⟩
  | 17 => ⟨S128x100000, .i32⟩
  | 18 => ⟨S128x100000x1, .i32⟩
  | 19 => ⟨S1, .i32⟩
  | 20 => ⟨S_, .i32⟩
  | 21 => ⟨S128x100000x1, .i32⟩
  | 22 => ⟨S128x100000x1, .i1⟩
  | 23 => ⟨S1x1x1, .i32⟩
  | 24 => ⟨S128x100000x1, .i32⟩
  | 25 => ⟨S128x100000x1, .i1⟩
  | 26 => ⟨S128x100000x1, .i1⟩
  | 27 => ⟨S_, .i1⟩
  | 28 => ⟨S128x100000, .i1⟩
  | 29 => ⟨S128x100000, .f32⟩
  | 30 => ⟨S_, .f32⟩
  | 31 => ⟨S128x100000, .f32⟩
  | 32 => ⟨S128x100000, .f32⟩
  | 33 => ⟨S100000, .i32⟩
  | 34 => ⟨S1x100000, .i32⟩
  | 35 => ⟨S_, .i32⟩
  | 36 => ⟨S128, .i32⟩
  | 37 => ⟨S128, .i32⟩
  | 38 => ⟨S128x1, .i32⟩
  | 39 => ⟨S128x100000, .i32⟩
  | 40 => ⟨S128x100000, .i32⟩
  | 41 => ⟨S128x100000, .i1⟩
  | 42 => ⟨S_, .f32⟩
  | 43 => ⟨S_, .f32⟩
  | 44 => ⟨S128x100000, .f32⟩
  | 45 => ⟨S128x100000, .f32⟩
  | 46 => ⟨S_, .f32⟩
  | 47 => ⟨S128, .f32⟩
  | 48 => ⟨S_, .f32⟩
  | 49 => ⟨S128, .f32⟩
  | 50 => ⟨S128, .f32⟩
  | 51 => ⟨S128x1, .f32⟩
  | 52 => ⟨S128x100000, .f32⟩
  | 53 => ⟨S128x100000, .f32⟩
  | 54 => ⟨S128x100000, .f32⟩
  | 55 => ⟨S_, .f32⟩
  | 56 => ⟨S128, .f32⟩
  | 57 => ⟨S128x1, .f32⟩
  | 58 => ⟨S128x100000, .f32⟩
  | 59 => ⟨S128x100000, .f32⟩
  | 60 => ⟨S_, .f32⟩
  | 61 => ⟨S_, .f32⟩
  | 62 => ⟨S128x100000, .f32⟩
  | 63 => ⟨S128x100000, .f32⟩
  | 64 => ⟨S128x1, .f32⟩
  | 65 => ⟨S128x100000, .f32⟩
  | 66 => ⟨S128x100000, .i1⟩
  | 67 => ⟨S_, .f32⟩
  | 68 => ⟨S_, .f32⟩
  | 69 => ⟨S128x100000, .f32⟩
  | 70 => ⟨S128x100000, .f32⟩
  | 71 => ⟨S_, .i32⟩
  | 72 => ⟨S_, .i32⟩
  | 73 => ⟨S_, .i32⟩
  | 74 => ⟨S_, .i32⟩
  | 75 => ⟨S1, .i32⟩
  | 76 => ⟨S_, .i32⟩
  | 77 => ⟨S_, .i32⟩
  | 78 => ⟨S_, .i32⟩
  | 79 => ⟨S1, .i32⟩
  | 80 => ⟨S2, .i32⟩
  | 81 => ⟨S_, .f32⟩
  | 82 => ⟨S_, .f32⟩
  | 83 => ⟨S_, .f32⟩
  | 84 => ⟨S1x1, .f32⟩
  | 85 => ⟨S1x1, .f32⟩
  | 86 => ⟨S1, .i32⟩
  | 87 => ⟨S_, .i32⟩
  | 88 => ⟨S1, .i32⟩
  | 89 => ⟨S_, .i32⟩
  | 90 => ⟨S128x100000, .i64⟩
  | 91 => ⟨S128x100000, .i64⟩
  | 92 => ⟨S_, .i64⟩
  | 93 => ⟨S128x100000, .i64⟩
  | 94 => ⟨S128x100000, .i64⟩
  | 95 => ⟨S_, .i64⟩
  | 96 => ⟨S128x100000, .i64⟩
  | 97 => ⟨S128x100000, .i64⟩
  | 98 => ⟨S128x100000, .i64⟩
  | 99 => ⟨S_, .i64⟩
  | 100 => ⟨S128x100000, .i64⟩
  | 101 => ⟨S128x100000, .i64⟩
  | 102 => ⟨S128x100000, .i32⟩
  | 103 => ⟨S128x100000, .i32⟩
  | 104 => ⟨S_, .i32⟩
  | 105 => ⟨S_, .i32⟩
  | 106 => ⟨S_, .i32⟩
  | 107 => ⟨S128x100000, .i32⟩
  | 108 => ⟨S128x100000, .i32⟩
  | 109 => ⟨S128x100000, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S128x100000, .i32⟩
  | 119 => ⟨S128x100000, .i32⟩
  | 120 => ⟨S128x100000, .i32⟩
  | 121 => ⟨S_, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S128x100000, .i32⟩
  | 34 => ⟨S128x100000, .i32⟩
  | 35 => ⟨S128x100000, .i32⟩
  | 36 => ⟨S_, .i32⟩
  | 37 => ⟨S128x100000, .i32⟩
  | 38 => ⟨S128x100000, .i32⟩
  | 39 => ⟨S_, .i32⟩
  | 40 => ⟨S128x100000, .i32⟩
  | 41 => ⟨S128x100000, .i32⟩
  | 42 => ⟨S128x100000, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S128x100000, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S128x100000, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .f32⟩
  | 78 => ⟨S_, .f32⟩
  | 79 => ⟨S128x100000, .f32⟩
  | 80 => ⟨S128x100000, .f32⟩
  | 81 => ⟨S1x1, .f32⟩
  | 82 => ⟨S128x100000, .f32⟩
  | 83 => ⟨S128x100000, .f32⟩
  | 84 => ⟨S128x100000, .f32⟩
  | 85 => ⟨S128x100000, .f32⟩
  | 86 => ⟨S128x100000, .f32⟩
  | 87 => ⟨S128x100000, .f32⟩
  | 88 => ⟨S128x100000, .f32⟩
  | 89 => ⟨S128x100000, .f32⟩
  | 90 => ⟨S128x100000, .f32⟩
  | 91 => ⟨S128x100000, .f32⟩
  | 92 => ⟨S128x100000, .f32⟩
  | 93 => ⟨S128x100000, .i32⟩
  | 94 => ⟨S_, .f32⟩
  | 95 => ⟨S_, .i32⟩
  | 96 => ⟨S128, .f32⟩
  | 97 => ⟨S128, .i32⟩
  | 98 => ⟨S128x1, .i32⟩
  | 99 => ⟨S_, .i32⟩
  | 100 => ⟨S128x1, .i32⟩
  | 101 => ⟨S128x1, .i1⟩
  | 102 => ⟨S_, .i32⟩
  | 103 => ⟨S128x1, .i32⟩
  | 104 => ⟨S128x1, .i32⟩
  | 105 => ⟨S128x1, .i32⟩
  | 106 => ⟨S128x1x1, .i32⟩
  | 107 => ⟨S1, .i32⟩
  | 108 => ⟨S_, .i32⟩
  | 109 => ⟨S128x1x1, .i32⟩
  | 110 => ⟨S128x1x1, .i1⟩
  | 111 => ⟨S1x1x1, .i32⟩
  | 112 => ⟨S128x1x1, .i32⟩
  | 113 => ⟨S128x1x1, .i1⟩
  | 114 => ⟨S128x1x1, .i1⟩
  | 115 => ⟨S_, .i1⟩
  | 116 => ⟨S128x1, .i1⟩
  | 117 => ⟨S128x1, .i32⟩
  | 118 => ⟨S_, .i32⟩
  | 119 => ⟨S128x1, .i32⟩
  | 120 => ⟨S128x1, .i32⟩
  | 121 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1_0 : Ref sig .tc := ⟨.hbm, 9, rfl⟩
abbrev main_v4 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_cst : Ref sig .tc := ⟨.hbm, 30, rfl⟩
abbrev main_call1_v14 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst : Ref sig .tc := ⟨.hbm, 42, rfl⟩
abbrev main_call2_v0 : Ref sig .tc := ⟨.hbm, 43, rfl⟩
abbrev main_call2_v1 : Ref sig .tc := ⟨.hbm, 44, rfl⟩
abbrev main_v14 : Ref sig .tc := ⟨.hbm, 45, rfl⟩
abbrev main_cst_0 : Ref sig .tc := ⟨.hbm, 46, rfl⟩
abbrev main_v15 : Ref sig .tc := ⟨.hbm, 47, rfl⟩
abbrev main_cst_1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_call3_call0_cst : Ref sig .tc := ⟨.hbm, 60, rfl⟩
abbrev main_call3_call0_v0 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_3 : Ref sig .tc := ⟨.hbm, 67, rfl⟩
abbrev main_call4_v0 : Ref sig .tc := ⟨.hbm, 68, rfl⟩
abbrev main_call4_v1 : Ref sig .tc := ⟨.hbm, 69, rfl⟩
abbrev main_v31 : Ref sig .tc := ⟨.hbm, 70, rfl⟩
abbrev main_c_4 : Ref sig .tc := ⟨.hbm, 71, rfl⟩
abbrev main_c_5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_c_6 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_call5_cst : Ref sig .tc := ⟨.hbm, 81, rfl⟩
abbrev main_call5_cst_0 : Ref sig .tc := ⟨.hbm, 82, rfl⟩
abbrev main_call5_call0_v0 : Ref sig .tc := ⟨.hbm, 83, rfl⟩
abbrev main_call5_call0_v1 : Ref sig .tc := ⟨.hbm, 84, rfl⟩
abbrev main_call5_call0_v2 : Ref sig .tc := ⟨.hbm, 85, rfl⟩
abbrev main_call5_call0_v3 : Ref sig .tc := ⟨.hbm, 86, rfl⟩
abbrev main_call5_call0_v4 : Ref sig .tc := ⟨.hbm, 87, rfl⟩
abbrev main_call5_call0_v5 : Ref sig .tc := ⟨.hbm, 88, rfl⟩
abbrev main_call5_call0_v6 : Ref sig .tc := ⟨.hbm, 89, rfl⟩
abbrev main_call5_call0_v7 : Ref sig .tc := ⟨.hbm, 90, rfl⟩
abbrev main_call5_call0_v8 : Ref sig .tc := ⟨.hbm, 91, rfl⟩
abbrev main_call5_call0_c : Ref sig .tc := ⟨.hbm, 92, rfl⟩
abbrev main_call5_call0_v9 : Ref sig .tc := ⟨.hbm, 93, rfl⟩
abbrev main_call5_call0_v10 : Ref sig .tc := ⟨.hbm, 94, rfl⟩
abbrev main_call5_call0_c_0 : Ref sig .tc := ⟨.hbm, 95, rfl⟩
abbrev main_call5_call0_v11 : Ref sig .tc := ⟨.hbm, 96, rfl⟩
abbrev main_call5_call0_v12 : Ref sig .tc := ⟨.hbm, 97, rfl⟩
abbrev main_call5_call0_v13 : Ref sig .tc := ⟨.hbm, 98, rfl⟩
abbrev main_call5_call0_c_1 : Ref sig .tc := ⟨.hbm, 99, rfl⟩
abbrev main_call5_call0_v14 : Ref sig .tc := ⟨.hbm, 100, rfl⟩
abbrev main_call5_call0_v15 : Ref sig .tc := ⟨.hbm, 101, rfl⟩
abbrev main_call5_call0_v16 : Ref sig .tc := ⟨.hbm, 102, rfl⟩
abbrev main_call5_call0_v17 : Ref sig .tc := ⟨.hbm, 103, rfl⟩
abbrev main_call5_call0_call0_v0 : Ref sig .tc := ⟨.hbm, 104, rfl⟩
abbrev main_call5_call0_call0_c : Ref sig .tc := ⟨.hbm, 105, rfl⟩
abbrev main_call5_call0_call0_v1 : Ref sig .tc := ⟨.hbm, 106, rfl⟩
abbrev main_call5_call0_call0_v2 : Ref sig .tc := ⟨.hbm, 107, rfl⟩
abbrev main_call5_call0_call0_v3 : Ref sig .tc := ⟨.hbm, 108, rfl⟩
abbrev main_call5_call0_call0_v4 : Ref sig .tc := ⟨.hbm, 109, rfl⟩
abbrev main_call5_call0_call0_v5 : Ref sig .tc := ⟨.hbm, 110, rfl⟩
abbrev main_call5_call0_call0_v6 : Ref sig .tc := ⟨.hbm, 111, rfl⟩
abbrev main_call5_call0_call0_c_0 : Ref sig .tc := ⟨.hbm, 112, rfl⟩
abbrev main_call5_call0_call0_v7 : Ref sig .tc := ⟨.hbm, 113, rfl⟩
abbrev main_call5_call0_call0_v8 : Ref sig .tc := ⟨.hbm, 114, rfl⟩
abbrev main_call5_call0_call0_c_1 : Ref sig .tc := ⟨.hbm, 115, rfl⟩
abbrev main_call5_call0_call0_v9 : Ref sig .tc := ⟨.hbm, 116, rfl⟩
abbrev main_call5_call0_call0_v10 : Ref sig .tc := ⟨.hbm, 117, rfl⟩
abbrev main_call5_call0_call0_v11 : Ref sig .tc := ⟨.hbm, 118, rfl⟩
abbrev main_call5_call0_call0_v12 : Ref sig .tc := ⟨.hbm, 119, rfl⟩
abbrev main_call5_call0_call0_v13 : Ref sig .tc := ⟨.hbm, 120, rfl⟩
abbrev main_call5_call0_call0_c_2 : Ref sig .tc := ⟨.hbm, 121, rfl⟩
abbrev main_call5_call0_call0_v14 : Ref sig .tc := ⟨.hbm, 122, rfl⟩
abbrev main_call5_call0_call0_v15 : Ref sig .tc := ⟨.hbm, 123, rfl⟩
abbrev main_call5_call0_call0_c_3 : Ref sig .tc := ⟨.hbm, 124, rfl⟩
abbrev main_call5_call0_call0_v16 : Ref sig .tc := ⟨.hbm, 125, rfl⟩
abbrev main_call5_call0_call0_v17 : Ref sig .tc := ⟨.hbm, 126, rfl⟩
abbrev main_call5_call0_call0_v18 : Ref sig .tc := ⟨.hbm, 127, rfl⟩
abbrev main_call5_call0_call0_v19 : Ref sig .tc := ⟨.hbm, 128, rfl⟩
abbrev main_call5_call0_call0_v20 : Ref sig .tc := ⟨.hbm, 129, rfl⟩
abbrev main_call5_call0_call0_c_4 : Ref sig .tc := ⟨.hbm, 130, rfl⟩
abbrev main_call5_call0_call0_v21 : Ref sig .tc := ⟨.hbm, 131, rfl⟩
abbrev main_call5_call0_call0_v22 : Ref sig .tc := ⟨.hbm, 132, rfl⟩
abbrev main_call5_call0_call0_c_5 : Ref sig .tc := ⟨.hbm, 133, rfl⟩
abbrev main_call5_call0_call0_v23 : Ref sig .tc := ⟨.hbm, 134, rfl⟩
abbrev main_call5_call0_call0_v24 : Ref sig .tc := ⟨.hbm, 135, rfl⟩
abbrev main_call5_call0_call0_v25 : Ref sig .tc := ⟨.hbm, 136, rfl⟩
abbrev main_call5_call0_call0_v26 : Ref sig .tc := ⟨.hbm, 137, rfl⟩
abbrev main_call5_call0_call0_v27 : Ref sig .tc := ⟨.hbm, 138, rfl⟩
abbrev main_call5_call0_call0_c_6 : Ref sig .tc := ⟨.hbm, 139, rfl⟩
abbrev main_call5_call0_call0_v28 : Ref sig .tc := ⟨.hbm, 140, rfl⟩
abbrev main_call5_call0_call0_v29 : Ref sig .tc := ⟨.hbm, 141, rfl⟩
abbrev main_call5_call0_call0_c_7 : Ref sig .tc := ⟨.hbm, 142, rfl⟩
abbrev main_call5_call0_call0_v30 : Ref sig .tc := ⟨.hbm, 143, rfl⟩
abbrev main_call5_call0_call0_v31 : Ref sig .tc := ⟨.hbm, 144, rfl⟩
abbrev main_call5_call0_call0_v32 : Ref sig .tc := ⟨.hbm, 145, rfl⟩
abbrev main_call5_call0_call0_v33 : Ref sig .tc := ⟨.hbm, 146, rfl⟩
abbrev main_call5_call0_call0_v34 : Ref sig .tc := ⟨.hbm, 147, rfl⟩
abbrev main_call5_call0_call0_v35 : Ref sig .tc := ⟨.hbm, 148, rfl⟩
abbrev main_call5_call0_call0_v36 : Ref sig .tc := ⟨.hbm, 149, rfl⟩
abbrev main_call5_call0_call0_v37 : Ref sig .tc := ⟨.hbm, 150, rfl⟩
abbrev main_call5_call0_call0_c_8 : Ref sig .tc := ⟨.hbm, 151, rfl⟩
abbrev main_call5_call0_call0_v38 : Ref sig .tc := ⟨.hbm, 152, rfl⟩
abbrev main_call5_call0_call0_v39 : Ref sig .tc := ⟨.hbm, 153, rfl⟩
abbrev main_call5_call0_call0_v40 : Ref sig .tc := ⟨.hbm, 154, rfl⟩
abbrev main_call5_call0_call0_c_9 : Ref sig .tc := ⟨.hbm, 155, rfl⟩
abbrev main_call5_call0_call0_v41 : Ref sig .tc := ⟨.hbm, 156, rfl⟩
abbrev main_call5_call0_call0_v42 : Ref sig .tc := ⟨.hbm, 157, rfl⟩
abbrev main_call5_call0_call0_c_10 : Ref sig .tc := ⟨.hbm, 158, rfl⟩
abbrev main_call5_call0_call0_v43 : Ref sig .tc := ⟨.hbm, 159, rfl⟩
abbrev main_call5_call0_call0_v44 : Ref sig .tc := ⟨.hbm, 160, rfl⟩
abbrev main_call5_call0_call0_v45 : Ref sig .tc := ⟨.hbm, 161, rfl⟩
abbrev main_call5_call0_call0_v46 : Ref sig .tc := ⟨.hbm, 162, rfl⟩
abbrev main_call5_call0_call0_v47 : Ref sig .tc := ⟨.hbm, 163, rfl⟩
abbrev main_call5_call0_call0_c_11 : Ref sig .tc := ⟨.hbm, 164, rfl⟩
abbrev main_call5_call0_call0_v48 : Ref sig .tc := ⟨.hbm, 165, rfl⟩
abbrev main_call5_call0_call0_v49 : Ref sig .tc := ⟨.hbm, 166, rfl⟩
abbrev main_call5_call0_call0_c_12 : Ref sig .tc := ⟨.hbm, 167, rfl⟩
abbrev main_call5_call0_call0_v50 : Ref sig .tc := ⟨.hbm, 168, rfl⟩
abbrev main_call5_call0_call0_v51 : Ref sig .tc := ⟨.hbm, 169, rfl⟩
abbrev main_call5_call0_call0_v52 : Ref sig .tc := ⟨.hbm, 170, rfl⟩
abbrev main_call5_call0_call0_v53 : Ref sig .tc := ⟨.hbm, 171, rfl⟩
abbrev main_call5_call0_call0_v54 : Ref sig .tc := ⟨.hbm, 172, rfl⟩
abbrev main_call5_call0_call0_c_13 : Ref sig .tc := ⟨.hbm, 173, rfl⟩
abbrev main_call5_call0_call0_v55 : Ref sig .tc := ⟨.hbm, 174, rfl⟩
abbrev main_call5_call0_call0_v56 : Ref sig .tc := ⟨.hbm, 175, rfl⟩
abbrev main_call5_call0_call0_c_14 : Ref sig .tc := ⟨.hbm, 176, rfl⟩
abbrev main_call5_call0_call0_v57 : Ref sig .tc := ⟨.hbm, 177, rfl⟩
abbrev main_call5_call0_call0_v58 : Ref sig .tc := ⟨.hbm, 178, rfl⟩
abbrev main_call5_call0_call0_v59 : Ref sig .tc := ⟨.hbm, 179, rfl⟩
abbrev main_call5_call0_call0_v60 : Ref sig .tc := ⟨.hbm, 180, rfl⟩
abbrev main_call5_call0_call0_v61 : Ref sig .tc := ⟨.hbm, 181, rfl⟩
abbrev main_call5_call0_call0_c_15 : Ref sig .tc := ⟨.hbm, 182, rfl⟩
abbrev main_call5_call0_call0_v62 : Ref sig .tc := ⟨.hbm, 183, rfl⟩
abbrev main_call5_call0_call0_v63 : Ref sig .tc := ⟨.hbm, 184, rfl⟩
abbrev main_call5_call0_call0_c_16 : Ref sig .tc := ⟨.hbm, 185, rfl⟩
abbrev main_call5_call0_call0_v64 : Ref sig .tc := ⟨.hbm, 186, rfl⟩
abbrev main_call5_call0_call0_v65 : Ref sig .tc := ⟨.hbm, 187, rfl⟩
abbrev main_call5_call0_call0_v66 : Ref sig .tc := ⟨.hbm, 188, rfl⟩
abbrev main_call5_call0_call0_v67 : Ref sig .tc := ⟨.hbm, 189, rfl⟩
abbrev main_call5_call0_call0_v68 : Ref sig .tc := ⟨.hbm, 190, rfl⟩
abbrev main_call5_call0_call0_v69 : Ref sig .tc := ⟨.hbm, 191, rfl⟩
abbrev main_call5_call0_call0_v70 : Ref sig .tc := ⟨.hbm, 192, rfl⟩
abbrev main_call5_call0_call0_v71 : Ref sig .tc := ⟨.hbm, 193, rfl⟩
abbrev main_call5_call0_call0_c_17 : Ref sig .tc := ⟨.hbm, 194, rfl⟩
abbrev main_call5_call0_call0_v72 : Ref sig .tc := ⟨.hbm, 195, rfl⟩
abbrev main_call5_call0_call0_v73 : Ref sig .tc := ⟨.hbm, 196, rfl⟩
abbrev main_call5_call0_call0_v74 : Ref sig .tc := ⟨.hbm, 197, rfl⟩
abbrev main_call5_call0_call0_c_18 : Ref sig .tc := ⟨.hbm, 198, rfl⟩
abbrev main_call5_call0_call0_v75 : Ref sig .tc := ⟨.hbm, 199, rfl⟩
abbrev main_call5_call0_call0_v76 : Ref sig .tc := ⟨.hbm, 200, rfl⟩
abbrev main_call5_call0_call0_c_19 : Ref sig .tc := ⟨.hbm, 201, rfl⟩
abbrev main_call5_call0_call0_v77 : Ref sig .tc := ⟨.hbm, 202, rfl⟩
abbrev main_call5_call0_call0_v78 : Ref sig .tc := ⟨.hbm, 203, rfl⟩
abbrev main_call5_call0_call0_v79 : Ref sig .tc := ⟨.hbm, 204, rfl⟩
abbrev main_call5_call0_call0_v80 : Ref sig .tc := ⟨.hbm, 205, rfl⟩
abbrev main_call5_call0_call0_v81 : Ref sig .tc := ⟨.hbm, 206, rfl⟩
abbrev main_call5_call0_call0_c_20 : Ref sig .tc := ⟨.hbm, 207, rfl⟩
abbrev main_call5_call0_call0_v82 : Ref sig .tc := ⟨.hbm, 208, rfl⟩
abbrev main_call5_call0_call0_v83 : Ref sig .tc := ⟨.hbm, 209, rfl⟩
abbrev main_call5_call0_call0_c_21 : Ref sig .tc := ⟨.hbm, 210, rfl⟩
abbrev main_call5_call0_call0_v84 : Ref sig .tc := ⟨.hbm, 211, rfl⟩
abbrev main_call5_call0_call0_v85 : Ref sig .tc := ⟨.hbm, 212, rfl⟩
abbrev main_call5_call0_call0_v86 : Ref sig .tc := ⟨.hbm, 213, rfl⟩
abbrev main_call5_call0_call0_v87 : Ref sig .tc := ⟨.hbm, 214, rfl⟩
abbrev main_call5_call0_call0_v88 : Ref sig .tc := ⟨.hbm, 215, rfl⟩
abbrev main_call5_call0_call0_c_22 : Ref sig .tc := ⟨.hbm, 216, rfl⟩
abbrev main_call5_call0_call0_v89 : Ref sig .tc := ⟨.hbm, 217, rfl⟩
abbrev main_call5_call0_call0_v90 : Ref sig .tc := ⟨.hbm, 218, rfl⟩
abbrev main_call5_call0_call0_c_23 : Ref sig .tc := ⟨.hbm, 219, rfl⟩
abbrev main_call5_call0_call0_v91 : Ref sig .tc := ⟨.hbm, 220, rfl⟩
abbrev main_call5_call0_call0_v92 : Ref sig .tc := ⟨.hbm, 221, rfl⟩
abbrev main_call5_call0_call0_v93 : Ref sig .tc := ⟨.hbm, 222, rfl⟩
abbrev main_call5_call0_call0_v94 : Ref sig .tc := ⟨.hbm, 223, rfl⟩
abbrev main_call5_call0_call0_v95 : Ref sig .tc := ⟨.hbm, 224, rfl⟩
abbrev main_call5_call0_call0_c_24 : Ref sig .tc := ⟨.hbm, 225, rfl⟩
abbrev main_call5_call0_call0_v96 : Ref sig .tc := ⟨.hbm, 226, rfl⟩
abbrev main_call5_call0_call0_v97 : Ref sig .tc := ⟨.hbm, 227, rfl⟩
abbrev main_call5_call0_call0_c_25 : Ref sig .tc := ⟨.hbm, 228, rfl⟩
abbrev main_call5_call0_call0_v98 : Ref sig .tc := ⟨.hbm, 229, rfl⟩
abbrev main_call5_call0_call0_v99 : Ref sig .tc := ⟨.hbm, 230, rfl⟩
abbrev main_call5_call0_call0_v100 : Ref sig .tc := ⟨.hbm, 231, rfl⟩
abbrev main_call5_call0_call0_v101 : Ref sig .tc := ⟨.hbm, 232, rfl⟩
abbrev main_call5_call0_call0_v102 : Ref sig .tc := ⟨.hbm, 233, rfl⟩
abbrev main_call5_call0_call0_v103 : Ref sig .tc := ⟨.hbm, 234, rfl⟩
abbrev main_call5_call0_call0_v104 : Ref sig .tc := ⟨.hbm, 235, rfl⟩
abbrev main_call5_call0_call0_v105 : Ref sig .tc := ⟨.hbm, 236, rfl⟩
abbrev main_call5_call0_call0_c_26 : Ref sig .tc := ⟨.hbm, 237, rfl⟩
abbrev main_call5_call0_call0_v106 : Ref sig .tc := ⟨.hbm, 238, rfl⟩
abbrev main_call5_call0_call0_v107 : Ref sig .tc := ⟨.hbm, 239, rfl⟩
abbrev main_call5_call0_call0_v108 : Ref sig .tc := ⟨.hbm, 240, rfl⟩
abbrev main_call5_call0_call0_c_27 : Ref sig .tc := ⟨.hbm, 241, rfl⟩
abbrev main_call5_call0_call0_v109 : Ref sig .tc := ⟨.hbm, 242, rfl⟩
abbrev main_call5_call0_call0_v110 : Ref sig .tc := ⟨.hbm, 243, rfl⟩
abbrev main_call5_call0_call0_c_28 : Ref sig .tc := ⟨.hbm, 244, rfl⟩
abbrev main_call5_call0_call0_v111 : Ref sig .tc := ⟨.hbm, 245, rfl⟩
abbrev main_call5_call0_call0_v112 : Ref sig .tc := ⟨.hbm, 246, rfl⟩
abbrev main_call5_call0_call0_v113 : Ref sig .tc := ⟨.hbm, 247, rfl⟩
abbrev main_call5_call0_call0_v114 : Ref sig .tc := ⟨.hbm, 248, rfl⟩
abbrev main_call5_call0_call0_v115 : Ref sig .tc := ⟨.hbm, 249, rfl⟩
abbrev main_call5_call0_call0_c_29 : Ref sig .tc := ⟨.hbm, 250, rfl⟩
abbrev main_call5_call0_call0_v116 : Ref sig .tc := ⟨.hbm, 251, rfl⟩
abbrev main_call5_call0_call0_v117 : Ref sig .tc := ⟨.hbm, 252, rfl⟩
abbrev main_call5_call0_call0_c_30 : Ref sig .tc := ⟨.hbm, 253, rfl⟩
abbrev main_call5_call0_call0_v118 : Ref sig .tc := ⟨.hbm, 254, rfl⟩
abbrev main_call5_call0_call0_v119 : Ref sig .tc := ⟨.hbm, 255, rfl⟩
abbrev main_call5_call0_call0_v120 : Ref sig .tc := ⟨.hbm, 256, rfl⟩
abbrev main_call5_call0_call0_v121 : Ref sig .tc := ⟨.hbm, 257, rfl⟩
abbrev main_call5_call0_call0_v122 : Ref sig .tc := ⟨.hbm, 258, rfl⟩
abbrev main_call5_call0_call0_c_31 : Ref sig .tc := ⟨.hbm, 259, rfl⟩
abbrev main_call5_call0_call0_v123 : Ref sig .tc := ⟨.hbm, 260, rfl⟩
abbrev main_call5_call0_call0_v124 : Ref sig .tc := ⟨.hbm, 261, rfl⟩
abbrev main_call5_call0_call0_c_32 : Ref sig .tc := ⟨.hbm, 262, rfl⟩
abbrev main_call5_call0_call0_v125 : Ref sig .tc := ⟨.hbm, 263, rfl⟩
abbrev main_call5_call0_call0_v126 : Ref sig .tc := ⟨.hbm, 264, rfl⟩
abbrev main_call5_call0_call0_v127 : Ref sig .tc := ⟨.hbm, 265, rfl⟩
abbrev main_call5_call0_call0_v128 : Ref sig .tc := ⟨.hbm, 266, rfl⟩
abbrev main_call5_call0_call0_v129 : Ref sig .tc := ⟨.hbm, 267, rfl⟩
abbrev main_call5_call0_call0_c_33 : Ref sig .tc := ⟨.hbm, 268, rfl⟩
abbrev main_call5_call0_call0_v130 : Ref sig .tc := ⟨.hbm, 269, rfl⟩
abbrev main_call5_call0_call0_v131 : Ref sig .tc := ⟨.hbm, 270, rfl⟩
abbrev main_call5_call0_call0_c_34 : Ref sig .tc := ⟨.hbm, 271, rfl⟩
abbrev main_call5_call0_call0_v132 : Ref sig .tc := ⟨.hbm, 272, rfl⟩
abbrev main_call5_call0_call0_v133 : Ref sig .tc := ⟨.hbm, 273, rfl⟩
abbrev main_call5_call0_call0_v134 : Ref sig .tc := ⟨.hbm, 274, rfl⟩
abbrev main_call5_call0_call0_v135 : Ref sig .tc := ⟨.hbm, 275, rfl⟩
abbrev main_call5_call0_call0_v136 : Ref sig .tc := ⟨.hbm, 276, rfl⟩
abbrev main_call5_call0_call0_v137 : Ref sig .tc := ⟨.hbm, 277, rfl⟩
abbrev main_call5_call0_call0_v138 : Ref sig .tc := ⟨.hbm, 278, rfl⟩
abbrev main_call5_call0_call0_v139 : Ref sig .tc := ⟨.hbm, 279, rfl⟩
abbrev main_call5_call0_call0_c_35 : Ref sig .tc := ⟨.hbm, 280, rfl⟩
abbrev main_call5_call0_call0_v140 : Ref sig .tc := ⟨.hbm, 281, rfl⟩
abbrev main_call5_call0_call0_v141 : Ref sig .tc := ⟨.hbm, 282, rfl⟩
abbrev main_call5_call0_call0_v142 : Ref sig .tc := ⟨.hbm, 283, rfl⟩
abbrev main_call5_call0_call0_c_36 : Ref sig .tc := ⟨.hbm, 284, rfl⟩
abbrev main_call5_call0_call0_v143 : Ref sig .tc := ⟨.hbm, 285, rfl⟩
abbrev main_call5_call0_call0_v144 : Ref sig .tc := ⟨.hbm, 286, rfl⟩
abbrev main_call5_call0_call0_c_37 : Ref sig .tc := ⟨.hbm, 287, rfl⟩
abbrev main_call5_call0_call0_v145 : Ref sig .tc := ⟨.hbm, 288, rfl⟩
abbrev main_call5_call0_call0_v146 : Ref sig .tc := ⟨.hbm, 289, rfl⟩
abbrev main_call5_call0_call0_v147 : Ref sig .tc := ⟨.hbm, 290, rfl⟩
abbrev main_call5_call0_call0_v148 : Ref sig .tc := ⟨.hbm, 291, rfl⟩
abbrev main_call5_call0_call0_v149 : Ref sig .tc := ⟨.hbm, 292, rfl⟩
abbrev main_call5_call0_call0_c_38 : Ref sig .tc := ⟨.hbm, 293, rfl⟩
abbrev main_call5_call0_call0_v150 : Ref sig .tc := ⟨.hbm, 294, rfl⟩
abbrev main_call5_call0_call0_v151 : Ref sig .tc := ⟨.hbm, 295, rfl⟩
abbrev main_call5_call0_call0_c_39 : Ref sig .tc := ⟨.hbm, 296, rfl⟩
abbrev main_call5_call0_call0_v152 : Ref sig .tc := ⟨.hbm, 297, rfl⟩
abbrev main_call5_call0_call0_v153 : Ref sig .tc := ⟨.hbm, 298, rfl⟩
abbrev main_call5_call0_call0_v154 : Ref sig .tc := ⟨.hbm, 299, rfl⟩
abbrev main_call5_call0_call0_v155 : Ref sig .tc := ⟨.hbm, 300, rfl⟩
abbrev main_call5_call0_call0_v156 : Ref sig .tc := ⟨.hbm, 301, rfl⟩
abbrev main_call5_call0_call0_c_40 : Ref sig .tc := ⟨.hbm, 302, rfl⟩
abbrev main_call5_call0_call0_v157 : Ref sig .tc := ⟨.hbm, 303, rfl⟩
abbrev main_call5_call0_call0_v158 : Ref sig .tc := ⟨.hbm, 304, rfl⟩
abbrev main_call5_call0_call0_c_41 : Ref sig .tc := ⟨.hbm, 305, rfl⟩
abbrev main_call5_call0_call0_v159 : Ref sig .tc := ⟨.hbm, 306, rfl⟩
abbrev main_call5_call0_call0_v160 : Ref sig .tc := ⟨.hbm, 307, rfl⟩
abbrev main_call5_call0_call0_v161 : Ref sig .tc := ⟨.hbm, 308, rfl⟩
abbrev main_call5_call0_call0_v162 : Ref sig .tc := ⟨.hbm, 309, rfl⟩
abbrev main_call5_call0_call0_v163 : Ref sig .tc := ⟨.hbm, 310, rfl⟩
abbrev main_call5_call0_call0_c_42 : Ref sig .tc := ⟨.hbm, 311, rfl⟩
abbrev main_call5_call0_call0_v164 : Ref sig .tc := ⟨.hbm, 312, rfl⟩
abbrev main_call5_call0_call0_v165 : Ref sig .tc := ⟨.hbm, 313, rfl⟩
abbrev main_call5_call0_call0_c_43 : Ref sig .tc := ⟨.hbm, 314, rfl⟩
abbrev main_call5_call0_call0_v166 : Ref sig .tc := ⟨.hbm, 315, rfl⟩
abbrev main_call5_call0_call0_v167 : Ref sig .tc := ⟨.hbm, 316, rfl⟩
abbrev main_call5_call0_call0_v168 : Ref sig .tc := ⟨.hbm, 317, rfl⟩
abbrev main_call5_call0_call0_v169 : Ref sig .tc := ⟨.hbm, 318, rfl⟩
abbrev main_call5_call0_call0_v170 : Ref sig .tc := ⟨.hbm, 319, rfl⟩
abbrev main_call5_call0_v18_0 : Ref sig .tc := ⟨.hbm, 320, rfl⟩
abbrev main_call5_call0_call0_v172 : Ref sig .tc := ⟨.hbm, 321, rfl⟩
abbrev main_call5_call0_call0_v173 : Ref sig .tc := ⟨.hbm, 322, rfl⟩
abbrev main_call5_call0_call0_c_44 : Ref sig .tc := ⟨.hbm, 323, rfl⟩
abbrev main_call5_call0_call0_v174 : Ref sig .tc := ⟨.hbm, 324, rfl⟩
abbrev main_call5_call0_v18_1 : Ref sig .tc := ⟨.hbm, 325, rfl⟩
abbrev main_call5_call0_v19 : Ref sig .tc := ⟨.hbm, 326, rfl⟩
abbrev main_call5_call0_c_2 : Ref sig .tc := ⟨.hbm, 327, rfl⟩
abbrev main_call5_call0_v20 : Ref sig .tc := ⟨.hbm, 328, rfl⟩
abbrev main_call5_call0_v21 : Ref sig .tc := ⟨.hbm, 329, rfl⟩
abbrev main_call5_call0_c_3 : Ref sig .tc := ⟨.hbm, 330, rfl⟩
abbrev main_call5_call0_v22 : Ref sig .tc := ⟨.hbm, 331, rfl⟩
abbrev main_call5_call0_v23 : Ref sig .tc := ⟨.hbm, 332, rfl⟩
abbrev main_call5_call0_v24 : Ref sig .tc := ⟨.hbm, 333, rfl⟩
abbrev main_call5_call0_cst : Ref sig .tc := ⟨.hbm, 334, rfl⟩
abbrev main_call5_call0_v25 : Ref sig .tc := ⟨.hbm, 335, rfl⟩
abbrev main_call5_call0_v26 : Ref sig .tc := ⟨.hbm, 336, rfl⟩
abbrev main_call5_call0_v27 : Ref sig .tc := ⟨.hbm, 337, rfl⟩
abbrev main_call5_call0_v28 : Ref sig .tc := ⟨.hbm, 338, rfl⟩
abbrev main_call5_call0_v29 : Ref sig .tc := ⟨.hbm, 339, rfl⟩
abbrev main_call5_call0_v30 : Ref sig .tc := ⟨.hbm, 340, rfl⟩
abbrev main_call5_call0_v31 : Ref sig .tc := ⟨.hbm, 341, rfl⟩
abbrev main_call5_call0_v32 : Ref sig .tc := ⟨.hbm, 342, rfl⟩
abbrev main_call5_v0 : Ref sig .tc := ⟨.hbm, 343, rfl⟩
abbrev main_call5_v1 : Ref sig .tc := ⟨.hbm, 344, rfl⟩
abbrev main_call5_v2 : Ref sig .tc := ⟨.hbm, 345, rfl⟩
abbrev main_call5_v3 : Ref sig .tc := ⟨.hbm, 346, rfl⟩
abbrev main_v39 : Ref sig .tc := ⟨.hbm, 347, rfl⟩
abbrev main_v40 : Ref sig .tc := ⟨.hbm, 348, rfl⟩
abbrev main_call6_v0 : Ref sig .tc := ⟨.hbm, 349, rfl⟩
abbrev main_call6_cst : Ref sig .tc := ⟨.hbm, 350, rfl⟩
abbrev main_call6_c : Ref sig .tc := ⟨.hbm, 351, rfl⟩
abbrev main_call6_v1_0 : Ref sig .tc := ⟨.hbm, 352, rfl⟩
abbrev main_v41 : Ref sig .tc := ⟨.hbm, 353, rfl⟩
abbrev main_v42 : Ref sig .tc := ⟨.hbm, 354, rfl⟩
abbrev main_call7_c : Ref sig .tc := ⟨.hbm, 355, rfl⟩
abbrev main_call7_v0 : Ref sig .tc := ⟨.hbm, 356, rfl⟩
abbrev main_call7_v1 : Ref sig .tc := ⟨.hbm, 357, rfl⟩
abbrev main_call7_c_0 : Ref sig .tc := ⟨.hbm, 358, rfl⟩
abbrev main_call7_v2 : Ref sig .tc := ⟨.hbm, 359, rfl⟩
abbrev main_call7_v3 : Ref sig .tc := ⟨.hbm, 360, rfl⟩
abbrev main_call7_v4 : Ref sig .tc := ⟨.hbm, 361, rfl⟩
abbrev main_call7_v5 : Ref sig .tc := ⟨.hbm, 362, rfl⟩
abbrev main_call7_c_1 : Ref sig .tc := ⟨.hbm, 363, rfl⟩
abbrev main_call7_c_2 : Ref sig .tc := ⟨.hbm, 364, rfl⟩
abbrev main_call7_v6 : Ref sig .tc := ⟨.hbm, 365, rfl⟩
abbrev main_call7_v7 : Ref sig .tc := ⟨.hbm, 366, rfl⟩
abbrev main_call7_v8 : Ref sig .tc := ⟨.hbm, 367, rfl⟩
abbrev main_call7_v9 : Ref sig .tc := ⟨.hbm, 368, rfl⟩
abbrev main_call7_v10 : Ref sig .tc := ⟨.hbm, 369, rfl⟩
abbrev main_call7_v11 : Ref sig .tc := ⟨.hbm, 370, rfl⟩
abbrev main_call7_c_3 : Ref sig .tc := ⟨.hbm, 371, rfl⟩
abbrev main_call7_v12 : Ref sig .tc := ⟨.hbm, 372, rfl⟩
abbrev main_call7_v13 : Ref sig .tc := ⟨.hbm, 373, rfl⟩
abbrev main_call7_c_4 : Ref sig .tc := ⟨.hbm, 374, rfl⟩
abbrev main_call7_v14 : Ref sig .tc := ⟨.hbm, 375, rfl⟩
abbrev main_v43 : Ref sig .tc := ⟨.hbm, 376, rfl⟩
abbrev main_v44 : Ref sig .tc := ⟨.hbm, 377, rfl⟩

abbrev nD : Nat := 1
abbrev τ : Topo := Topo.v7x

variable {F : FTy → Type} [FloatOps F]
-- ==== Proof.KI.Block.lean ====
/-
  The kernel's block as functions of the blocks it reads: the five rounds of column maxima, the test that decides
  between the short and the long way, the sixty-four kept entries either way gives, and the tokens chosen from them.
-/
module

public import proofs.«01_k».proof.Proof.Gen.KernelIdeal.Skeleton

@[expose] public section

noncomputable section

namespace Cert.KernelIdeal.Body

open Cert.KernelIdeal Cert.KernelIdeal.Gen
open Idealize.ShloMosaic Idealize.ShloMosaic.TcCoe

variable {F : FTy → Type} [FloatOps F] [Named F]

/-- The strip each entry of a block stands in. -/
abbrev posV : IVec S8x200x500 32 := iota .tc S8x200x500 32 [1] iota_S8x200x500_d1_w32
/-- The place of each entry of a block inside its strip. -/
abbrev laneV : IVec S8x200x500 32 := iota .tc S8x200x500 32 [2] iota_S8x200x500_d2_w32
/-- The rank of each kept entry. -/
abbrev rankV : IVec S8x64 32 := iota .tc S8x64 32 [1] iota_S8x64_d1_w32
/-- The value a removed entry is set to. -/
abbrev lowV : F .f32 := Scalar.ofBits .f32 0xFF61B1E6#32

/-- The block with its two first column maxima removed, and the mark of the third. -/
abbrev blk2 (x : Vec F S8x200x500 .f32) : FVec F S8x200x500 .f32 := k0_pay8 x
abbrev hit2 (x : Vec F S8x200x500 .f32) : IVec S8x200x500 1 := k0_pay13 x
abbrev mx0 (x : Vec F S8x200x500 .f32) : FVec F S8x1x500 .f32 := k0_pay6 x
abbrev at0 (x : Vec F S8x200x500 .f32) : IVec S8x1x500 32 := k0_pay7 x
abbrev mx1 (x : Vec F S8x200x500 .f32) : FVec F S8x1x500 .f32 := k0_pay11 x
abbrev at1 (x : Vec F S8x200x500 .f32) : IVec S8x1x500 32 := k0_pay12 x
abbrev mx2 (x : Vec F S8x200x500 .f32) : FVec F S8x1x500 .f32 := k0_pay17 (blk2 x) (hit2 x) lowV
abbrev at2 (x : Vec F S8x200x500 .f32) : IVec S8x1x500 32 := k0_pay18 posV laneV (blk2 x) (hit2 x) lowV
abbrev mx3 (x : Vec F S8x200x500 .f32) : FVec F S8x1x500 .f32 := k0_pay22 posV (blk2 x) (hit2 x) lowV
abbrev at3 (x : Vec F S8x200x500 .f32) : IVec S8x1x500 32 := k0_pay23 posV laneV (blk2 x) (hit2 x) lowV
abbrev blk4 (x : Vec F S8x200x500 .f32) : FVec F S8x200x500 .f32 := k0_pay24 posV (blk2 x) (hit2 x) lowV
abbrev mx4 (x : Vec F S8x200x500 .f32) : FVec F S8x500 .f32 := k0_pay25 posV (blk2 x) (hit2 x) lowV
abbrev ps4 (x : Vec F S8x200x500 .f32) : IVec S8x500 32 := k0_pay26 posV (blk2 x) (hit2 x) lowV

/-- The bit that says every row has sixty-four candidates above all that is left. -/
def okBit (x : Vec F S8x200x500 .f32) : BitVec 1 :=
  Scalar.cmpf .ogt (k0_pay29 posV (mx0 x) (mx1 x) (mx2 x) (mx3 x) (blk4 x) (mx4 x) (ps4 x)) (Scalar.ofBits .f32 0x00000000#32)

/-- The candidates' values and indices the short way starts from. -/
def candV (x : Vec F S8x200x500 .f32) : FVec F S8x1x5x500 .f32 := k0_pay27 (mx0 x) (mx1 x) (mx2 x) (mx3 x) (mx4 x)

/-- One trip of the short way. -/
def fastStep (x : Vec F S8x200x500 .f32) (t : Fin k0_t1_loop.trips) (s : FVec F S8x1x5x500 .f32 × FVec F S8x64 .f32 × IVec S8x64 32) :
    FVec F S8x1x5x500 .f32 × FVec F S8x64 .f32 × IVec S8x64 32 :=
  (k0_pay34 laneV (at0 x) (at1 x) (at2 x) (at3 x) (ps4 x) s.1, k0_pay35 rankV t s.1 s.2.1,
    k0_pay36 laneV rankV (at0 x) (at1 x) (at2 x) (at3 x) (ps4 x) t s.1 s.2.2)

/-- The short way: sixty-four removals of the greatest among the candidates. -/
def fastRes (x : Vec F S8x200x500 .f32) : FVec F S8x1x5x500 .f32 × FVec F S8x64 .f32 × IVec S8x64 32 :=
  Scf.fold (fun t s => fastStep x t s) (candV x, k0_pay30, k0_pay31)

/-- One trip of the long way. -/
def slowStep (t : Fin k0_t2_loop.trips) (s : FVec F S8x1x200x500 .f32 × FVec F S8x64 .f32 × IVec S8x64 32) :
    FVec F S8x1x200x500 .f32 × FVec F S8x64 .f32 × IVec S8x64 32 :=
  (k0_pay44 k0_pay2 s.1, k0_pay45 rankV t s.1 s.2.1, k0_pay46 k0_pay2 rankV t s.1 s.2.2)

/-- The long way: sixty-four removals of the greatest in the whole block. -/
def slowRes (x : Vec F S8x200x500 .f32) : FVec F S8x1x200x500 .f32 × FVec F S8x64 .f32 × IVec S8x64 32 :=
  Scf.fold (fun t s => slowStep t s) (k0_pay39 x, k0_pay40, k0_pay41)

/-- The kept values. -/
def topV (x : Vec F S8x200x500 .f32) : FVec F S8x64 .f32 :=
  if okBit x = 1#1 then k0_pay37 (fastRes x).2.1 else k0_pay47 (slowRes x).2.1

/-- The kept indices. -/
def topI (x : Vec F S8x200x500 .f32) : IVec S8x64 32 :=
  if okBit x = 1#1 then k0_pay38 (fastRes x).2.2 else k0_pay48 (slowRes x).2.2

/-- The tokens of a block: the kept entries scaled, masked, pruned, and the greatest noisy one picked. -/
def outV (x1 : Vec F S8x200x500 .f32) (x2 x3 : Vec F S1x1x8 .f32) (x4 : Vec F S1x1x8 .i32) (x5 : Vec F S1x8x64 .f32) : IVec S1x1x8 32 :=
  k0_pay1 rankV (k0_pay49 x5) (topI x1) (k0_pay50 rankV x2 x3 x4 (topV x1))

end Cert.KernelIdeal.Body
-- ==== Proof.KI.Body.lean ====
/-
  What one grid point of the kernel does: from the five input blocks it leaves the chosen tokens in the output block.
-/
module

public import proofs.«01_k».proof.Proof.Gen.KernelIdeal.Frame
public import proofs.«01_k».proof.Proof.KI.Block
public import Idealize.ShloMosaic.Lib.Claim
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's run: five blocks read, the chosen tokens left in the output block, the two scratch blocks at something. -/
theorem sound_kernel (c : Dev nD) (E : Set ℕ) (i : grid0.Coords)
    (arg1 : Memref sig .tc .vmem S8x200x500 .f32) (harg1 : arg1.IsWhole) (arg2 : Memref sig .tc .vmem S1x1x8 .f32) (harg2 : arg2.IsWhole)
    (arg3 : Memref sig .tc .vmem S1x1x8 .f32) (harg3 : arg3.IsWhole) (arg4 : Memref sig .tc .vmem S1x1x8 .i32) (harg4 : arg4.IsWhole)
    (arg5 : Memref sig .tc .vmem S1x8x64 .f32) (harg5 : arg5.IsWhole) (arg6 : Memref sig .tc .vmem S1x1x8 .i32) (harg6 : arg6.IsWhole)
    (arg7 : Memref sig .tc .vmem S8x64 .f32) (harg7 : arg7.IsWhole) (arg8 : Memref sig .tc .vmem S8x64 .i32) (harg8 : arg8.IsWhole)
    (x1 : Vec F S8x200x500 .f32) (x2 x3 : Vec F S1x1x8 .f32) (x4 : Vec F S1x1x8 .i32) (x5 : Vec F S1x8x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (outV x1 x2 x3 x4 x5) ∗ (∃ d, owns (c : Thread nD τ) arg7 fullShare d) ∗ (∃ d, owns (c : Thread nD τ) arg8 fullShare d)) -∗ K ⟨⟩))
      ⊢ wp frame (wpE (defs₀ (F := F)) Variants.none c none) E
          (cc0__sample_kernel i arg1 harg1 arg2 harg2 arg3 harg3 arg4 harg4 arg5 harg5 arg6 harg6 arg7 harg7 arg8 harg8) K := by
  simp only [cc0__sample_kernel_eq_skeleton, k0_part1_eq_skeleton, k0_part2_eq_skeleton, k0_part3_eq_skeleton, k0_part4_eq_skeleton]
  unfold cc0__sample_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_full _ _ _ _ _).trans ?_
    have e1 := View.readAt_full arg1.view f1 inb_S8x200x500_S8x200x500_0_0_0
    have hok : sound_kernel.sl.v126 c arg1 f1 = okBit (View.readAt (Elt F) arg1.view (Rect.unit ![0, 0, 0] S8x200x500.size inb_S8x200x500_S8x200x500_0_0_0).toLoadRect f1) := rfl
    have hf1 : sound_kernel.sl.v196 c arg1 f1 = k0_pay37 (fastRes (View.readAt (Elt F) arg1.view (Rect.unit ![0, 0, 0] S8x200x500.size inb_S8x200x500_S8x200x500_0_0_0).toLoadRect f1)).2.1 := rfl
    have hf2 : sound_kernel.sl.v199 c arg1 f1 = k0_pay38 (fastRes (View.readAt (Elt F) arg1.view (Rect.unit ![0, 0, 0] S8x200x500.size inb_S8x200x500_S8x200x500_0_0_0).toLoadRect f1)).2.2 := rfl
    have hs1 : sound_kernel.sl.v199_1 c arg1 f1 = k0_pay47 (slowRes (View.readAt (Elt F) arg1.view (Rect.unit ![0, 0, 0] S8x200x500.size inb_S8x200x500_S8x200x500_0_0_0).toLoadRect f1)).2.1 := rfl
    have hs2 : sound_kernel.sl.v202 c arg1 f1 = k0_pay48 (slowRes (View.readAt (Elt F) arg1.view (Rect.unit ![0, 0, 0] S8x200x500.size inb_S8x200x500_S8x200x500_0_0_0).toLoadRect f1)).2.2 := rfl
    rw [e1] at hok hf1 hf2 hs1 hs2
    have hv : sound_kernel.sl.v140 c arg1 arg7 f1 f7 = topV (arg1.view.read (Elt F) f1) := by
      unfold sound_kernel.sl.v140
      rw [View.readAt_full]
      unfold sound_kernel.sl.v131 sound_kernel.sl.v130 sound_kernel.sl.v129 sound_kernel.sl.v128 sound_kernel.sl.v127 topV
      rw [hok, hf1, hs1]
      rcases BitVec.eq_zero_or_eq_one (okBit (arg1.view.read (Elt F) f1)) with h | h <;> rw [h]
      · exact View.read_writes_full _ _ _ _ _
      · exact View.read_writes_full _ _ _ _ _
    have hi : sound_kernel.sl.v144 c arg1 arg8 f1 f8 = topI (arg1.view.read (Elt F) f1) := by
      unfold sound_kernel.sl.v144
      rw [View.readAt_full]
      unfold sound_kernel.sl.v131 sound_kernel.sl.v130 sound_kernel.sl.v129 sound_kernel.sl.v128 sound_kernel.sl.v127 topI
      rw [hok, hf2, hs2]
      rcases BitVec.eq_zero_or_eq_one (okBit (arg1.view.read (Elt F) f1)) with h | h <;> rw [h]
      · exact View.read_writes_full _ _ _ _ _
      · exact View.read_writes_full _ _ _ _ _
    unfold outV sound_kernel.sl.r_2 sound_kernel.sl.r_3
    rw [hv, hi, View.readAt_full, View.readAt_full, View.readAt_full, View.readAt_full]
    rfl
  isplitl [H7]
  · iexists _, _; isplitr
    swap; · iexact H7
    ipureintro; rfl
  iexists _, _; isplitr
  swap; · iexact H8
  ipureintro; rfl

end Cert.KernelIdeal.Body
-- ==== Proof.KI.Run.lean ====
/-
  The launch: the body's run at every grid point, and what every run of the whole program ends with.
-/
module

public import proofs.«01_k».proof.Proof.KI.Body
public import proofs.«01_k».proof.Proof.Gen.KernelIdeal.Points

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What each window's staging buffer holds around a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV (iblk m c 0 t) (iblk m c 1 t) (iblk m c 2 t) (iblk m c 3 t) (iblk m c 4 t)
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-- The body leaves the block of logits. -/
theorem after0_0 (c : Dev nD) (t : Fin cfg0.N) : (dats m 0 c).after 0 t = iblk m c 0 t := by dsimp only [dats]
/-- The body leaves the block of temperatures. -/
theorem after0_1 (c : Dev nD) (t : Fin cfg0.N) : (dats m 0 c).after 1 t = iblk m c 1 t := by dsimp only [dats]
/-- The body leaves the block of mass bounds. -/
theorem after0_2 (c : Dev nD) (t : Fin cfg0.N) : (dats m 0 c).after 2 t = iblk m c 2 t := by dsimp only [dats]
/-- The body leaves the block of counts. -/
theorem after0_3 (c : Dev nD) (t : Fin cfg0.N) : (dats m 0 c).after 3 t = iblk m c 3 t := by dsimp only [dats]
/-- The body leaves the block of noise. -/
theorem after0_4 (c : Dev nD) (t : Fin cfg0.N) : (dats m 0 c).after 4 t = iblk m c 4 t := by dsimp only [dats]
/-- The output block after the body: the tokens of the five input blocks. -/
theorem after0_5 (c : Dev nD) (t : Fin cfg0.N) : (dats m 0 c).after 5 t
    = outV (iblk m c 0 t) (iblk m c 1 t) (iblk m c 2 t) (iblk m c 3 t) (iblk m c 4 t) := by dsimp only [dats]

/-- The body finds the block of logits. -/
theorem before0_0 (c : Dev nD) (t : Fin cfg0.N) (d) : (dats m 0 c).before 0 t d = iblk m c 0 t :=
  before0_0_of m (dats m 0 c) (A_eq m c 0) (after0_0 m c) t d
/-- The body finds the block of temperatures. -/
theorem before0_1 (c : Dev nD) (t : Fin cfg0.N) (d) : (dats m 0 c).before 1 t d = iblk m c 1 t :=
  before0_1_of m (dats m 0 c) (A_eq m c 1) (after0_1 m c) t d
/-- The body finds the block of mass bounds. -/
theorem before0_2 (c : Dev nD) (t : Fin cfg0.N) (d) : (dats m 0 c).before 2 t d = iblk m c 2 t :=
  before0_2_of m (dats m 0 c) (A_eq m c 2) (after0_2 m c) t d
/-- The body finds the block of counts. -/
theorem before0_3 (c : Dev nD) (t : Fin cfg0.N) (d) : (dats m 0 c).before 3 t d = iblk m c 3 t :=
  before0_3_of m (dats m 0 c) (A_eq m c 3) (after0_3 m c) t d
/-- The body finds the block of noise. -/
theorem before0_4 (c : Dev nD) (t : Fin cfg0.N) (d) : (dats m 0 c).before 4 t d = iblk m c 4 t :=
  before0_4_of m (dats m 0 c) (A_eq m c 4) (after0_4 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point, the two scratch blocks lent to it and handed back at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%s7, S7⟩, ⟨%s8, S8⟩⟩, Hr⟩, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S7]; · iexists s7; rw [owns_whole]; iexact S7
  isplitl [S8]; · iexists s8; rw [owns_whole]; iexact S8
  simp only [owns_whole]
  iintro ⟨H0, H1, H2, H3, H4, H5, ⟨%e7, S7⟩, ⟨%e8, S8⟩⟩
  isplitl [S7 S8 Hr]
  · isplitl [S7 S8]
    · isplitl [S7]
      · iexists _; iexact S7
      iexists _; iexact S8
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body named by the launch is the body above. -/
theorem defs₀_row (t : Fin cfg0.N) :
    defs₀ (F := F) .tc cfg0.body (cfg0.bodyArgs t (cfg0.slots t)) = bodyAt0 t := by
  unfold defs₀; rw [Defs.onTc_tc]

/-- The launch's demand on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays at what the blocks make of them and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_main_quiescent m ρ))

/-- The frame: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body
-- ==== Proof.Ref.Ops.lean ====
module

public import proofs.«01_k».proof.ReferenceIdeal
public import proofs.«01_k».proof.Proof.Gen.ReferenceIdeal
public import Idealize.ShloMosaic.Lib.StableHlo.Run

@[expose] public section

set_option maxRecDepth 65536

/-! # The reference's operations, in eight stretches

The reference is host operations only. They are listed here with every call's body written out, one list per step of
the mathematics. -/

namespace Cert.ReferenceIdeal.Ops

open Idealize.ShloMosaic
open Cert.ReferenceIdeal Facts₀ Facts

noncomputable section

variable {F : FTy → Type} [FloatOps F]

/-- 7 operations: the scaled logits and their descending order. -/
abbrev opsSort : List (HloOp τ sig (Elt F)) :=
  [ StableHlo.unary main_arg1 main_v0 (broadcastInDim S128x1 ![0] bcast_S128_S128x1_0 : (⟨S128, .f32⟩ : BufTy).Contents (Elt F) → (⟨S128x1, .f32⟩ : BufTy).Contents (Elt F)),
    StableHlo.unary main_v0 main_v1 (broadcastInDim S128x100000 ![0, 1] bcast_S128x1_S128x100000_0_1 : (⟨S128x1, .f32⟩ : BufTy).Contents (Elt F) → (⟨S128x100000, .f32⟩ : BufTy).Contents (Elt F)),
    StableHlo.binary main_arg0 main_v1 main_v2 (Host.divf : (⟨S128x100000, .f32⟩ : BufTy).Contents (Elt F) → (⟨S128x100000, .f32⟩ : BufTy).Contents (Elt F) → (⟨S128x100000, .f32⟩ : BufTy).Contents (Elt F)),
    StableHlo.unary main_v2 main_v3 (Host.negf : (⟨S128x100000, .f32⟩ : BufTy).Contents (Elt F) → (⟨S128x100000, .f32⟩ : BufTy).Contents (Elt F)),
    StableHlo.TRef.nullary (.of main_call0_v0 : StableHlo.TRef sig ⟨S128x100000, .i32⟩) (iotaInDim S128x100000 32 1),
    StableHlo.TRef.binary (.of main_v3 : StableHlo.TRef sig ⟨S128x100000, .f32⟩) (.of main_call0_v0 : StableHlo.TRef sig ⟨S128x100000, .i32⟩) (.of main_call0_v1_0 : StableHlo.TRef sig ⟨S128x100000, .f32⟩) (fun x y => (Host.sort2 S128x100000 1 comparator_f32_i32_d1 x y).1),
    StableHlo.TRef.binary (.of main_v3 : StableHlo.TRef sig ⟨S128x100000, .f32⟩) (.of main_call0_v0 : StableHlo.TRef sig ⟨S128x100000, .i32⟩) (.of main_v4 : StableHlo.TRef sig ⟨S128x100000, .i32⟩) (fun x y => (Host.sort2 S128x100000 1 comparator_f32_i32_d1 x y).2) ]

/-- Each touches buffers of the TensorCore only. -/
theorem opsSort_sub : (opsSort : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.binary_bufs_sub .., StableHlo.binary_bufs_sub ..⟩

/-- 22 operations: the scaled logits in that order. -/
abbrev opsTake : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S128x100000, .i32⟩) (broadcastInDim S128x100000 ![] bcast_S_S128x100000),
    StableHlo.TRef.binary (.of main_v4 : StableHlo.TRef sig ⟨S128x100000, .i32⟩) (.of main_call1_v0 : StableHlo.TRef sig ⟨S128x100000, .i32⟩) (.of main_call1_v1 : StableHlo.TRef sig ⟨S128x100000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S128x100000, .i32⟩) (broadcastInDim S128x100000 ![] bcast_S_S128x100000),
    StableHlo.TRef.binary (.of main_v4 : StableHlo.TRef sig ⟨S128x100000, .i32⟩) (.of main_call1_v2 : StableHlo.TRef sig ⟨S128x100000, .i32⟩) (.of main_call1_v3 : StableHlo.TRef sig ⟨S128x100000, .i32⟩) addi,
    StableHlo.TRef.ternary (.of main_call1_v1 : StableHlo.TRef sig ⟨S128x100000, .i1⟩) (.of main_call1_v3 : StableHlo.TRef sig ⟨S128x100000, .i32⟩) (.of main_v4 : StableHlo.TRef sig ⟨S128x100000, .i32⟩) (.of main_call1_v4 : StableHlo.TRef sig ⟨S128x100000, .i32⟩) select,
    StableHlo.TRef.reshape (.of main_call1_v4 : StableHlo.TRef sig ⟨S128x100000, .i32⟩) (.of main_call1_v5 : StableHlo.TRef sig ⟨S128x100000x1, .i32⟩) (rfl : (.i32 : EltTy) = .i32) shapeCasts_S128x100000_S128x100000x1,
    StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S128x100000x1, .i32⟩) (broadcastInDim S128x100000x1 ![] bcast_S_S128x100000x1),
    StableHlo.TRef.binary (.of main_call1_v5 : StableHlo.TRef sig ⟨S128x100000x1, .i32⟩) (.of main_call1_v6 : StableHlo.TRef sig ⟨S128x100000x1, .i32⟩) (.of main_call1_v7 : StableHlo.TRef sig ⟨S128x100000x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S128x100000x1, .i32⟩) (broadcastInDim S128x100000x1 ![0, 1, 2] bcast_S1x1x1_S128x100000x1_0_1_2),
    StableHlo.TRef.binary (.of main_call1_v5 : StableHlo.TRef sig ⟨S128x100000x1, .i32⟩) (.of main_call1_v9 : StableHlo.TRef sig ⟨S128x100000x1, .i32⟩) (.of main_call1_v10 : StableHlo.TRef sig ⟨S128x100000x1, .i1⟩) (cmpi .sle),
    StableHlo.TRef.binary (.of main_call1_v7 : StableHlo.TRef sig ⟨S128x100000x1, .i1⟩) (.of main_call1_v10 : StableHlo.TRef sig ⟨S128x100000x1, .i1⟩) (.of main_call1_v11 : StableHlo.TRef sig ⟨S128x100000x1, .i1⟩) andi,
    StableHlo.TRef.nullary (.of main_call1_c_3 : StableHlo.TRef sig ⟨S_, .i1⟩) (constantI S_ 1 1#1),
    StableHlo.TRef.binary (.of main_call1_v11 : StableHlo.TRef sig ⟨S128x100000x1, .i1⟩) (.of main_call1_c_3 : StableHlo.TRef sig ⟨S_, .i1⟩) (.of main_call1_v12 : StableHlo.TRef sig ⟨S128x100000, .i1⟩) (fun x v => Host.reduce IntOp.andi x v reducesTo_S128x100000x1_S128x100000_d2 h_S_),
    StableHlo.TRef.binary (.of main_v2 : StableHlo.TRef sig ⟨S128x100000, .f32⟩) (.of main_call1_v5 : StableHlo.TRef sig ⟨S128x100000x1, .i32⟩) (.of main_call1_v13 : StableHlo.TRef sig ⟨S128x100000, .f32⟩) (fun x i => Host.gather gather_S128x100000_S128x100000x1_S128x100000_n_1_0_0_1_2_11 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S128x100000, .f32⟩) (broadcastInDim S128x100000 ![] bcast_S_S128x100000),
    StableHlo.TRef.ternary (.of main_call1_v12 : StableHlo.TRef sig ⟨S128x100000, .i1⟩) (.of main_call1_v13 : StableHlo.TRef sig ⟨S128x100000, .f32⟩) (.of main_call1_v14 : StableHlo.TRef sig ⟨S128x100000, .f32⟩) (.of main_v5 : StableHlo.TRef sig ⟨S128x100000, .f32⟩) select ]

/-- Each touches buffers of the TensorCore only. -/
theorem opsTake_sub : (opsTake : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- 13 operations: the rank cut. -/
abbrev opsTopK : List (HloOp τ sig (Elt F)) :=
  [ StableHlo.nullary main_v6 (iotaInDim S100000 32 0),
    StableHlo.unary main_v6 main_v7 (broadcastInDim S1x100000 ![1] bcast_S100000_S1x100000_1 : (⟨S100000, .i32⟩ : BufTy).Contents (Elt F) → (⟨S1x100000, .i32⟩ : BufTy).Contents (Elt F)),
    StableHlo.nullary main_c (constantI S_ 32 1#32),
    StableHlo.unary main_c main_v8 (broadcastInDim S128 ![] bcast_S_S128 : (⟨S_, .i32⟩ : BufTy).Contents (Elt F) → (⟨S128, .i32⟩ : BufTy).Contents (Elt F)),
    StableHlo.binary main_arg3 main_v8 main_v9 (maxsi : (⟨S128, .i32⟩ : BufTy).Contents (Elt F) → (⟨S128, .i32⟩ : BufTy).Contents (Elt F) → (⟨S128, .i32⟩ : BufTy).Contents (Elt F)),
    StableHlo.unary main_v9 main_v10 (broadcastInDim S128x1 ![0] bcast_S128_S128x1_0 : (⟨S128, .i32⟩ : BufTy).Contents (Elt F) → (⟨S128x1, .i32⟩ : BufTy).Contents (Elt F)),
    StableHlo.unary main_v7 main_v11 (broadcastInDim S128x100000 ![0, 1] bcast_S1x100000_S128x100000_0_1 : (⟨S1x100000, .i32⟩ : BufTy).Contents (Elt F) → (⟨S128x100000, .i32⟩ : BufTy).Contents (Elt F)),
    StableHlo.unary main_v10 main_v12 (broadcastInDim S128x100000 ![0, 1] bcast_S128x1_S128x100000_0_1 : (⟨S128x1, .i32⟩ : BufTy).Contents (Elt F) → (⟨S128x100000, .i32⟩ : BufTy).Contents (Elt F)),
    StableHlo.binary main_v11 main_v12 main_v13 (cmpi .sge : (⟨S128x100000, .i32⟩ : BufTy).Contents (Elt F) → (⟨S128x100000, .i32⟩ : BufTy).Contents (Elt F) → (⟨S128x100000, .i1⟩ : BufTy).Contents (Elt F)),
    StableHlo.nullary main_cst (constant S_ .f32 0xFF800000#32),
    StableHlo.TRef.unary (.of main_cst : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S128x100000, .f32⟩) (broadcastInDim S128x100000 ![] bcast_S_S128x100000),
    StableHlo.TRef.ternary (.of main_v13 : StableHlo.TRef sig ⟨S128x100000, .i1⟩) (.of main_call2_v1 : StableHlo.TRef sig ⟨S128x100000, .f32⟩) (.of main_v5 : StableHlo.TRef sig ⟨S128x100000, .f32⟩) (.of main_v14 : StableHlo.TRef sig ⟨S128x100000, .f32⟩) select ]

/-- Each touches buffers of the TensorCore only. -/
theorem opsTopK_sub : (opsTopK : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

/-- 14 operations: the softmax of the kept ranks. -/
abbrev opsSoft : List (HloOp τ sig (Elt F)) :=
  [ StableHlo.nullary main_cst_0 (constant S_ .f32 0xFF800000#32),
    StableHlo.binary main_v14 main_cst_0 main_v15 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    StableHlo.nullary main_cst_1 (constant S_ .f32 0xFF800000#32),
    StableHlo.unary main_cst_1 main_v16 (broadcastInDim S128 ![] bcast_S_S128 : (⟨S_, .f32⟩ : BufTy).Contents (Elt F) → (⟨S128, .f32⟩ : BufTy).Contents (Elt F)),
    StableHlo.binary main_v16 main_v15 main_v17 (maximumf : (⟨S128, .f32⟩ : BufTy).Contents (Elt F) → (⟨S128, .f32⟩ : BufTy).Contents (Elt F) → (⟨S128, .f32⟩ : BufTy).Contents (Elt F)),
    StableHlo.unary main_v17 main_v18 (broadcastInDim S128x1 ![0] bcast_S128_S128x1_0 : (⟨S128, .f32⟩ : BufTy).Contents (Elt F) → (⟨S128x1, .f32⟩ : BufTy).Contents (Elt F)),
    StableHlo.unary main_v18 main_v19 (broadcastInDim S128x100000 ![0, 1] bcast_S128x1_S128x100000_0_1 : (⟨S128x1, .f32⟩ : BufTy).Contents (Elt F) → (⟨S128x100000, .f32⟩ : BufTy).Contents (Elt F)),
    StableHlo.binary main_v14 main_v19 main_v20 (subf : (⟨S128x100000, .f32⟩ : BufTy).Contents (Elt F) → (⟨S128x100000, .f32⟩ : BufTy).Contents (Elt F) → (⟨S128x100000, .f32⟩ : BufTy).Contents (Elt F)),
    StableHlo.unary main_v20 main_v21 (Host.exp : (⟨S128x100000, .f32⟩ : BufTy).Contents (Elt F) → (⟨S128x100000, .f32⟩ : BufTy).Contents (Elt F)),
    StableHlo.nullary main_cst_2 (constant S_ .f32 0x00000000#32),
    StableHlo.binary main_v21 main_cst_2 main_v22 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    StableHlo.unary main_v22 main_v23 (broadcastInDim S128x1 ![0] bcast_S128_S128x1_0 : (⟨S128, .f32⟩ : BufTy).Contents (Elt F) → (⟨S128x1, .f32⟩ : BufTy).Contents (Elt F)),
    StableHlo.unary main_v23 main_v24 (broadcastInDim S128x100000 ![0, 1] bcast_S128x1_S128x100000_0_1 : (⟨S128x1, .f32⟩ : BufTy).Contents (Elt F) → (⟨S128x100000, .f32⟩ : BufTy).Contents (Elt F)),
    StableHlo.binary main_v21 main_v24 main_v25 (Host.divf : (⟨S128x100000, .f32⟩ : BufTy).Contents (Elt F) → (⟨S128x100000, .f32⟩ : BufTy).Contents (Elt F) → (⟨S128x100000, .f32⟩ : BufTy).Contents (Elt F)) ]

/-- Each touches buffers of the TensorCore only. -/
theorem opsSoft_sub : (opsSoft : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

/-- 11 operations: the running sum and the mass cut. -/
abbrev opsTopP : List (HloOp τ sig (Elt F)) :=
  [ StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_v0 : StableHlo.TRef sig ⟨S_, .f32⟩) (broadcastInDim S_ ![] bcast_S_S_),
    StableHlo.TRef.binary (.of main_v25 : StableHlo.TRef sig ⟨S128x100000, .f32⟩) (.of main_call3_call0_v0 : StableHlo.TRef sig ⟨S_, .f32⟩) (.of main_v26 : StableHlo.TRef sig ⟨S128x100000, .f32⟩) (fun x v => Host.reduceWindowAdd ![1, 100000] ![1, 1] ![0, 99999] ![0, 0] x v reduceWindows_S128x100000_S128x100000_w1s1p0_0_w100000s1p99999_0 h_S_),
    StableHlo.binary main_v26 main_v25 main_v27 (subf : (⟨S128x100000, .f32⟩ : BufTy).Contents (Elt F) → (⟨S128x100000, .f32⟩ : BufTy).Contents (Elt F) → (⟨S128x100000, .f32⟩ : BufTy).Contents (Elt F)),
    StableHlo.unary main_arg2 main_v28 (broadcastInDim S128x1 ![0] bcast_S128_S128x1_0 : (⟨S128, .f32⟩ : BufTy).Contents (Elt F) → (⟨S128x1, .f32⟩ : BufTy).Contents (Elt F)),
    StableHlo.unary main_v28 main_v29 (broadcastInDim S128x100000 ![0, 1] bcast_S128x1_S128x100000_0_1 : (⟨S128x1, .f32⟩ : BufTy).Contents (Elt F) → (⟨S128x100000, .f32⟩ : BufTy).Contents (Elt F)),
    StableHlo.binary main_v27 main_v29 main_v30 (cmpf .ole : (⟨S128x100000, .f32⟩ : BufTy).Contents (Elt F) → (⟨S128x100000, .f32⟩ : BufTy).Contents (Elt F) → (⟨S128x100000, .i1⟩ : BufTy).Contents (Elt F)),
    StableHlo.nullary main_cst_3 (constant S_ .f32 0xFF800000#32),
    StableHlo.TRef.unary (.of main_cst_3 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S128x100000, .f32⟩) (broadcastInDim S128x100000 ![] bcast_S_S128x100000),
    StableHlo.TRef.ternary (.of main_v30 : StableHlo.TRef sig ⟨S128x100000, .i1⟩) (.of main_v14 : StableHlo.TRef sig ⟨S128x100000, .f32⟩) (.of main_call4_v1 : StableHlo.TRef sig ⟨S128x100000, .f32⟩) (.of main_v31 : StableHlo.TRef sig ⟨S128x100000, .f32⟩) select ]

/-- Each touches buffers of the TensorCore only. -/
theorem opsTopP_sub : (opsTopP : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

/-- 277 operations: the key and the Gumbel noise. -/
abbrev opsNoise : List (HloOp τ sig (Elt F)) :=
  [ StableHlo.nullary main_c_4 (constantI S_ 32 42#32),
    StableHlo.nullary main_c_5 (constantI S_ 32 32#32),
    StableHlo.binary main_c_4 main_c_5 main_v32 (Host.shrui : (⟨S_, .i32⟩ : BufTy).Contents (Elt F) → (⟨S_, .i32⟩ : BufTy).Contents (Elt F) → (⟨S_, .i32⟩ : BufTy).Contents (Elt F)),
    StableHlo.unary main_v32 main_v33 (id : (⟨S_, .i32⟩ : BufTy).Contents (Elt F) → (⟨S_, .i32⟩ : BufTy).Contents (Elt F)),
    StableHlo.unary main_v33 main_v34 (broadcastInDim S1 ![] bcast_S_S1 : (⟨S_, .i32⟩ : BufTy).Contents (Elt F) → (⟨S1, .i32⟩ : BufTy).Contents (Elt F)),
    StableHlo.nullary main_c_6 (constantI S_ 32 4294967295#32),
    StableHlo.binary main_c_4 main_c_6 main_v35 (andi : (⟨S_, .i32⟩ : BufTy).Contents (Elt F) → (⟨S_, .i32⟩ : BufTy).Contents (Elt F) → (⟨S_, .i32⟩ : BufTy).Contents (Elt F)),
    StableHlo.unary main_v35 main_v36 (id : (⟨S_, .i32⟩ : BufTy).Contents (Elt F) → (⟨S_, .i32⟩ : BufTy).Contents (Elt F)),
    StableHlo.unary main_v36 main_v37 (broadcastInDim S1 ![] bcast_S_S1 : (⟨S_, .i32⟩ : BufTy).Contents (Elt F) → (⟨S1, .i32⟩ : BufTy).Contents (Elt F)),
    StableHlo.binary main_v34 main_v37 main_v38 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.TRef.nullary (.of main_call5_cst : StableHlo.TRef sig ⟨S_, .f32⟩) (constant S_ .f32 0x3F800000#32),
    StableHlo.TRef.nullary (.of main_call5_cst_0 : StableHlo.TRef sig ⟨S_, .f32⟩) (constant S_ .f32 0x00800000#32),
    StableHlo.TRef.unary (.of main_call5_cst : StableHlo.TRef sig ⟨S_, .f32⟩) (.of main_call5_call0_v0 : StableHlo.TRef sig ⟨S_, .f32⟩) id,
    StableHlo.TRef.unary (.of main_call5_cst_0 : StableHlo.TRef sig ⟨S_, .f32⟩) (.of main_call5_call0_v1 : StableHlo.TRef sig ⟨S1x1, .f32⟩) (broadcastInDim S1x1 ![] bcast_S_S1x1),
    StableHlo.TRef.unary (.of main_call5_call0_v0 : StableHlo.TRef sig ⟨S_, .f32⟩) (.of main_call5_call0_v2 : StableHlo.TRef sig ⟨S1x1, .f32⟩) (broadcastInDim S1x1 ![] bcast_S_S1x1),
    StableHlo.TRef.unary (.of main_v38 : StableHlo.TRef sig ⟨S2, .i32⟩) (.of main_call5_call0_v3 : StableHlo.TRef sig ⟨S1, .i32⟩) (extractStridedSlice S1 ![0] · slices_S2_S1_0),
    StableHlo.TRef.reshape (.of main_call5_call0_v3 : StableHlo.TRef sig ⟨S1, .i32⟩) (.of main_call5_call0_v4 : StableHlo.TRef sig ⟨S_, .i32⟩) (rfl : (.i32 : EltTy) = .i32) shapeCasts_S1_S_,
    StableHlo.TRef.unary (.of main_v38 : StableHlo.TRef sig ⟨S2, .i32⟩) (.of main_call5_call0_v5 : StableHlo.TRef sig ⟨S1, .i32⟩) (extractStridedSlice S1 ![1] · slices_S2_S1_1),
    StableHlo.TRef.reshape (.of main_call5_call0_v5 : StableHlo.TRef sig ⟨S1, .i32⟩) (.of main_call5_call0_v6 : StableHlo.TRef sig ⟨S_, .i32⟩) (rfl : (.i32 : EltTy) = .i32) shapeCasts_S1_S_,
    StableHlo.TRef.nullary (.of main_call5_call0_v7 : StableHlo.TRef sig ⟨S128x100000, .i64⟩) (iotaInDim S128x100000 64 0),
    StableHlo.TRef.nullary (.of main_call5_call0_v8 : StableHlo.TRef sig ⟨S128x100000, .i64⟩) (iotaInDim S128x100000 64 1),
    StableHlo.TRef.nullary (.of main_call5_call0_c : StableHlo.TRef sig ⟨S_, .i64⟩) (constantI S_ 64 100000#64),
    StableHlo.TRef.unary (.of main_call5_call0_c : StableHlo.TRef sig ⟨S_, .i64⟩) (.of main_call5_call0_v9 : StableHlo.TRef sig ⟨S128x100000, .i64⟩) (broadcastInDim S128x100000 ![] bcast_S_S128x100000),
    StableHlo.TRef.binary (.of main_call5_call0_v9 : StableHlo.TRef sig ⟨S128x100000, .i64⟩) (.of main_call5_call0_v7 : StableHlo.TRef sig ⟨S128x100000, .i64⟩) (.of main_call5_call0_v10 : StableHlo.TRef sig ⟨S128x100000, .i64⟩) muli,
    StableHlo.TRef.nullary (.of main_call5_call0_c_0 : StableHlo.TRef sig ⟨S_, .i64⟩) (constantI S_ 64 1#64),
    StableHlo.TRef.unary (.of main_call5_call0_c_0 : StableHlo.TRef sig ⟨S_, .i64⟩) (.of main_call5_call0_v11 : StableHlo.TRef sig ⟨S128x100000, .i64⟩) (broadcastInDim S128x100000 ![] bcast_S_S128x100000),
    StableHlo.TRef.binary (.of main_call5_call0_v11 : StableHlo.TRef sig ⟨S128x100000, .i64⟩) (.of main_call5_call0_v8 : StableHlo.TRef sig ⟨S128x100000, .i64⟩) (.of main_call5_call0_v12 : StableHlo.TRef sig ⟨S128x100000, .i64⟩) muli,
    StableHlo.TRef.binary (.of main_call5_call0_v10 : StableHlo.TRef sig ⟨S128x100000, .i64⟩) (.of main_call5_call0_v12 : StableHlo.TRef sig ⟨S128x100000, .i64⟩) (.of main_call5_call0_v13 : StableHlo.TRef sig ⟨S128x100000, .i64⟩) addi,
    StableHlo.TRef.nullary (.of main_call5_call0_c_1 : StableHlo.TRef sig ⟨S_, .i64⟩) (constantI S_ 64 32#64),
    StableHlo.TRef.unary (.of main_call5_call0_c_1 : StableHlo.TRef sig ⟨S_, .i64⟩) (.of main_call5_call0_v14 : StableHlo.TRef sig ⟨S128x100000, .i64⟩) (broadcastInDim S128x100000 ![] bcast_S_S128x100000),
    StableHlo.TRef.binary (.of main_call5_call0_v13 : StableHlo.TRef sig ⟨S128x100000, .i64⟩) (.of main_call5_call0_v14 : StableHlo.TRef sig ⟨S128x100000, .i64⟩) (.of main_call5_call0_v15 : StableHlo.TRef sig ⟨S128x100000, .i64⟩) Host.shrui,
    StableHlo.TRef.unary (.of main_call5_call0_v13 : StableHlo.TRef sig ⟨S128x100000, .i64⟩) (.of main_call5_call0_v16 : StableHlo.TRef sig ⟨S128x100000, .i32⟩) (trunci 32 · natLt_32_64),
    StableHlo.TRef.unary (.of main_call5_call0_v15 : StableHlo.TRef sig ⟨S128x100000, .i64⟩) (.of main_call5_call0_v17 : StableHlo.TRef sig ⟨S128x100000, .i32⟩) (trunci 32 · natLt_32_64),
    StableHlo.TRef.binary (.of main_call5_call0_v4 : StableHlo.TRef sig ⟨S_, .i32⟩) (.of main_call5_call0_v6 : StableHlo.TRef sig ⟨S_, .i32⟩) (.of main_call5_call0_call0_v0 : StableHlo.TRef sig ⟨S_, .i32⟩) xori,
    StableHlo.TRef.nullary (.of main_call5_call0_call0_c : StableHlo.TRef sig ⟨S_, .i32⟩) (constantI S_ 32 466688986#32),
    StableHlo.TRef.binary (.of main_call5_call0_call0_v0 : StableHlo.TRef sig ⟨S_, .i32⟩) (.of main_call5_call0_call0_c : StableHlo.TRef sig ⟨S_, .i32⟩) (.of main_call5_call0_call0_v1 : StableHlo.TRef sig ⟨S_, .i32⟩) xori,
    StableHlo.TRef.unary (.of main_call5_call0_v4 : StableHlo.TRef sig ⟨S_, .i32⟩) (.of main_call5_call0_call0_v2 : StableHlo.TRef sig ⟨S128x100000, .i32⟩) (broadcastInDim S128x100000 ![] bcast_S_S128x100000),
    StableHlo.TRef.binary (.of main_call5_call0_v17 : StableHlo.TRef sig ⟨S128x100000, .i32⟩) (.of main_call5_call0_call0_v2 : StableHlo.TRef sig ⟨S128x100000, .i32⟩) (.of main_call5_call0_call0_v3 : StableHlo.TRef sig ⟨S128x100000, .i32⟩) addi,
    StableHlo.TRef.unary (.of main_call5_call0_v6 : StableHlo.TRef sig ⟨S_, .i32⟩) (.of main_call5_call0_call0_v4 : StableHlo.TRef sig ⟨S128x100000, .i32⟩) (broadcastInDim S128x100000 ![] bcast_S_S128x100000),
    StableHlo.TRef.binary (.of main_call5_call0_v16 : StableHlo.TRef sig ⟨S128x100000, .i32⟩) (.of main_call5_call0_call0_v4 : StableHlo.TRef sig ⟨S128x100000, .i32⟩) (.of main_call5_call0_call0_v5 : StableHlo.TRef sig ⟨S128x100000, .i32⟩) addi,
    StableHlo.TRef.binary (.of main_call5_call0_call0_v3 : StableHlo.TRef sig ⟨S128x100000, .i32⟩) (.of main_call5_call0_call0_v5 : StableHlo.TRef sig ⟨S128x100000, .i32⟩) (.of main_call5_call0_call0_v6 : StableHlo.TRef sig ⟨S128x100000, .i32⟩) addi,
    StableHlo.TRef.nullary (.of main_call5_call0_call0_c_0 : StableHlo.TRef sig ⟨S_, .i32⟩) (constantI S_ 32 13#32),
    StableHlo.TRef.unary (.of main_call5_call0_call0_c_0 : StableHlo.TRef sig ⟨S_, .i32⟩) (.of main_call5_call0_call0_v7 : StableHlo.TRef sig ⟨S128x100000, .i32⟩) (broadcastInDim S128x100000 ![] bcast_S_S128x100000),
    StableHlo.TRef.binary (.of main_call5_call0_call0_v5 : StableHlo.TRef sig ⟨S128x100000, .i32⟩) (.of main_call5_call0_call0_v7 : StableHlo.TRef sig ⟨S128x100000, .i32⟩) (.of main_call5_call0_call0_v8 : StableHlo.TRef sig ⟨S128x100000, .i32⟩) Host.shli,
    StableHlo.TRef.nullary (.of main_call5_call0_call0_c_1 : StableHlo.TRef sig ⟨S_, .i32⟩) (constantI S_ 32 19#32),
    StableHlo.TRef.unary (.of main_call5_call0_call0_c_1 : StableHlo.TRef sig ⟨S_, .i32⟩) (.of main_call5_call0_call0_v9 : StableHlo.TRef sig ⟨S128x100000, .i32⟩) (broadcastInDim S128x100000 ![] bcast_S_S128x100000),
    StableHlo.TRef.binary (.of main_call5_call0_call0_v5 : StableHlo.TRef sig ⟨S128x100000, .i32⟩) (.of main_call5_call0_call0_v9 : StableHlo.TRef sig ⟨S128x100000, .i32⟩) (.of main_call5_call0_call0_v10 : StableHlo.TRef sig ⟨S128x100000, .i32⟩) Host.shrui,
    StableHlo.TRef.binary (.of main_call5_call0_call0_v8 : StableHlo.TRef sig ⟨S128x100000, .i32⟩) (.of main_call5_call0_call0_v10 : StableHlo.TRef sig ⟨S128x100000, .i32⟩) (.of main_call5_call0_call0_v11 : StableHlo.TRef sig ⟨S128x100000, .i32⟩) ori,
    StableHlo.TRef.binary (.of main_call5_call0_call0_v6 : StableHlo.TRef sig ⟨S128x100000, .i32⟩) (.of main_call5_call0_call0_v11 : StableHlo.TRef sig ⟨S128x100000, .i32⟩) (.of main_call5_call0_call0_v12 : StableHlo.TRef sig ⟨S128x100000, .i32⟩) xori,
    StableHlo.TRef.binary (.of main_call5_call0_call0_v6 : StableHlo.TRef sig ⟨S128x100000, .i32⟩) (.of main_call5_call0_call0_v12 : StableHlo.TRef sig ⟨S128x100000, .i32⟩) (.of main_call5_call0_call0_v13 : StableHlo.TRef sig ⟨S128x100000, .i32⟩) addi,
    StableHlo.TRef.nullary (.of main_call5_call0_call0_c_2 : StableHlo.TRef sig ⟨S_, .i32⟩) (constantI S_ 32 15#32),
    StableHlo.TRef.unary (.of main_call5_call0_call0_c_2 : StableHlo.TRef sig ⟨S_, .i32⟩) (.of main_call5_call0_call0_v14 : StableHlo.TRef sig ⟨S128x100000, .i32⟩) (broadcastInDim S128x100000 ![] bcast_S_S128x100000),
    StableHlo.TRef.binary (.of main_call5_call0_call0_v12 : StableHlo.TRef sig ⟨S128x100000, .i32⟩) (.of main_call5_call0_call0_v14 : StableHlo.TRef sig ⟨S128x100000, .i32⟩) (.of main_call5_call0_call0_v15 : StableHlo.TRef sig ⟨S128x100000, .i32⟩) Host.shli,
    StableHlo.TRef.nullary (.of main_call5_call0_call0_c_3 : StableHlo.TRef sig ⟨S_, .i32⟩) (constantI S_ 32 17#32),
    StableHlo.TRef.unary (.of main_call5_call0_call0_c_3 : StableHlo.TRef sig ⟨S_, .i32⟩) (.of main_call5_call0_call0_v16 : StableHlo.TRef sig ⟨S128x100000, .i32⟩) (broadcastInDim S128x100000 ![] bcast_S_S128x100000),
    StableHlo.TRef.binary (.of main_call5_call0_call0_v12 : StableHlo.TRef sig ⟨S128x100000, .i32⟩) (.of main_call5_call0_call0_v16 : StableHlo.TRef sig ⟨S128x100000, .i32⟩) (.of main_call5_call0_call0_v17 : StableHlo.TRef sig ⟨S128x100000, .i32⟩) Host.shrui,
    StableHlo.TRef.binary (.of main_call5_call0_call0_v15 : StableHlo.TRef sig ⟨S128x100000, .i32⟩) (.of main_call5_call0_call0_v17 : StableHlo.TRef sig ⟨S128x100000, .i32⟩) (.of main_call5_call0_call0_v18 : StableHlo.TRef sig ⟨S128x100000, .i32⟩) ori,
    StableHlo.TRef.binary (.of main_call5_call0_call0_v13 : StableHlo.TRef sig ⟨S128x100000, .i32⟩) (.of main_call5_call0_call0_v18 : StableHlo.TRef sig ⟨S128x100000, .i32⟩) (.of main_call5_call0_call0_v19 : StableHlo.TRef sig ⟨S128x100000, .i32⟩) xori,
    StableHlo.TRef.binary (.of main_call5_call0_call0_v13 : StableHlo.TRef sig ⟨S128x100000, .i32⟩) (.of main_call5_call0_call0_v19 : StableHlo.TRef sig ⟨S128x100000, .i32⟩) (.of main_call5_call0_call0_v20 : StableHlo.TRef sig ⟨S128x100000, .i32⟩) addi,
    StableHlo.TRef.nullary (.of main_call5_call0_call0_c_4 : StableHlo.TRef sig ⟨S_, .i32⟩) (constantI S_ 32 26#32),
    StableHlo.TRef.unary (.of main_call5_call0_call0_c_4 : StableHlo.TRef sig ⟨S_, .i32⟩) (.of main_call5_call0_call0_v21 : StableHlo.TRef sig ⟨S128x100000, .i32⟩) (broadcastInDim S128x100000 ![] bcast_S_S128x100000),
    StableHlo.TRef.binary (.of main_call5_call0_call0_v19 : StableHlo.TRef sig ⟨S128x100000, .i32⟩) (.of main_call5_call0_call0_v21 : StableHlo.TRef sig ⟨S128x100000, .i32⟩) (.of main_call5_call0_call0_v22 : StableHlo.TRef sig ⟨S128x100000, .i32⟩) Host.shli,
    StableHlo.TRef.nullary (.of main_call5_call0_call0_c_5 : StableHlo.TRef sig ⟨S_, .i32⟩) (constantI S_ 32 6#32),
    StableHlo.TRef.unary (.of main_call5_call0_call0_c_5 : StableHlo.TRef sig ⟨S_, .i32⟩) (.of main_call5_call0_call0_v23 : StableHlo.TRef sig ⟨S128x100000, .i32⟩) (broadcastInDim S128x100000 ![] bcast_S_S128x100000),
    StableHlo.TRef.binary (.of main_call5_call0_call0_v19 : StableHlo.TRef sig ⟨S128x100000, .i32⟩) (.of main_call5_call0_call0_v23 : StableHlo.TRef sig ⟨S128x100000, .i32⟩) (.of main_call5_call0_call0_v24 : StableHlo.TRef sig ⟨S128x100000, .i32⟩) Host.shrui,
    StableHlo.TRef.binary (.of main_call5_call0_call0_v22 : StableHlo.TRef sig ⟨S128x100000, .i32⟩) (.of main_call5_call0_call0_v24 : StableHlo.TRef sig ⟨S128x100000, .i32⟩) (.of main_call5_call0_call0_v25 : StableHlo.TRef sig ⟨S128x100000, .i32⟩) ori,
    StableHlo.TRef.binary (.of main_call5_call0_call0_v20 : StableHlo.TRef sig ⟨S128x100000, .i32⟩) (.of main_call5_call0_call0_v25 : StableHlo.TRef sig ⟨S128x100000, .i32⟩) (.of main_call5_call0_call0_v26 : StableHlo.TRef sig ⟨S128x100000, .i32⟩) xori,
    StableHlo.TRef.binary (.of main_call5_call0_call0_v20 : StableHlo.TRef sig ⟨S128x100000, .i32⟩) (.of main_call5_call0_call0_v26 : StableHlo.TRef sig ⟨S128x100000, .i32⟩) (.of main_call5_call0_call0_v27 : StableHlo.TRef sig ⟨S128x100000, .i32⟩) addi,
    StableHlo.TRef.nullary (.of main_call5_call0_call0_c_6 : StableHlo.TRef sig ⟨S_, .i32⟩) (constantI S_ 32 6#32),
    StableHlo.TRef.unary (.of main_call5_call0_call0_c_6 : StableHlo.TRef sig ⟨S_, .i32⟩) (.of main_call5_call0_call0_v28 : StableHlo.TRef sig ⟨S128x100000, .i32⟩) (broadcastInDim S128x100000 ![] bcast_S_S128x100000),
    StableHlo.TRef.binary (.of main_call5_call0_call0_v26 : StableHlo.TRef sig ⟨S128x100000, .i32⟩) (.of main_call5_call0_call0_v28 : StableHlo.TRef sig ⟨S128x100000, .i32⟩) (.of main_call5_call0_call0_v29 : StableHlo.TRef sig ⟨S128x100000, .i32⟩) Host.shli,
    StableHlo.TRef.nullary (.of main_call5_call0_call0_c_7 : StableHlo.TRef sig ⟨S_, .i32⟩) (constantI S_ 32 26#32),
    StableHlo.TRef.unary (.of main_call5_call0_call0_c_7 : StableHlo.TRef sig ⟨S_, .i32⟩) (.of main_call5_call0_call0_v30 : StableHlo.TRef sig ⟨S128x100000, .i32⟩) (broadcastInDim S128x100000 ![] bcast_S_S128x100000),
    StableHlo.TRef.binary (.of main_call5_call0_call0_v26 : StableHlo.TRef sig ⟨S128x100000, .i32⟩) (.of main_call5_call0_call0_v30 : StableHlo.TRef sig ⟨S128x100000, .i32⟩) (.of main_call5_call0_call0_v31 : StableHlo.TRef sig ⟨S128x100000, .i32⟩) Host.shrui,
    StableHlo.TRef.binary (.of main_call5_call0_call0_v29 : StableHlo.TRef sig ⟨S128x100000, .i32⟩) (.of main_call5_call0_call0_v31 : StableHlo.TRef sig ⟨S128x100000, .i32⟩) (.of main_call5_call0_call0_v32 : StableHlo.TRef sig ⟨S128x100000, .i32⟩) ori,
    StableHlo.TRef.binary (.of main_call5_call0_call0_v27 : StableHlo.TRef sig ⟨S128x100000, .i32⟩) (.of main_call5_call0_call0_v32 : StableHlo.TRef sig ⟨S128x100000, .i32⟩) (.of main_call5_call0_call0_v33 : StableHlo.TRef sig ⟨S128x100000, .i32⟩) xori,
    StableHlo.TRef.unary (.of main_call5_call0_v6 : StableHlo.TRef sig ⟨S_, .i32⟩) (.of main_call5_call0_call0_v34 : StableHlo.TRef sig ⟨S128x100000, .i32⟩) (broadcastInDim S128x100000 ![] bcast_S_S128x100000),
    StableHlo.TRef.binary (.of main_call5_call0_call0_v27 : StableHlo.TRef sig ⟨S128x100000, .i32⟩) (.of main_call5_call0_call0_v34 : StableHlo.TRef sig ⟨S128x100000, .i32⟩) (.of main_call5_call0_call0_v35 : StableHlo.TRef sig ⟨S128x100000, .i32⟩) addi,
    StableHlo.TRef.unary (.of main_call5_call0_call0_v1 : StableHlo.TRef sig ⟨S_, .i32⟩) (.of main_call5_call0_call0_v36 : StableHlo.TRef sig ⟨S128x100000, .i32⟩) (broadcastInDim S128x100000 ![] bcast_S_S128x100000),
    StableHlo.TRef.binary (.of main_call5_call0_call0_v33 : StableHlo.TRef sig ⟨S128x100000, .i32⟩) (.of main_call5_call0_call0_v36 : StableHlo.TRef sig ⟨S128x100000, .i32⟩) (.of main_call5_call0_call0_v37 : StableHlo.TRef sig ⟨S128x100000, .i32⟩) addi,
    StableHlo.TRef.nullary (.of main_call5_call0_call0_c_8 : StableHlo.TRef sig ⟨S_, .i32⟩) (constantI S_ 32 1#32),
    StableHlo.TRef.unary (.of main_call5_call0_call0_c_8 : StableHlo.TRef sig ⟨S_, .i32⟩) (.of main_call5_call0_call0_v38 : StableHlo.TRef sig ⟨S128x100000, .i32⟩) (broadcastInDim S128x100000 ![] bcast_S_S128x100000),
    StableHlo.TRef.binary (.of main_call5_call0_call0_v37 : StableHlo.TRef sig ⟨S128x100000, .i32⟩) (.of main_call5_call0_call0_v38 : StableHlo.TRef sig ⟨S128x100000, .i32⟩) (.of main_call5_call0_call0_v39 : StableHlo.TRef sig ⟨S128x100000, .i32⟩) addi,
    StableHlo.TRef.binary (.of main_call5_call0_call0_v35 : StableHlo.TRef sig ⟨S128x100000, .i32⟩) (.of main_call5_call0_call0_v39 : StableHlo.TRef sig ⟨S128x100000, .i32⟩) (.of main_call5_call0_call0_v40 : StableHlo.TRef sig ⟨S128x100000, .i32⟩) addi,
    StableHlo.TRef.nullary (.of main_call5_call0_call0_c_9 : StableHlo.TRef sig ⟨S_, .i32⟩) (constantI S_ 32 17#32),
    StableHlo.TRef.unary (.of main_call5_call0_call0_c_9 : StableHlo.TRef sig ⟨S_, .i32⟩) (.of main_call5_call0_call0_v41 : StableHlo.TRef sig ⟨S128x100000, .i32⟩) (broadcastInDim S128x100000 ![] bcast_S_S128x100000),
    StableHlo.TRef.binary (.of main_call5_call0_call0_v39 : StableHlo.TRef sig ⟨S128x100000, .i32⟩) (.of main_call5_call0_call0_v41 : StableHlo.TRef sig ⟨S128x100000, .i32⟩) (.of main_call5_call0_call0_v42 : StableHlo.TRef sig ⟨S128x100000, .i32⟩) Host.shli,
    StableHlo.TRef.nullary (.of main_call5_call0_call0_c_10 : StableHlo.TRef sig ⟨S_, .i32⟩) (constantI S_ 32 15#32),
    StableHlo.TRef.unary (.of main_call5_call0_call0_c_10 : StableHlo.TRef sig ⟨S_, .i32⟩) (.of main_call5_call0_call0_v43 : StableHlo.TRef sig ⟨S128x100000, .i32⟩) (broadcastInDim S128x100000 ![] bcast_S_S128x100000),
    StableHlo.TRef.binary (.of main_call5_call0_call0_v39 : StableHlo.TRef sig ⟨S128x100000, .i32⟩) (.of main_call5_call0_call0_v43 : StableHlo.TRef sig ⟨S128x100000, .i32⟩) (.of main_call5_call0_call0_v44 : StableHlo.TRef sig ⟨S128x100000, .i32⟩) Host.shrui,
    StableHlo.TRef.binary (.of main_call5_call0_call0_v42 : StableHlo.TRef sig ⟨S128x100000, .i32⟩) (.of main_call5_call0_call0_v44 : StableHlo.TRef sig ⟨S128x100000, .i32⟩) (.of main_call5_call0_call0_v45 : StableHlo.TRef sig ⟨S128x100000, .i32⟩) ori,
    StableHlo.TRef.binary (.of main_call5_call0_call0_v40 : StableHlo.TRef sig ⟨S128x100000, .i32⟩) (.of main_call5_call0_call0_v45 : StableHlo.TRef sig ⟨S128x100000, .i32⟩) (.of main_call5_call0_call0_v46 : StableHlo.TRef sig ⟨S128x100000, .i32⟩) xori,
    StableHlo.TRef.binary (.of main_call5_call0_call0_v40 : StableHlo.TRef sig ⟨S128x100000, .i32⟩) (.of main_call5_call0_call0_v46 : StableHlo.TRef sig ⟨S128x100000, .i32⟩) (.of main_call5_call0_call0_v47 : StableHlo.TRef sig ⟨S128x100000, .i32⟩) addi,
    StableHlo.TRef.nullary (.of main_call5_call0_call0_c_11 : StableHlo.TRef sig ⟨S_, .i32⟩) (constantI S_ 32 29#32),
    StableHlo.TRef.unary (.of main_call5_call0_call0_c_11 : StableHlo.TRef sig ⟨S_, .i32⟩) (.of main_call5_call0_call0_v48 : StableHlo.TRef sig ⟨S128x100000, .i32⟩) (broadcastInDim S128x100000 ![] bcast_S_S128x100000),
    StableHlo.TRef.binary (.of main_call5_call0_call0_v46 : StableHlo.TRef sig ⟨S128x100000, .i32⟩) (.of main_call5_call0_call0_v48 : StableHlo.TRef sig ⟨S128x100000, .i32⟩) (.of main_call5_call0_call0_v49 : StableHlo.TRef sig ⟨S128x100000, .i32⟩) Host.shli,
    StableHlo.TRef.nullary (.of main_call5_call0_call0_c_12 : StableHlo.TRef sig ⟨S_, .i32⟩) (constantI S_ 32 3#32),
    StableHlo.TRef.unary (.of main_call5_call0_call0_c_12 : StableHlo.TRef sig ⟨S_, .i32⟩) (.of main_call5_call0_call0_v50 : StableHlo.TRef sig ⟨S128x100000, .i32⟩) (broadcastInDim S128x100000 ![] bcast_S_S128x100000),
    StableHlo.TRef.binary (.of main_call5_call0_call0_v46 : StableHlo.TRef sig ⟨S128x100000, .i32⟩) (.of main_call5_call0_call0_v50 : StableHlo.TRef sig ⟨S128x100000, .i32⟩) (.of main_call5_call0_call0_v51 : StableHlo.TRef sig ⟨S128x100000, .i32⟩) Host.shrui,
    StableHlo.TRef.binary (.of main_call5_call0_call0_v49 : StableHlo.TRef sig ⟨S128x100000, .i32⟩) (.of main_call5_call0_call0_v51 : StableHlo.TRef sig ⟨S128x100000, .i32⟩) (.of main_call5_call0_call0_v52 : StableHlo.TRef sig ⟨S128x100000, .i32⟩) ori,
    StableHlo.TRef.binary (.of main_call5_call0_call0_v47 : StableHlo.TRef sig ⟨S128x100000, .i32⟩) (.of main_call5_call0_call0_v52 : StableHlo.TRef sig ⟨S128x100000, .i32⟩) (.of main_call5_call0_call0_v53 : StableHlo.TRef sig ⟨S128x100000, .i32⟩) xori,
    StableHlo.TRef.binary (.of main_call5_call0_call0_v47 : StableHlo.TRef sig ⟨S128x100000, .i32⟩) (.of main_call5_call0_call0_v53 : StableHlo.TRef sig ⟨S128x100000, .i32⟩) (.of main_call5_call0_call0_v54 : StableHlo.TRef sig ⟨S128x100000, .i32⟩) addi,
    StableHlo.TRef.nullary (.of main_call5_call0_call0_c_13 : StableHlo.TRef sig ⟨S_, .i32⟩) (constantI S_ 32 16#32),
    StableHlo.TRef.unary (.of main_call5_call0_call0_c_13 : StableHlo.TRef sig ⟨S_, .i32⟩) (.of main_call5_call0_call0_v55 : StableHlo.TRef sig ⟨S128x100000, .i32⟩) (broadcastInDim S128x100000 ![] bcast_S_S128x100000),
    StableHlo.TRef.binary (.of main_call5_call0_call0_v53 : StableHlo.TRef sig ⟨S128x100000, .i32⟩) (.of main_call5_call0_call0_v55 : StableHlo.TRef sig ⟨S128x100000, .i32⟩) (.of main_call5_call0_call0_v56 : StableHlo.TRef sig ⟨S128x100000, .i32⟩) Host.shli,
    StableHlo.TRef.nullary (.of main_call5_call0_call0_c_14 : StableHlo.TRef sig ⟨S_, .i32⟩) (constantI S_ 32 16#32),
    StableHlo.TRef.unary (.of main_call5_call0_call0_c_14 : StableHlo.TRef sig ⟨S_, .i32⟩) (.of main_call5_call0_call0_v57 : StableHlo.TRef sig ⟨S128x100000, .i32⟩) (broadcastInDim S128x100000 ![] bcast_S_S128x100000),
    StableHlo.TRef.binary (.of main_call5_call0_call0_v53 : StableHlo.TRef sig ⟨S128x100000, .i32⟩) (.of main_call5_call0_call0_v57 : StableHlo.TRef sig ⟨S128x100000, .i32⟩) (.of main_call5_call0_call0_v58 : StableHlo.TRef sig ⟨S128x100000, .i32⟩) Host.shrui,
    StableHlo.TRef.binary (.of main_call5_call0_call0_v56 : StableHlo.TRef sig ⟨S128x100000, .i32⟩) (.of main_call5_call0_call0_v58 : StableHlo.TRef sig ⟨S128x100000, .i32⟩) (.of main_call5_call0_call0_v59 : StableHlo.TRef sig ⟨S128x100000, .i32⟩) ori,
    StableHlo.TRef.binary (.of main_call5_call0_call0_v54 : StableHlo.TRef sig ⟨S128x100000, .i32⟩) (.of main_call5_call0_call0_v59 : StableHlo.TRef sig ⟨S128x100000, .i32⟩) (.of main_call5_call0_call0_v60 : StableHlo.TRef sig ⟨S128x100000, .i32⟩) xori,
    StableHlo.TRef.binary (.of main_call5_call0_call0_v54 : StableHlo.TRef sig ⟨S128x100000, .i32⟩) (.of main_call5_call0_call0_v60 : StableHlo.TRef sig ⟨S128x100000, .i32⟩) (.of main_call5_call0_call0_v61 : StableHlo.TRef sig ⟨S128x100000, .i32⟩) addi,
    StableHlo.TRef.nullary (.of main_call5_call0_call0_c_15 : StableHlo.TRef sig ⟨S_, .i32⟩) (constantI S_ 32 24#32),
    StableHlo.TRef.unary (.of main_call5_call0_call0_c_15 : StableHlo.TRef sig ⟨S_, .i32⟩) (.of main_call5_call0_call0_v62 : StableHlo.TRef sig ⟨S128x100000, .i32⟩) (broadcastInDim S128x100000 ![] bcast_S_S128x100000),
    StableHlo.TRef.binary (.of main_call5_call0_call0_v60 : StableHlo.TRef sig ⟨S128x100000, .i32⟩) (.of main_call5_call0_call0_v62 : StableHlo.TRef sig ⟨S128x100000, .i32⟩) (.of main_call5_call0_call0_v63 : StableHlo.TRef sig ⟨S128x100000, .i32⟩) Host.shli,
    StableHlo.TRef.nullary (.of main_call5_call0_call0_c_16 : StableHlo.TRef sig ⟨S_, .i32⟩) (constantI S_ 32 8#32),
    StableHlo.TRef.unary (.of main_call5_call0_call0_c_16 : StableHlo.TRef sig ⟨S_, .i32⟩) (.of main_call5_call0_call0_v64 : StableHlo.TRef sig ⟨S128x100000, .i32⟩) (broadcastInDim S128x100000 ![] bcast_S_S128x100000),
    StableHlo.TRef.binary (.of main_call5_call0_call0_v60 : StableHlo.TRef sig ⟨S128x100000, .i32⟩) (.of main_call5_call0_call0_v64 : StableHlo.TRef sig ⟨S128x100000, .i32⟩) (.of main_call5_call0_call0_v65 : StableHlo.TRef sig ⟨S128x100000, .i32⟩) Host.shrui,
    StableHlo.TRef.binary (.of main_call5_call0_call0_v63 : StableHlo.TRef sig ⟨S128x100000, .i32⟩) (.of main_call5_call0_call0_v65 : StableHlo.TRef sig ⟨S128x100000, .i32⟩) (.of main_call5_call0_call0_v66 : StableHlo.TRef sig ⟨S128x100000, .i32⟩) ori,
    StableHlo.TRef.binary (.of main_call5_call0_call0_v61 : StableHlo.TRef sig ⟨S128x100000, .i32⟩) (.of main_call5_call0_call0_v66 : StableHlo.TRef sig ⟨S128x100000, .i32⟩) (.of main_call5_call0_call0_v67 : StableHlo.TRef sig ⟨S128x100000, .i32⟩) xori,
    StableHlo.TRef.unary (.of main_call5_call0_call0_v1 : StableHlo.TRef sig ⟨S_, .i32⟩) (.of main_call5_call0_call0_v68 : StableHlo.TRef sig ⟨S128x100000, .i32⟩) (broadcastInDim S128x100000 ![] bcast_S_S128x100000),
    StableHlo.TRef.binary (.of main_call5_call0_call0_v61 : StableHlo.TRef sig ⟨S128x100000, .i32⟩) (.of main_call5_call0_call0_v68 : StableHlo.TRef sig ⟨S128x100000, .i32⟩) (.of main_call5_call0_call0_v69 : StableHlo.TRef sig ⟨S128x100000, .i32⟩) addi,
    StableHlo.TRef.unary (.of main_call5_call0_v4 : StableHlo.TRef sig ⟨S_, .i32⟩) (.of main_call5_call0_call0_v70 : StableHlo.TRef sig ⟨S128x100000, .i32⟩) (broadcastInDim S128x100000 ![] bcast_S_S128x100000),
    StableHlo.TRef.binary (.of main_call5_call0_call0_v67 : StableHlo.TRef sig ⟨S128x100000, .i32⟩) (.of main_call5_call0_call0_v70 : StableHlo.TRef sig ⟨S128x100000, .i32⟩) (.of main_call5_call0_call0_v71 : StableHlo.TRef sig ⟨S128x100000, .i32⟩) addi,
    StableHlo.TRef.nullary (.of main_call5_call0_call0_c_17 : StableHlo.TRef sig ⟨S_, .i32⟩) (constantI S_ 32 2#32),
    StableHlo.TRef.unary (.of main_call5_call0_call0_c_17 : StableHlo.TRef sig ⟨S_, .i32⟩) (.of main_call5_call0_call0_v72 : StableHlo.TRef sig ⟨S128x100000, .i32⟩) (broadcastInDim S128x100000 ![] bcast_S_S128x100000),
    StableHlo.TRef.binary (.of main_call5_call0_call0_v71 : StableHlo.TRef sig ⟨S128x100000, .i32⟩) (.of main_call5_call0_call0_v72 : StableHlo.TRef sig ⟨S128x100000, .i32⟩) (.of main_call5_call0_call0_v73 : StableHlo.TRef sig ⟨S128x100000, .i32⟩) addi,
    StableHlo.TRef.binary (.of main_call5_call0_call0_v69 : StableHlo.TRef sig ⟨S128x100000, .i32⟩) (.of main_call5_call0_call0_v73 : StableHlo.TRef sig ⟨S128x100000, .i32⟩) (.of main_call5_call0_call0_v74 : StableHlo.TRef sig ⟨S128x100000, .i32⟩) addi,
    StableHlo.TRef.nullary (.of main_call5_call0_call0_c_18 : StableHlo.TRef sig ⟨S_, .i32⟩) (constantI S_ 32 13#32),
    StableHlo.TRef.unary (.of main_call5_call0_call0_c_18 : StableHlo.TRef sig ⟨S_, .i32⟩) (.of main_call5_call0_call0_v75 : StableHlo.TRef sig ⟨S128x100000, .i32⟩) (broadcastInDim S128x100000 ![] bcast_S_S128x100000),
    StableHlo.TRef.binary (.of main_call5_call0_call0_v73 : StableHlo.TRef sig ⟨S128x100000, .i32⟩) (.of main_call5_call0_call0_v75 : StableHlo.TRef sig ⟨S128x100000, .i32⟩) (.of main_call5_call0_call0_v76 : StableHlo.TRef sig ⟨S128x100000, .i32⟩) Host.shli,
    StableHlo.TRef.nullary (.of main_call5_call0_call0_c_19 : StableHlo.TRef sig ⟨S_, .i32⟩) (constantI S_ 32 19#32),
    StableHlo.TRef.unary (.of main_call5_call0_call0_c_19 : StableHlo.TRef sig ⟨S_, .i32⟩) (.of main_call5_call0_call0_v77 : StableHlo.TRef sig ⟨S128x100000, .i32⟩) (broadcastInDim S128x100000 ![] bcast_S_S128x100000),
    StableHlo.TRef.binary (.of main_call5_call0_call0_v73 : StableHlo.TRef sig ⟨S128x100000, .i32⟩) (.of main_call5_call0_call0_v77 : StableHlo.TRef sig ⟨S128x100000, .i32⟩) (.of main_call5_call0_call0_v78 : StableHlo.TRef sig ⟨S128x100000, .i32⟩) Host.shrui,
    StableHlo.TRef.binary (.of main_call5_call0_call0_v76 : StableHlo.TRef sig ⟨S128x100000, .i32⟩) (.of main_call5_call0_call0_v78 : StableHlo.TRef sig ⟨S128x100000, .i32⟩) (.of main_call5_call0_call0_v79 : StableHlo.TRef sig ⟨S128x100000, .i32⟩) ori,
    StableHlo.TRef.binary (.of main_call5_call0_call0_v74 : StableHlo.TRef sig ⟨S128x100000, .i32⟩) (.of main_call5_call0_call0_v79 : StableHlo.TRef sig ⟨S128x100000, .i32⟩) (.of main_call5_call0_call0_v80 : StableHlo.TRef sig ⟨S128x100000, .i32⟩) xori,
    StableHlo.TRef.binary (.of main_call5_call0_call0_v74 : StableHlo.TRef sig ⟨S128x100000, .i32⟩) (.of main_call5_call0_call0_v80 : StableHlo.TRef sig ⟨S128x100000, .i32⟩) (.of main_call5_call0_call0_v81 : StableHlo.TRef sig ⟨S128x100000, .i32⟩) addi,
    StableHlo.TRef.nullary (.of main_call5_call0_call0_c_20 : StableHlo.TRef sig ⟨S_, .i32⟩) (constantI S_ 32 15#32),
    StableHlo.TRef.unary (.of main_call5_call0_call0_c_20 : StableHlo.TRef sig ⟨S_, .i32⟩) (.of main_call5_call0_call0_v82 : StableHlo.TRef sig ⟨S128x100000, .i32⟩) (broadcastInDim S128x100000 ![] bcast_S_S128x100000),
    StableHlo.TRef.binary (.of main_call5_call0_call0_v80 : StableHlo.TRef sig ⟨S128x100000, .i32⟩) (.of main_call5_call0_call0_v82 : StableHlo.TRef sig ⟨S128x100000, .i32⟩) (.of main_call5_call0_call0_v83 : StableHlo.TRef sig ⟨S128x100000, .i32⟩) Host.shli,
    StableHlo.TRef.nullary (.of main_call5_call0_call0_c_21 : StableHlo.TRef sig ⟨S_, .i32⟩) (constantI S_ 32 17#32),
    StableHlo.TRef.unary (.of main_call5_call0_call0_c_21 : StableHlo.TRef sig ⟨S_, .i32⟩) (.of main_call5_call0_call0_v84 : StableHlo.TRef sig ⟨S128x100000, .i32⟩) (broadcastInDim S128x100000 ![] bcast_S_S128x100000),
    StableHlo.TRef.binary (.of main_call5_call0_call0_v80 : StableHlo.TRef sig ⟨S128x100000, .i32⟩) (.of main_call5_call0_call0_v84 : StableHlo.TRef sig ⟨S128x100000, .i32⟩) (.of main_call5_call0_call0_v85 : StableHlo.TRef sig ⟨S128x100000, .i32⟩) Host.shrui,
    StableHlo.TRef.binary (.of main_call5_call0_call0_v83 : StableHlo.TRef sig ⟨S128x100000, .i32⟩) (.of main_call5_call0_call0_v85 : StableHlo.TRef sig ⟨S128x100000, .i32⟩) (.of main_call5_call0_call0_v86 : StableHlo.TRef sig ⟨S128x100000, .i32⟩) ori,
    StableHlo.TRef.binary (.of main_call5_call0_call0_v81 : StableHlo.TRef sig ⟨S128x100000, .i32⟩) (.of main_call5_call0_call0_v86 : StableHlo.TRef sig ⟨S128x100000, .i32⟩) (.of main_call5_call0_call0_v87 : StableHlo.TRef sig ⟨S128x100000, .i32⟩) xori,
    StableHlo.TRef.binary (.of main_call5_call0_call0_v81 : StableHlo.TRef sig ⟨S128x100000, .i32⟩) (.of main_call5_call0_call0_v87 : StableHlo.TRef sig ⟨S128x100000, .i32⟩) (.of main_call5_call0_call0_v88 : StableHlo.TRef sig ⟨S128x100000, .i32⟩) addi,
    StableHlo.TRef.nullary (.of main_call5_call0_call0_c_22 : StableHlo.TRef sig ⟨S_, .i32⟩) (constantI S_ 32 26#32),
    StableHlo.TRef.unary (.of main_call5_call0_call0_c_22 : StableHlo.TRef sig ⟨S_, .i32⟩) (.of main_call5_call0_call0_v89 : StableHlo.TRef sig ⟨S128x100000, .i32⟩) (broadcastInDim S128x100000 ![] bcast_S_S128x100000),
    StableHlo.TRef.binary (.of main_call5_call0_call0_v87 : StableHlo.TRef sig ⟨S128x100000, .i32⟩) (.of main_call5_call0_call0_v89 : StableHlo.TRef sig ⟨S128x100000, .i32⟩) (.of main_call5_call0_call0_v90 : StableHlo.TRef sig ⟨S128x100000, .i32⟩) Host.shli,
    StableHlo.TRef.nullary (.of main_call5_call0_call0_c_23 : StableHlo.TRef sig ⟨S_, .i32⟩) (constantI S_ 32 6#32),
    StableHlo.TRef.unary (.of main_call5_call0_call0_c_23 : StableHlo.TRef sig ⟨S_, .i32⟩) (.of main_call5_call0_call0_v91 : StableHlo.TRef sig ⟨S128x100000, .i32⟩) (broadcastInDim S128x100000 ![] bcast_S_S128x100000),
    StableHlo.TRef.binary (.of main_call5_call0_call0_v87 : StableHlo.TRef sig ⟨S128x100000, .i32⟩) (.of main_call5_call0_call0_v91 : StableHlo.TRef sig ⟨S128x100000, .i32⟩) (.of main_call5_call0_call0_v92 : StableHlo.TRef sig ⟨S128x100000, .i32⟩) Host.shrui,
    StableHlo.TRef.binary (.of main_call5_call0_call0_v90 : StableHlo.TRef sig ⟨S128x100000, .i32⟩) (.of main_call5_call0_call0_v92 : StableHlo.TRef sig ⟨S128x100000, .i32⟩) (.of main_call5_call0_call0_v93 : StableHlo.TRef sig ⟨S128x100000, .i32⟩) ori,
    StableHlo.TRef.binary (.of main_call5_call0_call0_v88 : StableHlo.TRef sig ⟨S128x100000, .i32⟩) (.of main_call5_call0_call0_v93 : StableHlo.TRef sig ⟨S128x100000, .i32⟩) (.of main_call5_call0_call0_v94 : StableHlo.TRef sig ⟨S128x100000, .i32⟩) xori,
    StableHlo.TRef.binary (.of main_call5_call0_call0_v88 : StableHlo.TRef sig ⟨S128x100000, .i32⟩) (.of main_call5_call0_call0_v94 : StableHlo.TRef sig ⟨S128x100000, .i32⟩) (.of main_call5_call0_call0_v95 : StableHlo.TRef sig ⟨S128x100000, .i32⟩) addi,
    StableHlo.TRef.nullary (.of main_call5_call0_call0_c_24 : StableHlo.TRef sig ⟨S_, .i32⟩) (constantI S_ 32 6#32),
    StableHlo.TRef.unary (.of main_call5_call0_call0_c_24 : StableHlo.TRef sig ⟨S_, .i32⟩) (.of main_call5_call0_call0_v96 : StableHlo.TRef sig ⟨S128x100000, .i32⟩) (broadcastInDim S128x100000 ![] bcast_S_S128x100000),
    StableHlo.TRef.binary (.of main_call5_call0_call0_v94 : StableHlo.TRef sig ⟨S128x100000, .i32⟩) (.of main_call5_call0_call0_v96 : StableHlo.TRef sig ⟨S128x100000, .i32⟩) (.of main_call5_call0_call0_v97 : StableHlo.TRef sig ⟨S128x100000, .i32⟩) Host.shli,
    StableHlo.TRef.nullary (.of main_call5_call0_call0_c_25 : StableHlo.TRef sig ⟨S_, .i32⟩) (constantI S_ 32 26#32),
    StableHlo.TRef.unary (.of main_call5_call0_call0_c_25 : StableHlo.TRef sig ⟨S_, .i32⟩) (.of main_call5_call0_call0_v98 : StableHlo.TRef sig ⟨S128x100000, .i32⟩) (broadcastInDim S128x100000 ![] bcast_S_S128x100000),
    StableHlo.TRef.binary (.of main_call5_call0_call0_v94 : StableHlo.TRef sig ⟨S128x100000, .i32⟩) (.of main_call5_call0_call0_v98 : StableHlo.TRef sig ⟨S128x100000, .i32⟩) (.of main_call5_call0_call0_v99 : StableHlo.TRef sig ⟨S128x100000, .i32⟩) Host.shrui,
    StableHlo.TRef.binary (.of main_call5_call0_call0_v97 : StableHlo.TRef sig ⟨S128x100000, .i32⟩) (.of main_call5_call0_call0_v99 : StableHlo.TRef sig ⟨S128x100000, .i32⟩) (.of main_call5_call0_call0_v100 : StableHlo.TRef sig ⟨S128x100000, .i32⟩) ori,
    StableHlo.TRef.binary (.of main_call5_call0_call0_v95 : StableHlo.TRef sig ⟨S128x100000, .i32⟩) (.of main_call5_call0_call0_v100 : StableHlo.TRef sig ⟨S128x100000, .i32⟩) (.of main_call5_call0_call0_v101 : StableHlo.TRef sig ⟨S128x100000, .i32⟩) xori,
    StableHlo.TRef.unary (.of main_call5_call0_v4 : StableHlo.TRef sig ⟨S_, .i32⟩) (.of main_call5_call0_call0_v102 : StableHlo.TRef sig ⟨S128x100000, .i32⟩) (broadcastInDim S128x100000 ![] bcast_S_S128x100000),
    StableHlo.TRef.binary (.of main_call5_call0_call0_v95 : StableHlo.TRef sig ⟨S128x100000, .i32⟩) (.of main_call5_call0_call0_v102 : StableHlo.TRef sig ⟨S128x100000, .i32⟩) (.of main_call5_call0_call0_v103 : StableHlo.TRef sig ⟨S128x100000, .i32⟩) addi,
    StableHlo.TRef.unary (.of main_call5_call0_v6 : StableHlo.TRef sig ⟨S_, .i32⟩) (.of main_call5_call0_call0_v104 : StableHlo.TRef sig ⟨S128x100000, .i32⟩) (broadcastInDim S128x100000 ![] bcast_S_S128x100000),
    StableHlo.TRef.binary (.of main_call5_call0_call0_v101 : StableHlo.TRef sig ⟨S128x100000, .i32⟩) (.of main_call5_call0_call0_v104 : StableHlo.TRef sig ⟨S128x100000, .i32⟩) (.of main_call5_call0_call0_v105 : StableHlo.TRef sig ⟨S128x100000, .i32⟩) addi,
    StableHlo.TRef.nullary (.of main_call5_call0_call0_c_26 : StableHlo.TRef sig ⟨S_, .i32⟩) (constantI S_ 32 3#32),
    StableHlo.TRef.unary (.of main_call5_call0_call0_c_26 : StableHlo.TRef sig ⟨S_, .i32⟩) (.of main_call5_call0_call0_v106 : StableHlo.TRef sig ⟨S128x100000, .i32⟩) (broadcastInDim S128x100000 ![] bcast_S_S128x100000),
    StableHlo.TRef.binary (.of main_call5_call0_call0_v105 : StableHlo.TRef sig ⟨S128x100000, .i32⟩) (.of main_call5_call0_call0_v106 : StableHlo.TRef sig ⟨S128x100000, .i32⟩) (.of main_call5_call0_call0_v107 : StableHlo.TRef sig ⟨S128x100000, .i32⟩) addi,
    StableHlo.TRef.binary (.of main_call5_call0_call0_v103 : StableHlo.TRef sig ⟨S128x100000, .i32⟩) (.of main_call5_call0_call0_v107 : StableHlo.TRef sig ⟨S128x100000, .i32⟩) (.of main_call5_call0_call0_v108 : StableHlo.TRef sig ⟨S128x100000, .i32⟩) addi,
    StableHlo.TRef.nullary (.of main_call5_call0_call0_c_27 : StableHlo.TRef sig ⟨S_, .i32⟩) (constantI S_ 32 17#32),
    StableHlo.TRef.unary (.of main_call5_call0_call0_c_27 : StableHlo.TRef sig ⟨S_, .i32⟩) (.of main_call5_call0_call0_v109 : StableHlo.TRef sig ⟨S128x100000, .i32⟩) (broadcastInDim S128x100000 ![] bcast_S_S128x100000),
    StableHlo.TRef.binary (.of main_call5_call0_call0_v107 : StableHlo.TRef sig ⟨S128x100000, .i32⟩) (.of main_call5_call0_call0_v109 : StableHlo.TRef sig ⟨S128x100000, .i32⟩) (.of main_call5_call0_call0_v110 : StableHlo.TRef sig ⟨S128x100000, .i32⟩) Host.shli,
    StableHlo.TRef.nullary (.of main_call5_call0_call0_c_28 : StableHlo.TRef sig ⟨S_, .i32⟩) (constantI S_ 32 15#32),
    StableHlo.TRef.unary (.of main_call5_call0_call0_c_28 : StableHlo.TRef sig ⟨S_, .i32⟩) (.of main_call5_call0_call0_v111 : StableHlo.TRef sig ⟨S128x100000, .i32⟩) (broadcastInDim S128x100000 ![] bcast_S_S128x100000),
    StableHlo.TRef.binary (.of main_call5_call0_call0_v107 : StableHlo.TRef sig ⟨S128x100000, .i32⟩) (.of main_call5_call0_call0_v111 : StableHlo.TRef sig ⟨S128x100000, .i32⟩) (.of main_call5_call0_call0_v112 : StableHlo.TRef sig ⟨S128x100000, .i32⟩) Host.shrui,
    StableHlo.TRef.binary (.of main_call5_call0_call0_v110 : StableHlo.TRef sig ⟨S128x100000, .i32⟩) (.of main_call5_call0_call0_v112 : StableHlo.TRef sig ⟨S128x100000, .i32⟩) (.of main_call5_call0_call0_v113 : StableHlo.TRef sig ⟨S128x100000, .i32⟩) ori,
    StableHlo.TRef.binary (.of main_call5_call0_call0_v108 : StableHlo.TRef sig ⟨S128x100000, .i32⟩) (.of main_call5_call0_call0_v113 : StableHlo.TRef sig ⟨S128x100000, .i32⟩) (.of main_call5_call0_call0_v114 : StableHlo.TRef sig ⟨S128x100000, .i32⟩) xori,
    StableHlo.TRef.binary (.of main_call5_call0_call0_v108 : StableHlo.TRef sig ⟨S128x100000, .i32⟩) (.of main_call5_call0_call0_v114 : StableHlo.TRef sig ⟨S128x100000, .i32⟩) (.of main_call5_call0_call0_v115 : StableHlo.TRef sig ⟨S128x100000, .i32⟩) addi,
    StableHlo.TRef.nullary (.of main_call5_call0_call0_c_29 : StableHlo.TRef sig ⟨S_, .i32⟩) (constantI S_ 32 29#32),
    StableHlo.TRef.unary (.of main_call5_call0_call0_c_29 : StableHlo.TRef sig ⟨S_, .i32⟩) (.of main_call5_call0_call0_v116 : StableHlo.TRef sig ⟨S128x100000, .i32⟩) (broadcastInDim S128x100000 ![] bcast_S_S128x100000),
    StableHlo.TRef.binary (.of main_call5_call0_call0_v114 : StableHlo.TRef sig ⟨S128x100000, .i32⟩) (.of main_call5_call0_call0_v116 : StableHlo.TRef sig ⟨S128x100000, .i32⟩) (.of main_call5_call0_call0_v117 : StableHlo.TRef sig ⟨S128x100000, .i32⟩) Host.shli,
    StableHlo.TRef.nullary (.of main_call5_call0_call0_c_30 : StableHlo.TRef sig ⟨S_, .i32⟩) (constantI S_ 32 3#32),
    StableHlo.TRef.unary (.of main_call5_call0_call0_c_30 : StableHlo.TRef sig ⟨S_, .i32⟩) (.of main_call5_call0_call0_v118 : StableHlo.TRef sig ⟨S128x100000, .i32⟩) (broadcastInDim S128x100000 ![] bcast_S_S128x100000),
    StableHlo.TRef.binary (.of main_call5_call0_call0_v114 : StableHlo.TRef sig ⟨S128x100000, .i32⟩) (.of main_call5_call0_call0_v118 : StableHlo.TRef sig ⟨S128x100000, .i32⟩) (.of main_call5_call0_call0_v119 : StableHlo.TRef sig ⟨S128x100000, .i32⟩) Host.shrui,
    StableHlo.TRef.binary (.of main_call5_call0_call0_v117 : StableHlo.TRef sig ⟨S128x100000, .i32⟩) (.of main_call5_call0_call0_v119 : StableHlo.TRef sig ⟨S128x100000, .i32⟩) (.of main_call5_call0_call0_v120 : StableHlo.TRef sig ⟨S128x100000, .i32⟩) ori,
    StableHlo.TRef.binary (.of main_call5_call0_call0_v115 : StableHlo.TRef sig ⟨S128x100000, .i32⟩) (.of main_call5_call0_call0_v120 : StableHlo.TRef sig ⟨S128x100000, .i32⟩) (.of main_call5_call0_call0_v121 : StableHlo.TRef sig ⟨S128x100000, .i32⟩) xori,
    StableHlo.TRef.binary (.of main_call5_call0_call0_v115 : StableHlo.TRef sig ⟨S128x100000, .i32⟩) (.of main_call5_call0_call0_v121 : StableHlo.TRef sig ⟨S128x100000, .i32⟩) (.of main_call5_call0_call0_v122 : StableHlo.TRef sig ⟨S128x100000, .i32⟩) addi,
    StableHlo.TRef.nullary (.of main_call5_call0_call0_c_31 : StableHlo.TRef sig ⟨S_, .i32⟩) (constantI S_ 32 16#32),
    StableHlo.TRef.unary (.of main_call5_call0_call0_c_31 : StableHlo.TRef sig ⟨S_, .i32⟩) (.of main_call5_call0_call0_v123 : StableHlo.TRef sig ⟨S128x100000, .i32⟩) (broadcastInDim S128x100000 ![] bcast_S_S128x100000),
    StableHlo.TRef.binary (.of main_call5_call0_call0_v121 : StableHlo.TRef sig ⟨S128x100000, .i32⟩) (.of main_call5_call0_call0_v123 : StableHlo.TRef sig ⟨S128x100000, .i32⟩) (.of main_call5_call0_call0_v124 : StableHlo.TRef sig ⟨S128x100000, .i32⟩) Host.shli,
    StableHlo.TRef.nullary (.of main_call5_call0_call0_c_32 : StableHlo.TRef sig ⟨S_, .i32⟩) (constantI S_ 32 16#32),
    StableHlo.TRef.unary (.of main_call5_call0_call0_c_32 : StableHlo.TRef sig ⟨S_, .i32⟩) (.of main_call5_call0_call0_v125 : StableHlo.TRef sig ⟨S128x100000, .i32⟩) (broadcastInDim S128x100000 ![] bcast_S_S128x100000),
    StableHlo.TRef.binary (.of main_call5_call0_call0_v121 : StableHlo.TRef sig ⟨S128x100000, .i32⟩) (.of main_call5_call0_call0_v125 : StableHlo.TRef sig ⟨S128x100000, .i32⟩) (.of main_call5_call0_call0_v126 : StableHlo.TRef sig ⟨S128x100000, .i32⟩) Host.shrui,
    StableHlo.TRef.binary (.of main_call5_call0_call0_v124 : StableHlo.TRef sig ⟨S128x100000, .i32⟩) (.of main_call5_call0_call0_v126 : StableHlo.TRef sig ⟨S128x100000, .i32⟩) (.of main_call5_call0_call0_v127 : StableHlo.TRef sig ⟨S128x100000, .i32⟩) ori,
    StableHlo.TRef.binary (.of main_call5_call0_call0_v122 : StableHlo.TRef sig ⟨S128x100000, .i32⟩) (.of main_call5_call0_call0_v127 : StableHlo.TRef sig ⟨S128x100000, .i32⟩) (.of main_call5_call0_call0_v128 : StableHlo.TRef sig ⟨S128x100000, .i32⟩) xori,
    StableHlo.TRef.binary (.of main_call5_call0_call0_v122 : StableHlo.TRef sig ⟨S128x100000, .i32⟩) (.of main_call5_call0_call0_v128 : StableHlo.TRef sig ⟨S128x100000, .i32⟩) (.of main_call5_call0_call0_v129 : StableHlo.TRef sig ⟨S128x100000, .i32⟩) addi,
    StableHlo.TRef.nullary (.of main_call5_call0_call0_c_33 : StableHlo.TRef sig ⟨S_, .i32⟩) (constantI S_ 32 24#32),
    StableHlo.TRef.unary (.of main_call5_call0_call0_c_33 : StableHlo.TRef sig ⟨S_, .i32⟩) (.of main_call5_call0_call0_v130 : StableHlo.TRef sig ⟨S128x100000, .i32⟩) (broadcastInDim S128x100000 ![] bcast_S_S128x100000),
    StableHlo.TRef.binary (.of main_call5_call0_call0_v128 : StableHlo.TRef sig ⟨S128x100000, .i32⟩) (.of main_call5_call0_call0_v130 : StableHlo.TRef sig ⟨S128x100000, .i32⟩) (.of main_call5_call0_call0_v131 : StableHlo.TRef sig ⟨S128x100000, .i32⟩) Host.shli,
    StableHlo.TRef.nullary (.of main_call5_call0_call0_c_34 : StableHlo.TRef sig ⟨S_, .i32⟩) (constantI S_ 32 8#32),
    StableHlo.TRef.unary (.of main_call5_call0_call0_c_34 : StableHlo.TRef sig ⟨S_, .i32⟩) (.of main_call5_call0_call0_v132 : StableHlo.TRef sig ⟨S128x100000, .i32⟩) (broadcastInDim S128x100000 ![] bcast_S_S128x100000),
    StableHlo.TRef.binary (.of main_call5_call0_call0_v128 : StableHlo.TRef sig ⟨S128x100000, .i32⟩) (.of main_call5_call0_call0_v132 : StableHlo.TRef sig ⟨S128x100000, .i32⟩) (.of main_call5_call0_call0_v133 : StableHlo.TRef sig ⟨S128x100000, .i32⟩) Host.shrui,
    StableHlo.TRef.binary (.of main_call5_call0_call0_v131 : StableHlo.TRef sig ⟨S128x100000, .i32⟩) (.of main_call5_call0_call0_v133 : StableHlo.TRef sig ⟨S128x100000, .i32⟩) (.of main_call5_call0_call0_v134 : StableHlo.TRef sig ⟨S128x100000, .i32⟩) ori,
    StableHlo.TRef.binary (.of main_call5_call0_call0_v129 : StableHlo.TRef sig ⟨S128x100000, .i32⟩) (.of main_call5_call0_call0_v134 : StableHlo.TRef sig ⟨S128x100000, .i32⟩) (.of main_call5_call0_call0_v135 : StableHlo.TRef sig ⟨S128x100000, .i32⟩) xori,
    StableHlo.TRef.unary (.of main_call5_call0_v6 : StableHlo.TRef sig ⟨S_, .i32⟩) (.of main_call5_call0_call0_v136 : StableHlo.TRef sig ⟨S128x100000, .i32⟩) (broadcastInDim S128x100000 ![] bcast_S_S128x100000),
    StableHlo.TRef.binary (.of main_call5_call0_call0_v129 : StableHlo.TRef sig ⟨S128x100000, .i32⟩) (.of main_call5_call0_call0_v136 : StableHlo.TRef sig ⟨S128x100000, .i32⟩) (.of main_call5_call0_call0_v137 : StableHlo.TRef sig ⟨S128x100000, .i32⟩) addi,
    StableHlo.TRef.unary (.of main_call5_call0_call0_v1 : StableHlo.TRef sig ⟨S_, .i32⟩) (.of main_call5_call0_call0_v138 : StableHlo.TRef sig ⟨S128x100000, .i32⟩) (broadcastInDim S128x100000 ![] bcast_S_S128x100000),
    StableHlo.TRef.binary (.of main_call5_call0_call0_v135 : StableHlo.TRef sig ⟨S128x100000, .i32⟩) (.of main_call5_call0_call0_v138 : StableHlo.TRef sig ⟨S128x100000, .i32⟩) (.of main_call5_call0_call0_v139 : StableHlo.TRef sig ⟨S128x100000, .i32⟩) addi,
    StableHlo.TRef.nullary (.of main_call5_call0_call0_c_35 : StableHlo.TRef sig ⟨S_, .i32⟩) (constantI S_ 32 4#32),
    StableHlo.TRef.unary (.of main_call5_call0_call0_c_35 : StableHlo.TRef sig ⟨S_, .i32⟩) (.of main_call5_call0_call0_v140 : StableHlo.TRef sig ⟨S128x100000, .i32⟩) (broadcastInDim S128x100000 ![] bcast_S_S128x100000),
    StableHlo.TRef.binary (.of main_call5_call0_call0_v139 : StableHlo.TRef sig ⟨S128x100000, .i32⟩) (.of main_call5_call0_call0_v140 : StableHlo.TRef sig ⟨S128x100000, .i32⟩) (.of main_call5_call0_call0_v141 : StableHlo.TRef sig ⟨S128x100000, .i32⟩) addi,
    StableHlo.TRef.binary (.of main_call5_call0_call0_v137 : StableHlo.TRef sig ⟨S128x100000, .i32⟩) (.of main_call5_call0_call0_v141 : StableHlo.TRef sig ⟨S128x100000, .i32⟩) (.of main_call5_call0_call0_v142 : StableHlo.TRef sig ⟨S128x100000, .i32⟩) addi,
    StableHlo.TRef.nullary (.of main_call5_call0_call0_c_36 : StableHlo.TRef sig ⟨S_, .i32⟩) (constantI S_ 32 13#32),
    StableHlo.TRef.unary (.of main_call5_call0_call0_c_36 : StableHlo.TRef sig ⟨S_, .i32⟩) (.of main_call5_call0_call0_v143 : StableHlo.TRef sig ⟨S128x100000, .i32⟩) (broadcastInDim S128x100000 ![] bcast_S_S128x100000),
    StableHlo.TRef.binary (.of main_call5_call0_call0_v141 : StableHlo.TRef sig ⟨S128x100000, .i32⟩) (.of main_call5_call0_call0_v143 : StableHlo.TRef sig ⟨S128x100000, .i32⟩) (.of main_call5_call0_call0_v144 : StableHlo.TRef sig ⟨S128x100000, .i32⟩) Host.shli,
    StableHlo.TRef.nullary (.of main_call5_call0_call0_c_37 : StableHlo.TRef sig ⟨S_, .i32⟩) (constantI S_ 32 19#32),
    StableHlo.TRef.unary (.of main_call5_call0_call0_c_37 : StableHlo.TRef sig ⟨S_, .i32⟩) (.of main_call5_call0_call0_v145 : StableHlo.TRef sig ⟨S128x100000, .i32⟩) (broadcastInDim S128x100000 ![] bcast_S_S128x100000),
    StableHlo.TRef.binary (.of main_call5_call0_call0_v141 : StableHlo.TRef sig ⟨S128x100000, .i32⟩) (.of main_call5_call0_call0_v145 : StableHlo.TRef sig ⟨S128x100000, .i32⟩) (.of main_call5_call0_call0_v146 : StableHlo.TRef sig ⟨S128x100000, .i32⟩) Host.shrui,
    StableHlo.TRef.binary (.of main_call5_call0_call0_v144 : StableHlo.TRef sig ⟨S128x100000, .i32⟩) (.of main_call5_call0_call0_v146 : StableHlo.TRef sig ⟨S128x100000, .i32⟩) (.of main_call5_call0_call0_v147 : StableHlo.TRef sig ⟨S128x100000, .i32⟩) ori,
    StableHlo.TRef.binary (.of main_call5_call0_call0_v142 : StableHlo.TRef sig ⟨S128x100000, .i32⟩) (.of main_call5_call0_call0_v147 : StableHlo.TRef sig ⟨S128x100000, .i32⟩) (.of main_call5_call0_call0_v148 : StableHlo.TRef sig ⟨S128x100000, .i32⟩) xori,
    StableHlo.TRef.binary (.of main_call5_call0_call0_v142 : StableHlo.TRef sig ⟨S128x100000, .i32⟩) (.of main_call5_call0_call0_v148 : StableHlo.TRef sig ⟨S128x100000, .i32⟩) (.of main_call5_call0_call0_v149 : StableHlo.TRef sig ⟨S128x100000, .i32⟩) addi,
    StableHlo.TRef.nullary (.of main_call5_call0_call0_c_38 : StableHlo.TRef sig ⟨S_, .i32⟩) (constantI S_ 32 15#32),
    StableHlo.TRef.unary (.of main_call5_call0_call0_c_38 : StableHlo.TRef sig ⟨S_, .i32⟩) (.of main_call5_call0_call0_v150 : StableHlo.TRef sig ⟨S128x100000, .i32⟩) (broadcastInDim S128x100000 ![] bcast_S_S128x100000),
    StableHlo.TRef.binary (.of main_call5_call0_call0_v148 : StableHlo.TRef sig ⟨S128x100000, .i32⟩) (.of main_call5_call0_call0_v150 : StableHlo.TRef sig ⟨S128x100000, .i32⟩) (.of main_call5_call0_call0_v151 : StableHlo.TRef sig ⟨S128x100000, .i32⟩) Host.shli,
    StableHlo.TRef.nullary (.of main_call5_call0_call0_c_39 : StableHlo.TRef sig ⟨S_, .i32⟩) (constantI S_ 32 17#32),
    StableHlo.TRef.unary (.of main_call5_call0_call0_c_39 : StableHlo.TRef sig ⟨S_, .i32⟩) (.of main_call5_call0_call0_v152 : StableHlo.TRef sig ⟨S128x100000, .i32⟩) (broadcastInDim S128x100000 ![] bcast_S_S128x100000),
    StableHlo.TRef.binary (.of main_call5_call0_call0_v148 : StableHlo.TRef sig ⟨S128x100000, .i32⟩) (.of main_call5_call0_call0_v152 : StableHlo.TRef sig ⟨S128x100000, .i32⟩) (.of main_call5_call0_call0_v153 : StableHlo.TRef sig ⟨S128x100000, .i32⟩) Host.shrui,
    StableHlo.TRef.binary (.of main_call5_call0_call0_v151 : StableHlo.TRef sig ⟨S128x100000, .i32⟩) (.of main_call5_call0_call0_v153 : StableHlo.TRef sig ⟨S128x100000, .i32⟩) (.of main_call5_call0_call0_v154 : StableHlo.TRef sig ⟨S128x100000, .i32⟩) ori,
    StableHlo.TRef.binary (.of main_call5_call0_call0_v149 : StableHlo.TRef sig ⟨S128x100000, .i32⟩) (.of main_call5_call0_call0_v154 : StableHlo.TRef sig ⟨S128x100000, .i32⟩) (.of main_call5_call0_call0_v155 : StableHlo.TRef sig ⟨S128x100000, .i32⟩) xori,
    StableHlo.TRef.binary (.of main_call5_call0_call0_v149 : StableHlo.TRef sig ⟨S128x100000, .i32⟩) (.of main_call5_call0_call0_v155 : StableHlo.TRef sig ⟨S128x100000, .i32⟩) (.of main_call5_call0_call0_v156 : StableHlo.TRef sig ⟨S128x100000, .i32⟩) addi,
    StableHlo.TRef.nullary (.of main_call5_call0_call0_c_40 : StableHlo.TRef sig ⟨S_, .i32⟩) (constantI S_ 32 26#32),
    StableHlo.TRef.unary (.of main_call5_call0_call0_c_40 : StableHlo.TRef sig ⟨S_, .i32⟩) (.of main_call5_call0_call0_v157 : StableHlo.TRef sig ⟨S128x100000, .i32⟩) (broadcastInDim S128x100000 ![] bcast_S_S128x100000),
    StableHlo.TRef.binary (.of main_call5_call0_call0_v155 : StableHlo.TRef sig ⟨S128x100000, .i32⟩) (.of main_call5_call0_call0_v157 : StableHlo.TRef sig ⟨S128x100000, .i32⟩) (.of main_call5_call0_call0_v158 : StableHlo.TRef sig ⟨S128x100000, .i32⟩) Host.shli,
    StableHlo.TRef.nullary (.of main_call5_call0_call0_c_41 : StableHlo.TRef sig ⟨S_, .i32⟩) (constantI S_ 32 6#32),
    StableHlo.TRef.unary (.of main_call5_call0_call0_c_41 : StableHlo.TRef sig ⟨S_, .i32⟩) (.of main_call5_call0_call0_v159 : StableHlo.TRef sig ⟨S128x100000, .i32⟩) (broadcastInDim S128x100000 ![] bcast_S_S128x100000),
    StableHlo.TRef.binary (.of main_call5_call0_call0_v155 : StableHlo.TRef sig ⟨S128x100000, .i32⟩) (.of main_call5_call0_call0_v159 : StableHlo.TRef sig ⟨S128x100000, .i32⟩) (.of main_call5_call0_call0_v160 : StableHlo.TRef sig ⟨S128x100000, .i32⟩) Host.shrui,
    StableHlo.TRef.binary (.of main_call5_call0_call0_v158 : StableHlo.TRef sig ⟨S128x100000, .i32⟩) (.of main_call5_call0_call0_v160 : StableHlo.TRef sig ⟨S128x100000, .i32⟩) (.of main_call5_call0_call0_v161 : StableHlo.TRef sig ⟨S128x100000, .i32⟩) ori,
    StableHlo.TRef.binary (.of main_call5_call0_call0_v156 : StableHlo.TRef sig ⟨S128x100000, .i32⟩) (.of main_call5_call0_call0_v161 : StableHlo.TRef sig ⟨S128x100000, .i32⟩) (.of main_call5_call0_call0_v162 : StableHlo.TRef sig ⟨S128x100000, .i32⟩) xori,
    StableHlo.TRef.binary (.of main_call5_call0_call0_v156 : StableHlo.TRef sig ⟨S128x100000, .i32⟩) (.of main_call5_call0_call0_v162 : StableHlo.TRef sig ⟨S128x100000, .i32⟩) (.of main_call5_call0_call0_v163 : StableHlo.TRef sig ⟨S128x100000, .i32⟩) addi,
    StableHlo.TRef.nullary (.of main_call5_call0_call0_c_42 : StableHlo.TRef sig ⟨S_, .i32⟩) (constantI S_ 32 6#32),
    StableHlo.TRef.unary (.of main_call5_call0_call0_c_42 : StableHlo.TRef sig ⟨S_, .i32⟩) (.of main_call5_call0_call0_v164 : StableHlo.TRef sig ⟨S128x100000, .i32⟩) (broadcastInDim S128x100000 ![] bcast_S_S128x100000),
    StableHlo.TRef.binary (.of main_call5_call0_call0_v162 : StableHlo.TRef sig ⟨S128x100000, .i32⟩) (.of main_call5_call0_call0_v164 : StableHlo.TRef sig ⟨S128x100000, .i32⟩) (.of main_call5_call0_call0_v165 : StableHlo.TRef sig ⟨S128x100000, .i32⟩) Host.shli,
    StableHlo.TRef.nullary (.of main_call5_call0_call0_c_43 : StableHlo.TRef sig ⟨S_, .i32⟩) (constantI S_ 32 26#32),
    StableHlo.TRef.unary (.of main_call5_call0_call0_c_43 : StableHlo.TRef sig ⟨S_, .i32⟩) (.of main_call5_call0_call0_v166 : StableHlo.TRef sig ⟨S128x100000, .i32⟩) (broadcastInDim S128x100000 ![] bcast_S_S128x100000),
    StableHlo.TRef.binary (.of main_call5_call0_call0_v162 : StableHlo.TRef sig ⟨S128x100000, .i32⟩) (.of main_call5_call0_call0_v166 : StableHlo.TRef sig ⟨S128x100000, .i32⟩) (.of main_call5_call0_call0_v167 : StableHlo.TRef sig ⟨S128x100000, .i32⟩) Host.shrui,
    StableHlo.TRef.binary (.of main_call5_call0_call0_v165 : StableHlo.TRef sig ⟨S128x100000, .i32⟩) (.of main_call5_call0_call0_v167 : StableHlo.TRef sig ⟨S128x100000, .i32⟩) (.of main_call5_call0_call0_v168 : StableHlo.TRef sig ⟨S128x100000, .i32⟩) ori,
    StableHlo.TRef.binary (.of main_call5_call0_call0_v163 : StableHlo.TRef sig ⟨S128x100000, .i32⟩) (.of main_call5_call0_call0_v168 : StableHlo.TRef sig ⟨S128x100000, .i32⟩) (.of main_call5_call0_call0_v169 : StableHlo.TRef sig ⟨S128x100000, .i32⟩) xori,
    StableHlo.TRef.unary (.of main_call5_call0_call0_v1 : StableHlo.TRef sig ⟨S_, .i32⟩) (.of main_call5_call0_call0_v170 : StableHlo.TRef sig ⟨S128x100000, .i32⟩) (broadcastInDim S128x100000 ![] bcast_S_S128x100000),
    StableHlo.TRef.binary (.of main_call5_call0_call0_v163 : StableHlo.TRef sig ⟨S128x100000, .i32⟩) (.of main_call5_call0_call0_v170 : StableHlo.TRef sig ⟨S128x100000, .i32⟩) (.of main_call5_call0_v18_0 : StableHlo.TRef sig ⟨S128x100000, .i32⟩) addi,
    StableHlo.TRef.unary (.of main_call5_call0_v4 : StableHlo.TRef sig ⟨S_, .i32⟩) (.of main_call5_call0_call0_v172 : StableHlo.TRef sig ⟨S128x100000, .i32⟩) (broadcastInDim S128x100000 ![] bcast_S_S128x100000),
    StableHlo.TRef.binary (.of main_call5_call0_call0_v169 : StableHlo.TRef sig ⟨S128x100000, .i32⟩) (.of main_call5_call0_call0_v172 : StableHlo.TRef sig ⟨S128x100000, .i32⟩) (.of main_call5_call0_call0_v173 : StableHlo.TRef sig ⟨S128x100000, .i32⟩) addi,
    StableHlo.TRef.nullary (.of main_call5_call0_call0_c_44 : StableHlo.TRef sig ⟨S_, .i32⟩) (constantI S_ 32 5#32),
    StableHlo.TRef.unary (.of main_call5_call0_call0_c_44 : StableHlo.TRef sig ⟨S_, .i32⟩) (.of main_call5_call0_call0_v174 : StableHlo.TRef sig ⟨S128x100000, .i32⟩) (broadcastInDim S128x100000 ![] bcast_S_S128x100000),
    StableHlo.TRef.binary (.of main_call5_call0_call0_v173 : StableHlo.TRef sig ⟨S128x100000, .i32⟩) (.of main_call5_call0_call0_v174 : StableHlo.TRef sig ⟨S128x100000, .i32⟩) (.of main_call5_call0_v18_1 : StableHlo.TRef sig ⟨S128x100000, .i32⟩) addi,
    StableHlo.TRef.binary (.of main_call5_call0_v18_0 : StableHlo.TRef sig ⟨S128x100000, .i32⟩) (.of main_call5_call0_v18_1 : StableHlo.TRef sig ⟨S128x100000, .i32⟩) (.of main_call5_call0_v19 : StableHlo.TRef sig ⟨S128x100000, .i32⟩) xori,
    StableHlo.TRef.nullary (.of main_call5_call0_c_2 : StableHlo.TRef sig ⟨S_, .i32⟩) (constantI S_ 32 9#32),
    StableHlo.TRef.unary (.of main_call5_call0_c_2 : StableHlo.TRef sig ⟨S_, .i32⟩) (.of main_call5_call0_v20 : StableHlo.TRef sig ⟨S128x100000, .i32⟩) (broadcastInDim S128x100000 ![] bcast_S_S128x100000),
    StableHlo.TRef.binary (.of main_call5_call0_v19 : StableHlo.TRef sig ⟨S128x100000, .i32⟩) (.of main_call5_call0_v20 : StableHlo.TRef sig ⟨S128x100000, .i32⟩) (.of main_call5_call0_v21 : StableHlo.TRef sig ⟨S128x100000, .i32⟩) Host.shrui,
    StableHlo.TRef.nullary (.of main_call5_call0_c_3 : StableHlo.TRef sig ⟨S_, .i32⟩) (constantI S_ 32 1065353216#32),
    StableHlo.TRef.unary (.of main_call5_call0_c_3 : StableHlo.TRef sig ⟨S_, .i32⟩) (.of main_call5_call0_v22 : StableHlo.TRef sig ⟨S128x100000, .i32⟩) (broadcastInDim S128x100000 ![] bcast_S_S128x100000),
    StableHlo.TRef.binary (.of main_call5_call0_v21 : StableHlo.TRef sig ⟨S128x100000, .i32⟩) (.of main_call5_call0_v22 : StableHlo.TRef sig ⟨S128x100000, .i32⟩) (.of main_call5_call0_v23 : StableHlo.TRef sig ⟨S128x100000, .i32⟩) ori,
    StableHlo.TRef.unary (.of main_call5_call0_v23 : StableHlo.TRef sig ⟨S128x100000, .i32⟩) (.of main_call5_call0_v24 : StableHlo.TRef sig ⟨S128x100000, .f32⟩) (bitcastToFloat .f32),
    StableHlo.TRef.nullary (.of main_call5_call0_cst : StableHlo.TRef sig ⟨S_, .f32⟩) (constant S_ .f32 0x3F800000#32),
    StableHlo.TRef.unary (.of main_call5_call0_cst : StableHlo.TRef sig ⟨S_, .f32⟩) (.of main_call5_call0_v25 : StableHlo.TRef sig ⟨S128x100000, .f32⟩) (broadcastInDim S128x100000 ![] bcast_S_S128x100000),
    StableHlo.TRef.binary (.of main_call5_call0_v24 : StableHlo.TRef sig ⟨S128x100000, .f32⟩) (.of main_call5_call0_v25 : StableHlo.TRef sig ⟨S128x100000, .f32⟩) (.of main_call5_call0_v26 : StableHlo.TRef sig ⟨S128x100000, .f32⟩) subf,
    StableHlo.TRef.binary (.of main_call5_call0_v2 : StableHlo.TRef sig ⟨S1x1, .f32⟩) (.of main_call5_call0_v1 : StableHlo.TRef sig ⟨S1x1, .f32⟩) (.of main_call5_call0_v27 : StableHlo.TRef sig ⟨S1x1, .f32⟩) subf,
    StableHlo.TRef.unary (.of main_call5_call0_v27 : StableHlo.TRef sig ⟨S1x1, .f32⟩) (.of main_call5_call0_v28 : StableHlo.TRef sig ⟨S128x100000, .f32⟩) (broadcastInDim S128x100000 ![0, 1] bcast_S1x1_S128x100000_0_1),
    StableHlo.TRef.binary (.of main_call5_call0_v26 : StableHlo.TRef sig ⟨S128x100000, .f32⟩) (.of main_call5_call0_v28 : StableHlo.TRef sig ⟨S128x100000, .f32⟩) (.of main_call5_call0_v29 : StableHlo.TRef sig ⟨S128x100000, .f32⟩) mulf,
    StableHlo.TRef.unary (.of main_call5_call0_v1 : StableHlo.TRef sig ⟨S1x1, .f32⟩) (.of main_call5_call0_v30 : StableHlo.TRef sig ⟨S128x100000, .f32⟩) (broadcastInDim S128x100000 ![0, 1] bcast_S1x1_S128x100000_0_1),
    StableHlo.TRef.binary (.of main_call5_call0_v29 : StableHlo.TRef sig ⟨S128x100000, .f32⟩) (.of main_call5_call0_v30 : StableHlo.TRef sig ⟨S128x100000, .f32⟩) (.of main_call5_call0_v31 : StableHlo.TRef sig ⟨S128x100000, .f32⟩) addf,
    StableHlo.TRef.unary (.of main_call5_call0_v1 : StableHlo.TRef sig ⟨S1x1, .f32⟩) (.of main_call5_call0_v32 : StableHlo.TRef sig ⟨S128x100000, .f32⟩) (broadcastInDim S128x100000 ![0, 1] bcast_S1x1_S128x100000_0_1),
    StableHlo.TRef.binary (.of main_call5_call0_v32 : StableHlo.TRef sig ⟨S128x100000, .f32⟩) (.of main_call5_call0_v31 : StableHlo.TRef sig ⟨S128x100000, .f32⟩) (.of main_call5_v0 : StableHlo.TRef sig ⟨S128x100000, .f32⟩) maximumf,
    StableHlo.TRef.unary (.of main_call5_v0 : StableHlo.TRef sig ⟨S128x100000, .f32⟩) (.of main_call5_v1 : StableHlo.TRef sig ⟨S128x100000, .f32⟩) Host.log,
    StableHlo.TRef.unary (.of main_call5_v1 : StableHlo.TRef sig ⟨S128x100000, .f32⟩) (.of main_call5_v2 : StableHlo.TRef sig ⟨S128x100000, .f32⟩) Host.negf,
    StableHlo.TRef.unary (.of main_call5_v2 : StableHlo.TRef sig ⟨S128x100000, .f32⟩) (.of main_call5_v3 : StableHlo.TRef sig ⟨S128x100000, .f32⟩) Host.log,
    StableHlo.TRef.unary (.of main_call5_v3 : StableHlo.TRef sig ⟨S128x100000, .f32⟩) (.of main_v39 : StableHlo.TRef sig ⟨S128x100000, .f32⟩) Host.negf ]

/-- Each touches buffers of the TensorCore only. -/
theorem opsNoise_sub : (opsNoise : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub ..⟩

/-- 6 operations: the perturbed scores and their first maximum. -/
abbrev opsPick : List (HloOp τ sig (Elt F)) :=
  [ StableHlo.binary main_v31 main_v39 main_v40 (addf : (⟨S128x100000, .f32⟩ : BufTy).Contents (Elt F) → (⟨S128x100000, .f32⟩ : BufTy).Contents (Elt F) → (⟨S128x100000, .f32⟩ : BufTy).Contents (Elt F)),
    StableHlo.TRef.nullary (.of main_call6_v0 : StableHlo.TRef sig ⟨S128x100000, .i32⟩) (iotaInDim S128x100000 32 1),
    StableHlo.TRef.nullary (.of main_call6_cst : StableHlo.TRef sig ⟨S_, .f32⟩) (constant S_ .f32 0xFF800000#32),
    StableHlo.TRef.nullary (.of main_call6_c : StableHlo.TRef sig ⟨S_, .i32⟩) (constantI S_ 32 0#32),
    StableHlo.TRef.quaternary (.of main_v40 : StableHlo.TRef sig ⟨S128x100000, .f32⟩) (.of main_call6_v0 : StableHlo.TRef sig ⟨S128x100000, .i32⟩) (.of main_call6_cst : StableHlo.TRef sig ⟨S_, .f32⟩) (.of main_call6_c : StableHlo.TRef sig ⟨S_, .i32⟩) (.of main_call6_v1_0 : StableHlo.TRef sig ⟨S128, .f32⟩) (fun x y u v j => (Host.argReduce reducer_argmax_f32_i32 x y u v reducesTo_S128x100000_S128_d1 h_S_ j).1),
    StableHlo.TRef.quaternary (.of main_v40 : StableHlo.TRef sig ⟨S128x100000, .f32⟩) (.of main_call6_v0 : StableHlo.TRef sig ⟨S128x100000, .i32⟩) (.of main_call6_cst : StableHlo.TRef sig ⟨S_, .f32⟩) (.of main_call6_c : StableHlo.TRef sig ⟨S_, .i32⟩) (.of main_v41 : StableHlo.TRef sig ⟨S128, .i32⟩) (fun x y u v j => (Host.argReduce reducer_argmax_f32_i32 x y u v reducesTo_S128x100000_S128_d1 h_S_ j).2) ]

/-- Each touches buffers of the TensorCore only. -/
theorem opsPick_sub : (opsPick : List (HloOp τ sig (Elt F))).Forall fun op => op.bufs ⊆ StableHlo.tcRefs τ sig :=
  ⟨StableHlo.binary_bufs_sub .., StableHlo.nullary_bufs_sub .., StableHlo.nullary_bufs_sub .., StableHlo.nullary_bufs_sub .., StableHlo.quaternary_bufs_sub .., StableHlo.quaternary_bufs_sub ..⟩

/-- 24 operations: the token at that rank. -/
abbrev opsToken : List (HloOp τ sig (Elt F)) :=
  [ StableHlo.unary main_v41 main_v42 (broadcastInDim S128x1 ![0] bcast_S128_S128x1_0 : (⟨S128, .i32⟩ : BufTy).Contents (Elt F) → (⟨S128x1, .i32⟩ : BufTy).Contents (Elt F)),
    StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S128x1, .i32⟩) (broadcastInDim S128x1 ![] bcast_S_S128x1),
    StableHlo.TRef.binary (.of main_v42 : StableHlo.TRef sig ⟨S128x1, .i32⟩) (.of main_call7_v0 : StableHlo.TRef sig ⟨S128x1, .i32⟩) (.of main_call7_v1 : StableHlo.TRef sig ⟨S128x1, .i1⟩) (cmpi .slt),
    StableHlo.TRef.nullary (.of main_call7_c_0 : StableHlo.TRef sig ⟨S_, .i32⟩) (constantI S_ 32 100000#32),
    StableHlo.TRef.unary (.of main_call7_c_0 : StableHlo.TRef sig ⟨S_, .i32⟩) (.of main_call7_v2 : StableHlo.TRef sig ⟨S128x1, .i32⟩) (broadcastInDim S128x1 ![] bcast_S_S128x1),
    StableHlo.TRef.binary (.of main_v42 : StableHlo.TRef sig ⟨S128x1, .i32⟩) (.of main_call7_v2 : StableHlo.TRef sig ⟨S128x1, .i32⟩) (.of main_call7_v3 : StableHlo.TRef sig ⟨S128x1, .i32⟩) addi,
    StableHlo.TRef.ternary (.of main_call7_v1 : StableHlo.TRef sig ⟨S128x1, .i1⟩) (.of main_call7_v3 : StableHlo.TRef sig ⟨S128x1, .i32⟩) (.of main_v42 : StableHlo.TRef sig ⟨S128x1, .i32⟩) (.of main_call7_v4 : StableHlo.TRef sig ⟨S128x1, .i32⟩) select,
    StableHlo.TRef.reshape (.of main_call7_v4 : StableHlo.TRef sig ⟨S128x1, .i32⟩) (.of main_call7_v5 : StableHlo.TRef sig ⟨S128x1x1, .i32⟩) (rfl : (.i32 : EltTy) = .i32) shapeCasts_S128x1_S128x1x1,
    StableHlo.TRef.nullary (.of main_call7_c_1 : StableHlo.TRef sig ⟨S1, .i32⟩) (constantI S1 32 99999#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S128x1x1, .i32⟩) (broadcastInDim S128x1x1 ![] bcast_S_S128x1x1),
    StableHlo.TRef.binary (.of main_call7_v5 : StableHlo.TRef sig ⟨S128x1x1, .i32⟩) (.of main_call7_v6 : StableHlo.TRef sig ⟨S128x1x1, .i32⟩) (.of main_call7_v7 : StableHlo.TRef sig ⟨S128x1x1, .i1⟩) (cmpi .sge),
    StableHlo.TRef.unary (.of main_call7_c_1 : StableHlo.TRef sig ⟨S1, .i32⟩) (.of main_call7_v8 : StableHlo.TRef sig ⟨S1x1x1, .i32⟩) (broadcastInDim S1x1x1 ![2] bcast_S1_S1x1x1_2),
    StableHlo.TRef.unary (.of main_call7_v8 : StableHlo.TRef sig ⟨S1x1x1, .i32⟩) (.of main_call7_v9 : StableHlo.TRef sig ⟨S128x1x1, .i32⟩) (broadcastInDim S128x1x1 ![0, 1, 2] bcast_S1x1x1_S128x1x1_0_1_2),
    StableHlo.TRef.binary (.of main_call7_v5 : StableHlo.TRef sig ⟨S128x1x1, .i32⟩) (.of main_call7_v9 : StableHlo.TRef sig ⟨S128x1x1, .i32⟩) (.of main_call7_v10 : StableHlo.TRef sig ⟨S128x1x1, .i1⟩) (cmpi .sle),
    StableHlo.TRef.binary (.of main_call7_v7 : StableHlo.TRef sig ⟨S128x1x1, .i1⟩) (.of main_call7_v10 : StableHlo.TRef sig ⟨S128x1x1, .i1⟩) (.of main_call7_v11 : StableHlo.TRef sig ⟨S128x1x1, .i1⟩) andi,
    StableHlo.TRef.nullary (.of main_call7_c_3 : StableHlo.TRef sig ⟨S_, .i1⟩) (constantI S_ 1 1#1),
    StableHlo.TRef.binary (.of main_call7_v11 : StableHlo.TRef sig ⟨S128x1x1, .i1⟩) (.of main_call7_c_3 : StableHlo.TRef sig ⟨S_, .i1⟩) (.of main_call7_v12 : StableHlo.TRef sig ⟨S128x1, .i1⟩) (fun x v => Host.reduce IntOp.andi x v reducesTo_S128x1x1_S128x1_d2 h_S_),
    StableHlo.TRef.binary (.of main_v4 : StableHlo.TRef sig ⟨S128x100000, .i32⟩) (.of main_call7_v5 : StableHlo.TRef sig ⟨S128x1x1, .i32⟩) (.of main_call7_v13 : StableHlo.TRef sig ⟨S128x1, .i32⟩) (fun x i => Host.gather gather_S128x100000_S128x1x1_S128x1_n_1_0_0_1_2_11 x i),
    StableHlo.TRef.nullary (.of main_call7_c_4 : StableHlo.TRef sig ⟨S_, .i32⟩) (constantI S_ 32 2147483648#32),
    StableHlo.TRef.unary (.of main_call7_c_4 : StableHlo.TRef sig ⟨S_, .i32⟩) (.of main_call7_v14 : StableHlo.TRef sig ⟨S128x1, .i32⟩) (broadcastInDim S128x1 ![] bcast_S_S128x1),
    StableHlo.TRef.ternary (.of main_call7_v12 : StableHlo.TRef sig ⟨S128x1, .i1⟩) (.of main_call7_v13 : StableHlo.TRef sig ⟨S128x1, .i32⟩) (.of main_call7_v14 : StableHlo.TRef sig ⟨S128x1, .i32⟩) (.of main_v43 : StableHlo.TRef sig ⟨S128x1, .i32⟩) select,
    StableHlo.reshape main_v43 main_v44 (rfl : (.i32 : EltTy) = .i32) shapeCasts_S128x1_S128 ]

/-- Each touches buffers of the TensorCore only. -/
theorem opsToken_sub : (opsToken : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub ..⟩

/-- The reference's operations, in order. -/
abbrev ops : List (HloOp τ sig (Elt F)) :=
  opsSort ++ (opsTake ++ (opsTopK ++ (opsSoft ++ (opsTopP ++ (opsNoise ++ (opsPick ++ (opsToken)))))))

/-- The reference is these operations, one after the other. -/
theorem main_eq (c : Dev nD) : main (F := F) c = StableHlo.seq ops := rfl

end

end Cert.ReferenceIdeal.Ops
-- ==== Proof.Ref.Run.lean ====
module

public import proofs.«01_k».proof.Proof.Ref.Ops
public import Idealize.ShloMosaic.Lib.StableHlo.RunRead
public import Idealize.ShloMosaic.Lib.Claim
public import Idealize.ShloMosaic.Lib.Quiescent

@[expose] public section

set_option maxRecDepth 65536

/-! # The reference's run

Every execution ends, each buffer at the fold of the operations, the arguments as they were and every counter at zero. -/

namespace Cert.ReferenceIdeal.Ops

open Idealize.ShloMosaic Idealize.SL.Sem Idealize.ShloMosaic.TcCoe
open Cert.ReferenceIdeal Facts₀ Facts

noncomputable section

variable {F : FTy → Type} [FloatOps F]

/-- What the operations of `opsSort` write, in order. -/
abbrev wSort : List (Ref sig .tc) :=
  [main_v0, main_v1, main_v2, main_v3, main_call0_v0, main_call0_v1_0, main_v4]

/-- `opsSort` leaves every other buffer alone. -/
theorem opsSort_keeps {r : Ref sig .tc} (hr : r ∉ wSort) (V : Valuation τ sig (Elt F)) :
    StableHlo.after opsSort V (Proc.devRef .tc r) = V (Proc.devRef .tc r) :=
  StableHlo.after_unwritten wSort rfl hr V

/-- Each operation of `opsSort` determines its results. -/
theorem opsSort_fresh : ∀ op ∈ (opsSort : List (HloOp τ sig (Elt F))), op.fresh = ∅ := by
  intro _ h; (repeat (cases h with | head => rfl | tail _ h => ?_)); exact nomatch h

/-- What the operations of `opsTake` write, in order. -/
abbrev wTake : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v5]

/-- `opsTake` leaves every other buffer alone. -/
theorem opsTake_keeps {r : Ref sig .tc} (hr : r ∉ wTake) (V : Valuation τ sig (Elt F)) :
    StableHlo.after opsTake V (Proc.devRef .tc r) = V (Proc.devRef .tc r) :=
  StableHlo.after_unwritten wTake rfl hr V

/-- Each operation of `opsTake` determines its results. -/
theorem opsTake_fresh : ∀ op ∈ (opsTake : List (HloOp τ sig (Elt F))), op.fresh = ∅ := by
  intro _ h; (repeat (cases h with | head => rfl | tail _ h => ?_)); exact nomatch h

/-- What the operations of `opsTopK` write, in order. -/
abbrev wTopK : List (Ref sig .tc) :=
  [main_v6, main_v7, main_c, main_v8, main_v9, main_v10, main_v11, main_v12, main_v13, main_cst, main_call2_v0, main_call2_v1, main_v14]

/-- `opsTopK` leaves every other buffer alone. -/
theorem opsTopK_keeps {r : Ref sig .tc} (hr : r ∉ wTopK) (V : Valuation τ sig (Elt F)) :
    StableHlo.after opsTopK V (Proc.devRef .tc r) = V (Proc.devRef .tc r) :=
  StableHlo.after_unwritten wTopK rfl hr V

/-- Each operation of `opsTopK` determines its results. -/
theorem opsTopK_fresh : ∀ op ∈ (opsTopK : List (HloOp τ sig (Elt F))), op.fresh = ∅ := by
  intro _ h; (repeat (cases h with | head => rfl | tail _ h => ?_)); exact nomatch h

/-- What the operations of `opsSoft` write, in order. -/
abbrev wSoft : List (Ref sig .tc) :=
  [main_cst_0, main_v15, main_cst_1, main_v16, main_v17, main_v18, main_v19, main_v20, main_v21, main_cst_2, main_v22, main_v23, main_v24, main_v25]

/-- `opsSoft` leaves every other buffer alone. -/
theorem opsSoft_keeps {r : Ref sig .tc} (hr : r ∉ wSoft) (V : Valuation τ sig (Elt F)) :
    StableHlo.after opsSoft V (Proc.devRef .tc r) = V (Proc.devRef .tc r) :=
  StableHlo.after_unwritten wSoft rfl hr V

/-- Each operation of `opsSoft` determines its results. -/
theorem opsSoft_fresh : ∀ op ∈ (opsSoft : List (HloOp τ sig (Elt F))), op.fresh = ∅ := by
  intro _ h; (repeat (cases h with | head => rfl | tail _ h => ?_)); exact nomatch h

/-- What the operations of `opsTopP` write, in order. -/
abbrev wTopP : List (Ref sig .tc) :=
  [main_call3_call0_cst, main_call3_call0_v0, main_v26, main_v27, main_v28, main_v29, main_v30, main_cst_3, main_call4_v0, main_call4_v1, main_v31]

/-- `opsTopP` leaves every other buffer alone. -/
theorem opsTopP_keeps {r : Ref sig .tc} (hr : r ∉ wTopP) (V : Valuation τ sig (Elt F)) :
    StableHlo.after opsTopP V (Proc.devRef .tc r) = V (Proc.devRef .tc r) :=
  StableHlo.after_unwritten wTopP rfl hr V

/-- Each operation of `opsTopP` determines its results. -/
theorem opsTopP_fresh : ∀ op ∈ (opsTopP : List (HloOp τ sig (Elt F))), op.fresh = ∅ := by
  intro _ h; (repeat (cases h with | head => rfl | tail _ h => ?_)); exact nomatch h

/-- What the operations of `opsNoise` write, in order. -/
abbrev wNoise : List (Ref sig .tc) :=
  [main_c_4, main_c_5, main_v32, main_v33, main_v34, main_c_6, main_v35, main_v36, main_v37, main_v38, main_call5_cst, main_call5_cst_0, main_call5_call0_v0, main_call5_call0_v1, main_call5_call0_v2, main_call5_call0_v3, main_call5_call0_v4, main_call5_call0_v5, main_call5_call0_v6, main_call5_call0_v7, main_call5_call0_v8, main_call5_call0_c, main_call5_call0_v9, main_call5_call0_v10, main_call5_call0_c_0, main_call5_call0_v11, main_call5_call0_v12, main_call5_call0_v13, main_call5_call0_c_1, main_call5_call0_v14, main_call5_call0_v15, main_call5_call0_v16, main_call5_call0_v17, main_call5_call0_call0_v0, main_call5_call0_call0_c, main_call5_call0_call0_v1, main_call5_call0_call0_v2, main_call5_call0_call0_v3, main_call5_call0_call0_v4, main_call5_call0_call0_v5, main_call5_call0_call0_v6, main_call5_call0_call0_c_0, main_call5_call0_call0_v7, main_call5_call0_call0_v8, main_call5_call0_call0_c_1, main_call5_call0_call0_v9, main_call5_call0_call0_v10, main_call5_call0_call0_v11, main_call5_call0_call0_v12, main_call5_call0_call0_v13, main_call5_call0_call0_c_2, main_call5_call0_call0_v14, main_call5_call0_call0_v15, main_call5_call0_call0_c_3, main_call5_call0_call0_v16, main_call5_call0_call0_v17, main_call5_call0_call0_v18, main_call5_call0_call0_v19, main_call5_call0_call0_v20, main_call5_call0_call0_c_4, main_call5_call0_call0_v21, main_call5_call0_call0_v22, main_call5_call0_call0_c_5, main_call5_call0_call0_v23, main_call5_call0_call0_v24, main_call5_call0_call0_v25, main_call5_call0_call0_v26, main_call5_call0_call0_v27, main_call5_call0_call0_c_6, main_call5_call0_call0_v28, main_call5_call0_call0_v29, main_call5_call0_call0_c_7, main_call5_call0_call0_v30, main_call5_call0_call0_v31, main_call5_call0_call0_v32, main_call5_call0_call0_v33, main_call5_call0_call0_v34, main_call5_call0_call0_v35, main_call5_call0_call0_v36, main_call5_call0_call0_v37, main_call5_call0_call0_c_8, main_call5_call0_call0_v38, main_call5_call0_call0_v39, main_call5_call0_call0_v40, main_call5_call0_call0_c_9, main_call5_call0_call0_v41, main_call5_call0_call0_v42, main_call5_call0_call0_c_10, main_call5_call0_call0_v43, main_call5_call0_call0_v44, main_call5_call0_call0_v45, main_call5_call0_call0_v46, main_call5_call0_call0_v47, main_call5_call0_call0_c_11, main_call5_call0_call0_v48, main_call5_call0_call0_v49, main_call5_call0_call0_c_12, main_call5_call0_call0_v50, main_call5_call0_call0_v51, main_call5_call0_call0_v52, main_call5_call0_call0_v53, main_call5_call0_call0_v54, main_call5_call0_call0_c_13, main_call5_call0_call0_v55, main_call5_call0_call0_v56, main_call5_call0_call0_c_14, main_call5_call0_call0_v57, main_call5_call0_call0_v58, main_call5_call0_call0_v59, main_call5_call0_call0_v60, main_call5_call0_call0_v61, main_call5_call0_call0_c_15, main_call5_call0_call0_v62, main_call5_call0_call0_v63, main_call5_call0_call0_c_16, main_call5_call0_call0_v64, main_call5_call0_call0_v65, main_call5_call0_call0_v66, main_call5_call0_call0_v67, main_call5_call0_call0_v68, main_call5_call0_call0_v69, main_call5_call0_call0_v70, main_call5_call0_call0_v71, main_call5_call0_call0_c_17, main_call5_call0_call0_v72, main_call5_call0_call0_v73, main_call5_call0_call0_v74, main_call5_call0_call0_c_18, main_call5_call0_call0_v75, main_call5_call0_call0_v76, main_call5_call0_call0_c_19, main_call5_call0_call0_v77, main_call5_call0_call0_v78, main_call5_call0_call0_v79, main_call5_call0_call0_v80, main_call5_call0_call0_v81, main_call5_call0_call0_c_20, main_call5_call0_call0_v82, main_call5_call0_call0_v83, main_call5_call0_call0_c_21, main_call5_call0_call0_v84, main_call5_call0_call0_v85, main_call5_call0_call0_v86, main_call5_call0_call0_v87, main_call5_call0_call0_v88, main_call5_call0_call0_c_22, main_call5_call0_call0_v89, main_call5_call0_call0_v90, main_call5_call0_call0_c_23, main_call5_call0_call0_v91, main_call5_call0_call0_v92, main_call5_call0_call0_v93, main_call5_call0_call0_v94, main_call5_call0_call0_v95, main_call5_call0_call0_c_24, main_call5_call0_call0_v96, main_call5_call0_call0_v97, main_call5_call0_call0_c_25, main_call5_call0_call0_v98, main_call5_call0_call0_v99, main_call5_call0_call0_v100, main_call5_call0_call0_v101, main_call5_call0_call0_v102, main_call5_call0_call0_v103, main_call5_call0_call0_v104, main_call5_call0_call0_v105, main_call5_call0_call0_c_26, main_call5_call0_call0_v106, main_call5_call0_call0_v107, main_call5_call0_call0_v108, main_call5_call0_call0_c_27, main_call5_call0_call0_v109, main_call5_call0_call0_v110, main_call5_call0_call0_c_28, main_call5_call0_call0_v111, main_call5_call0_call0_v112, main_call5_call0_call0_v113, main_call5_call0_call0_v114, main_call5_call0_call0_v115, main_call5_call0_call0_c_29, main_call5_call0_call0_v116, main_call5_call0_call0_v117, main_call5_call0_call0_c_30, main_call5_call0_call0_v118, main_call5_call0_call0_v119, main_call5_call0_call0_v120, main_call5_call0_call0_v121, main_call5_call0_call0_v122, main_call5_call0_call0_c_31, main_call5_call0_call0_v123, main_call5_call0_call0_v124, main_call5_call0_call0_c_32, main_call5_call0_call0_v125, main_call5_call0_call0_v126, main_call5_call0_call0_v127, main_call5_call0_call0_v128, main_call5_call0_call0_v129, main_call5_call0_call0_c_33, main_call5_call0_call0_v130, main_call5_call0_call0_v131, main_call5_call0_call0_c_34, main_call5_call0_call0_v132, main_call5_call0_call0_v133, main_call5_call0_call0_v134, main_call5_call0_call0_v135, main_call5_call0_call0_v136, main_call5_call0_call0_v137, main_call5_call0_call0_v138, main_call5_call0_call0_v139, main_call5_call0_call0_c_35, main_call5_call0_call0_v140, main_call5_call0_call0_v141, main_call5_call0_call0_v142, main_call5_call0_call0_c_36, main_call5_call0_call0_v143, main_call5_call0_call0_v144, main_call5_call0_call0_c_37, main_call5_call0_call0_v145, main_call5_call0_call0_v146, main_call5_call0_call0_v147, main_call5_call0_call0_v148, main_call5_call0_call0_v149, main_call5_call0_call0_c_38, main_call5_call0_call0_v150, main_call5_call0_call0_v151, main_call5_call0_call0_c_39, main_call5_call0_call0_v152, main_call5_call0_call0_v153, main_call5_call0_call0_v154, main_call5_call0_call0_v155, main_call5_call0_call0_v156, main_call5_call0_call0_c_40, main_call5_call0_call0_v157, main_call5_call0_call0_v158, main_call5_call0_call0_c_41, main_call5_call0_call0_v159, main_call5_call0_call0_v160, main_call5_call0_call0_v161, main_call5_call0_call0_v162, main_call5_call0_call0_v163, main_call5_call0_call0_c_42, main_call5_call0_call0_v164, main_call5_call0_call0_v165, main_call5_call0_call0_c_43, main_call5_call0_call0_v166, main_call5_call0_call0_v167, main_call5_call0_call0_v168, main_call5_call0_call0_v169, main_call5_call0_call0_v170, main_call5_call0_v18_0, main_call5_call0_call0_v172, main_call5_call0_call0_v173, main_call5_call0_call0_c_44, main_call5_call0_call0_v174, main_call5_call0_v18_1, main_call5_call0_v19, main_call5_call0_c_2, main_call5_call0_v20, main_call5_call0_v21, main_call5_call0_c_3, main_call5_call0_v22, main_call5_call0_v23, main_call5_call0_v24, main_call5_call0_cst, main_call5_call0_v25, main_call5_call0_v26, main_call5_call0_v27, main_call5_call0_v28, main_call5_call0_v29, main_call5_call0_v30, main_call5_call0_v31, main_call5_call0_v32, main_call5_v0, main_call5_v1, main_call5_v2, main_call5_v3, main_v39]

/-- `opsNoise` leaves every other buffer alone. -/
theorem opsNoise_keeps {r : Ref sig .tc} (hr : r ∉ wNoise) (V : Valuation τ sig (Elt F)) :
    StableHlo.after opsNoise V (Proc.devRef .tc r) = V (Proc.devRef .tc r) :=
  StableHlo.after_unwritten wNoise rfl hr V

/-- Each operation of `opsNoise` determines its results. -/
theorem opsNoise_fresh : ∀ op ∈ (opsNoise : List (HloOp τ sig (Elt F))), op.fresh = ∅ := by
  intro _ h; (repeat (cases h with | head => rfl | tail _ h => ?_)); exact nomatch h

/-- What the operations of `opsPick` write, in order. -/
abbrev wPick : List (Ref sig .tc) :=
  [main_v40, main_call6_v0, main_call6_cst, main_call6_c, main_call6_v1_0, main_v41]

/-- `opsPick` leaves every other buffer alone. -/
theorem opsPick_keeps {r : Ref sig .tc} (hr : r ∉ wPick) (V : Valuation τ sig (Elt F)) :
    StableHlo.after opsPick V (Proc.devRef .tc r) = V (Proc.devRef .tc r) :=
  StableHlo.after_unwritten wPick rfl hr V

/-- Each operation of `opsPick` determines its results. -/
theorem opsPick_fresh : ∀ op ∈ (opsPick : List (HloOp τ sig (Elt F))), op.fresh = ∅ := by
  intro _ h; (repeat (cases h with | head => rfl | tail _ h => ?_)); exact nomatch h

/-- What the operations of `opsToken` write, in order. -/
abbrev wToken : List (Ref sig .tc) :=
  [main_v42, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_c_4, main_call7_v14, main_v43, main_v44]

/-- `opsToken` leaves every other buffer alone. -/
theorem opsToken_keeps {r : Ref sig .tc} (hr : r ∉ wToken) (V : Valuation τ sig (Elt F)) :
    StableHlo.after opsToken V (Proc.devRef .tc r) = V (Proc.devRef .tc r) :=
  StableHlo.after_unwritten wToken rfl hr V

/-- Each operation of `opsToken` determines its results. -/
theorem opsToken_fresh : ∀ op ∈ (opsToken : List (HloOp τ sig (Elt F))), op.fresh = ∅ := by
  intro _ h; (repeat (cases h with | head => rfl | tail _ h => ?_)); exact nomatch h

/-- Each operation touches buffers of the TensorCore only. -/
theorem ops_sub : (ops : List (HloOp τ sig (Elt F))).Forall fun op => op.bufs ⊆ StableHlo.tcRefs τ sig := by
  simp only [ops, List.forall_append]
  exact ⟨opsSort_sub, opsTake_sub, opsTopK_sub, opsSoft_sub, opsTopP_sub, opsNoise_sub, opsPick_sub, opsToken_sub⟩

/-- Each operation determines its results. -/
theorem ops_fresh : ∀ op ∈ (ops : List (HloOp τ sig (Elt F))), op.fresh = ∅ := by
  intro op h
  simp only [ops, List.mem_append] at h
  rcases h with h | h | h | h | h | h | h | h
  · exact opsSort_fresh op h
  · exact opsTake_fresh op h
  · exact opsTopK_fresh op h
  · exact opsSoft_fresh op h
  · exact opsTopP_fresh op h
  · exact opsNoise_fresh op h
  · exact opsPick_fresh op h
  · exact opsToken_fresh op h

/-- The contents after all eight stretches. -/
abbrev final (V : Valuation τ sig (Elt F)) : Valuation τ sig (Elt F) :=
  StableHlo.after opsToken (StableHlo.after opsPick (StableHlo.after opsNoise (StableHlo.after opsTopP (StableHlo.after opsSoft (StableHlo.after opsTopK (StableHlo.after opsTake (StableHlo.after opsSort (V))))))))

/-- The whole line is its stretches one after the other. -/
theorem after_ops (V : Valuation τ sig (Elt F)) : StableHlo.after ops V = final V := by
  simp only [ops, StableHlo.after_append]

/-- A buffer that no stretch writes ends as it began. -/
theorem final_keeps {r : Ref sig .tc} (h0 : r ∉ wSort) (h1 : r ∉ wTake) (h2 : r ∉ wTopK) (h3 : r ∉ wSoft) (h4 : r ∉ wTopP) (h5 : r ∉ wNoise) (h6 : r ∉ wPick) (h7 : r ∉ wToken) (V : Valuation τ sig (Elt F)) :
    final V (Proc.devRef .tc r) = V (Proc.devRef .tc r) := by
  unfold final
  rw [opsToken_keeps h7, opsPick_keeps h6, opsNoise_keeps h5, opsTopP_keeps h4, opsSoft_keeps h3, opsTopK_keeps h2, opsTake_keeps h1, opsSort_keeps h0]

/-- Every execution ends with each buffer at the fold of the operations over the launch contents, every counter at zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = final (StableHlo.launchContents m d) (Proc.devRef .tc b))
        ∧ r.2.sem = fun _ => 0 := by
  refine (θ_run _ _ _).mono ?_ (StableHlo.run_seq (by decide) (by decide) defs main (fun _ => ops) main_eq (fun _ => ops_sub) m ρ (fun _ => ops_fresh))
  intro r h
  refine ⟨fun d b => ?_, sem_eq_zero_of_no_sems rfl _⟩
  rw [h d b, after_ops]

/-- The frame: the arguments end as they began and every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run _ _ _).mono ?_ (run m ρ)
  intro r h
  refine ⟨fun c => ⟨?_, ?_, ?_, ?_⟩, h.2⟩ <;>
    exact (h.1 c _).trans (final_keeps (by decide) (by decide) (by decide) (by decide) (by decide) (by decide) (by decide) (by decide) _)

end

end Cert.ReferenceIdeal.Ops
-- ==== Proof.Noise.lean ====
/-
  The noise: the kernel program and the reference compute it by the same operations, buffer by buffer.
-/
module

public import proofs.«01_k».proof.Proof.Ref.Ops
public import proofs.«01_k».proof.Proof.Gen.KernelIdeal.Launch
public import Idealize.ShloMosaic.Lib.StableHlo.Run

@[expose] public section

set_option maxRecDepth 65536

namespace Cert.Noise

open Idealize.ShloMosaic Idealize.ShloMosaic.StableHlo

noncomputable section

variable {F : FTy → Type} [FloatOps F]

abbrev OpK (F : FTy → Type) := HloOp Cert.KernelIdeal.τ Cert.KernelIdeal.sig (Elt F)
abbrev OpR (F : FTy → Type) := HloOp Cert.ReferenceIdeal.τ Cert.ReferenceIdeal.sig (Elt F)
abbrev ValK (F : FTy → Type) := Valuation Cert.KernelIdeal.τ Cert.KernelIdeal.sig (Elt F)
abbrev ValR (F : FTy → Type) := Valuation Cert.ReferenceIdeal.τ Cert.ReferenceIdeal.sig (Elt F)
abbrev RefK (T : BufTy) := TRef Cert.KernelIdeal.sig T
abbrev RefR (T : BufTy) := TRef Cert.ReferenceIdeal.sig T

/-- The two buffers are each other's, the reference's 66 places later. -/
def Cor (a : Ref Cert.KernelIdeal.sig .tc) (b : Ref Cert.ReferenceIdeal.sig .tc) (i : ℕ) : Prop :=
  (a.space = .hbm ∧ b.space = .hbm) ∧ a.idx.val = i ∧ b.idx.val = i + 66

/-- Buffers of one space are told apart by their place. -/
theorem ref_ext {sig : RefSig} {a b : Ref sig .tc} (hs : a.space = b.space) (hi : a.idx.val = b.idx.val) : a = b := by
  obtain ⟨sa, ia, na⟩ := a
  obtain ⟨sb, ib, nb⟩ := b
  dsimp at hs
  subst hs
  have : ia = ib := Fin.ext hi
  subst this
  rfl

/-- Each buffer from the fifth up to the given place holds what its partner holds. -/
def Inv (n : ℕ) (V : ValK F) (W : ValR F) : Prop :=
  ∀ (T : BufTy) (a : RefK T) (b : RefR T) (i : ℕ), Cor a.ref b.ref i → 5 ≤ i → i < n →
    a.ofBuf (V (Proc.devRef .tc a.ref)) = b.ofBuf (W (Proc.devRef .tc b.ref))

/-- One operation on each side carries the agreement one place further. -/
def Step (n : ℕ) (o : OpK F) (p : OpR F) : Prop :=
  ∀ V W, Inv n V W → Inv (n + 1) (o.result V) (p.result W)

/-- Two operations that write partners, write nothing else and give the same carry the agreement on. -/
theorem step_of {n : ℕ} {o : OpK F} {p : OpR F} {T : BufTy} (y : RefK T) (z : RefR T) (hc : Cor y.ref z.ref n)
    (ho : ∀ (V : ValK F) (r : Ref Cert.KernelIdeal.sig .tc), r ≠ y.ref → o.result V (Proc.devRef .tc r) = V (Proc.devRef .tc r))
    (hp : ∀ (V : ValR F) (r : Ref Cert.ReferenceIdeal.sig .tc), r ≠ z.ref → p.result V (Proc.devRef .tc r) = V (Proc.devRef .tc r))
    (hv : ∀ V W, Inv n V W → y.ofBuf (o.result V (Proc.devRef .tc y.ref)) = z.ofBuf (p.result W (Proc.devRef .tc z.ref))) : Step n o p := by
  intro V W h T' a b i hab h5 hi
  by_cases e : i = n
  · subst e
    have ea : a.ref = y.ref := ref_ext (hab.1.1.trans hc.1.1.symm) (hab.2.1.trans hc.2.1.symm)
    have eb : b.ref = z.ref := ref_ext (hab.1.2.trans hc.1.2.symm) (hab.2.2.trans hc.2.2.symm)
    have := hv V W h
    obtain ⟨ra, ta, da, ua⟩ := a
    obtain ⟨ry, ty, dy, uy⟩ := y
    obtain ⟨rb, tb, db, ub⟩ := b
    obtain ⟨rz, tz, dz, uz⟩ := z
    dsimp only at ea eb
    subst ea; subst eb
    have hT : T' = T := ta.symm.trans ty
    subst hT
    exact this
  · rw [ho V a.ref, hp W b.ref]
    · exact h T' a b i hab h5 (by omega)
    · intro e'
      have h1 := hab.2.2
      rw [e', hc.2.2] at h1
      omega
    · intro e'
      have h1 := hab.2.1
      rw [e', hc.2.1] at h1
      omega

/-- Contents stored and read again. -/
theorem ofBuf_toBuf' {sig : RefSig} {T : BufTy} (t : TRef sig T) (v : T.Contents (Elt F)) : t.ofBuf (t.toBuf v) = v :=
  TRef.ofBuf_toBuf t v

/-- Two constants. -/
theorem sim_nullary {n : ℕ} {T : BufTy} {y : RefK T} {z : RefR T} {v : T.Contents (Elt F)} (hc : Cor y.ref z.ref n) :
    Step n (TRef.nullary y v) (TRef.nullary z v) :=
  step_of y z hc (fun V r h => nullary_result_ne _ _ _ V h) (fun V r h => nullary_result_ne _ _ _ V h) fun V W _ => by
    rw [nullary_result, nullary_result, ofBuf_toBuf', ofBuf_toBuf']

/-- Two operations of one operand. -/
theorem sim_unary {n : ℕ} {T U : BufTy} {x : RefK U} {x' : RefR U} {y : RefK T} {z : RefR T} {f : U.Contents (Elt F) → T.Contents (Elt F)}
    (i : ℕ) (hi : (Nat.ble 5 i && Nat.blt i n) = true) (hx : Cor x.ref x'.ref i) (hc : Cor y.ref z.ref n) :
    Step n (TRef.unary x y f) (TRef.unary x' z f) :=
  step_of y z hc (fun V r h => unary_result_ne _ _ _ _ _ V h) (fun V r h => unary_result_ne _ _ _ _ _ V h) fun V W h => by
    rw [Bool.and_eq_true, Nat.ble_eq, Nat.blt_eq] at hi
    rw [unary_result, unary_result, ofBuf_toBuf', ofBuf_toBuf', h _ x x' i hx hi.1 hi.2]

/-- Two operations of two operands. -/
theorem sim_binary {n : ℕ} {T U U' : BufTy} {x : RefK U} {x' : RefR U} {w : RefK U'} {w' : RefR U'} {y : RefK T} {z : RefR T}
    {f : U.Contents (Elt F) → U'.Contents (Elt F) → T.Contents (Elt F)}
    (i j : ℕ) (hi : (Nat.ble 5 i && Nat.blt i n) = true) (hj : (Nat.ble 5 j && Nat.blt j n) = true)
    (hx : Cor x.ref x'.ref i) (hw : Cor w.ref w'.ref j) (hc : Cor y.ref z.ref n) :
    Step n (TRef.binary x w y f) (TRef.binary x' w' z f) :=
  step_of y z hc (fun V r h => binary_result_ne _ _ _ _ _ _ _ V h) (fun V r h => binary_result_ne _ _ _ _ _ _ _ V h) fun V W h => by
    rw [Bool.and_eq_true, Nat.ble_eq, Nat.blt_eq] at hi hj
    rw [binary_result, binary_result, ofBuf_toBuf', ofBuf_toBuf', h _ x x' i hx hi.1 hi.2, h _ w w' j hw hj.1 hj.2]

/-- What a reshape leaves in its buffer. -/
theorem reshape_read {sig : RefSig} {τ : Topo} {T U : BufTy} (x : TRef sig U) (y : TRef sig T) (he : U.elt = T.elt) (hn : U.shape.ShapeCasts T.shape)
    (V : Valuation τ sig (Elt F)) : y.ofBuf ((TRef.reshape x y he hn).result V (Proc.devRef .tc y.ref))
      = fun i => he ▸ shapeCast T.shape (x.ofBuf (V (Proc.devRef .tc x.ref))) hn i := by
  obtain ⟨rx, tx, dx, ux⟩ := x
  obtain ⟨ry, ty, dy, uy⟩ := y
  subst tx; subst ty
  exact reshape_result _ _ _ _ _ _ V

/-- Two reshapes. -/
theorem sim_reshape {n : ℕ} {T U : BufTy} {x : RefK U} {x' : RefR U} {y : RefK T} {z : RefR T} {he : U.elt = T.elt} {hn : U.shape.ShapeCasts T.shape}
    (i : ℕ) (hi : (Nat.ble 5 i && Nat.blt i n) = true) (hx : Cor x.ref x'.ref i) (hc : Cor y.ref z.ref n) :
    Step (F := F) n (TRef.reshape x y he hn) (TRef.reshape x' z he hn) :=
  step_of y z hc (fun V r h => reshape_result_ne _ _ _ _ _ _ V h) (fun V r h => reshape_result_ne _ _ _ _ _ _ V h) fun V W h => by
    rw [Bool.and_eq_true, Nat.ble_eq, Nat.blt_eq] at hi
    have e := h _ x x' i hx hi.1 hi.2
    rw [reshape_read, reshape_read, e]

/-- The two lines keep step. -/
def Sim (n : ℕ) (l : List (OpK F)) (k : List (OpR F)) : Prop :=
  ∀ V W, Inv n V W → Inv (n + l.length) (after l V) (after k W)

/-- Nothing to do on either side. -/
theorem Sim.nil {n : ℕ} : Sim (F := F) n [] [] := fun _ _ h => h

/-- One more operation in front on each side. -/
theorem Sim.cons {n : ℕ} {o : OpK F} {p : OpR F} {l : List (OpK F)} {k : List (OpR F)} (h : Step n o p) (t : Sim (n + 1) l k) :
    Sim n (o :: l) (p :: k) := by
  intro V W hi
  have := t _ _ (h V W hi)
  rw [List.length_cons, show n + (l.length + 1) = n + 1 + l.length by omega]
  exact this

/-- The kernel program's noise operations and the reference's keep step. -/
theorem sim_all : Sim (F := F) 5 (Cert.KernelIdeal.Gen.hostOps0.tail ++ Cert.KernelIdeal.Gen.hostOps0_1) Cert.ReferenceIdeal.Ops.opsNoise :=
  .cons (sim_nullary (n := 5) (y := (⟨Cert.KernelIdeal.main_c, rfl, nofun, rfl⟩ : RefK ⟨Cert.KernelIdeal.S_, .i32⟩)) (z := (⟨Cert.ReferenceIdeal.main_c_4, rfl, nofun, rfl⟩ : RefR ⟨Cert.KernelIdeal.S_, .i32⟩)) (v := constantI Cert.KernelIdeal.S_ 32 42#32) ⟨⟨rfl, rfl⟩, rfl, rfl⟩) <|
  .cons (sim_nullary (n := 6) (y := (⟨Cert.KernelIdeal.main_c_0, rfl, nofun, rfl⟩ : RefK ⟨Cert.KernelIdeal.S_, .i32⟩)) (z := (⟨Cert.ReferenceIdeal.main_c_5, rfl, nofun, rfl⟩ : RefR ⟨Cert.KernelIdeal.S_, .i32⟩)) (v := constantI Cert.KernelIdeal.S_ 32 32#32) ⟨⟨rfl, rfl⟩, rfl, rfl⟩) <|
  .cons (sim_binary (n := 7) (x := (⟨Cert.KernelIdeal.main_c, rfl, nofun, rfl⟩ : RefK ⟨Cert.KernelIdeal.S_, .i32⟩)) (x' := (⟨Cert.ReferenceIdeal.main_c_4, rfl, nofun, rfl⟩ : RefR ⟨Cert.KernelIdeal.S_, .i32⟩)) (w := (⟨Cert.KernelIdeal.main_c_0, rfl, nofun, rfl⟩ : RefK ⟨Cert.KernelIdeal.S_, .i32⟩)) (w' := (⟨Cert.ReferenceIdeal.main_c_5, rfl, nofun, rfl⟩ : RefR ⟨Cert.KernelIdeal.S_, .i32⟩)) (y := (⟨Cert.KernelIdeal.main_v1, rfl, nofun, rfl⟩ : RefK ⟨Cert.KernelIdeal.S_, .i32⟩)) (z := (⟨Cert.ReferenceIdeal.main_v32, rfl, nofun, rfl⟩ : RefR ⟨Cert.KernelIdeal.S_, .i32⟩)) (f := Host.shrui) 5 6 rfl rfl ⟨⟨rfl, rfl⟩, rfl, rfl⟩ ⟨⟨rfl, rfl⟩, rfl, rfl⟩ ⟨⟨rfl, rfl⟩, rfl, rfl⟩) <|
  .cons (sim_unary (n := 8) (x := (⟨Cert.KernelIdeal.main_v1, rfl, nofun, rfl⟩ : RefK ⟨Cert.KernelIdeal.S_, .i32⟩)) (x' := (⟨Cert.ReferenceIdeal.main_v32, rfl, nofun, rfl⟩ : RefR ⟨Cert.KernelIdeal.S_, .i32⟩)) (y := (⟨Cert.KernelIdeal.main_v2, rfl, nofun, rfl⟩ : RefK ⟨Cert.KernelIdeal.S_, .i32⟩)) (z := (⟨Cert.ReferenceIdeal.main_v33, rfl, nofun, rfl⟩ : RefR ⟨Cert.KernelIdeal.S_, .i32⟩)) (f := id) 7 rfl ⟨⟨rfl, rfl⟩, rfl, rfl⟩ ⟨⟨rfl, rfl⟩, rfl, rfl⟩) <|
  .cons (sim_unary (n := 9) (x := (⟨Cert.KernelIdeal.main_v2, rfl, nofun, rfl⟩ : RefK ⟨Cert.KernelIdeal.S_, .i32⟩)) (x' := (⟨Cert.ReferenceIdeal.main_v33, rfl, nofun, rfl⟩ : RefR ⟨Cert.KernelIdeal.S_, .i32⟩)) (y := (⟨Cert.KernelIdeal.main_v3, rfl, nofun, rfl⟩ : RefK ⟨Cert.KernelIdeal.S1, .i32⟩)) (z := (⟨Cert.ReferenceIdeal.main_v34, rfl, nofun, rfl⟩ : RefR ⟨Cert.KernelIdeal.S1, .i32⟩)) (f := broadcastInDim Cert.KernelIdeal.S1 ![] Cert.KernelIdeal.Facts₀.bcast_S_S1) 8 rfl ⟨⟨rfl, rfl⟩, rfl, rfl⟩ ⟨⟨rfl, rfl⟩, rfl, rfl⟩) <|
  .cons (sim_nullary (n := 10) (y := (⟨Cert.KernelIdeal.main_c_1, rfl, nofun, rfl⟩ : RefK ⟨Cert.KernelIdeal.S_, .i32⟩)) (z := (⟨Cert.ReferenceIdeal.main_c_6, rfl, nofun, rfl⟩ : RefR ⟨Cert.KernelIdeal.S_, .i32⟩)) (v := constantI Cert.KernelIdeal.S_ 32 4294967295#32) ⟨⟨rfl, rfl⟩, rfl, rfl⟩) <|
  .cons (sim_binary (n := 11) (x := (⟨Cert.KernelIdeal.main_c, rfl, nofun, rfl⟩ : RefK ⟨Cert.KernelIdeal.S_, .i32⟩)) (x' := (⟨Cert.ReferenceIdeal.main_c_4, rfl, nofun, rfl⟩ : RefR ⟨Cert.KernelIdeal.S_, .i32⟩)) (w := (⟨Cert.KernelIdeal.main_c_1, rfl, nofun, rfl⟩ : RefK ⟨Cert.KernelIdeal.S_, .i32⟩)) (w' := (⟨Cert.ReferenceIdeal.main_c_6, rfl, nofun, rfl⟩ : RefR ⟨Cert.KernelIdeal.S_, .i32⟩)) (y := (⟨Cert.KernelIdeal.main_v4, rfl, nofun, rfl⟩ : RefK ⟨Cert.KernelIdeal.S_, .i32⟩)) (z := (⟨Cert.ReferenceIdeal.main_v35, rfl, nofun, rfl⟩ : RefR ⟨Cert.KernelIdeal.S_, .i32⟩)) (f := andi) 5 10 rfl rfl ⟨⟨rfl, rfl⟩, rfl, rfl⟩ ⟨⟨rfl, rfl⟩, rfl, rfl⟩ ⟨⟨rfl, rfl⟩, rfl, rfl⟩) <|
  .cons (sim_unary (n := 12) (x := (⟨Cert.KernelIdeal.main_v4, rfl, nofun, rfl⟩ : RefK ⟨Cert.KernelIdeal.S_, .i32⟩)) (x' := (⟨Cert.ReferenceIdeal.main_v35, rfl, nofun, rfl⟩ : RefR ⟨Cert.KernelIdeal.S_, .i32⟩)) (y := (⟨Cert.KernelIdeal.main_v5, rfl, nofun, rfl⟩ : RefK ⟨Cert.KernelIdeal.S_, .i32⟩)) (z := (⟨Cert.ReferenceIdeal.main_v36, rfl, nofun, rfl⟩ : RefR ⟨Cert.KernelIdeal.S_, .i32⟩)) (f := id) 11 rfl ⟨⟨rfl, rfl⟩, rfl, rfl⟩ ⟨⟨rfl, rfl⟩, rfl, rfl⟩) <|
  .cons (sim_unary (n := 13) (x := (⟨Cert.KernelIdeal.main_v5, rfl, nofun, rfl⟩ : RefK ⟨Cert.KernelIdeal.S_, .i32⟩)) (x' := (⟨Cert.ReferenceIdeal.main_v36, rfl, nofun, rfl⟩ : RefR ⟨Cert.KernelIdeal.S_, .i32⟩)) (y := (⟨Cert.KernelIdeal.main_v6, rfl, nofun, rfl⟩ : RefK ⟨Cert.KernelIdeal.S1, .i32⟩)) (z := (⟨Cert.ReferenceIdeal.main_v37, rfl, nofun, rfl⟩ : RefR ⟨Cert.KernelIdeal.S1, .i32⟩)) (f := broadcastInDim Cert.KernelIdeal.S1 ![] Cert.KernelIdeal.Facts₀.bcast_S_S1) 12 rfl ⟨⟨rfl, rfl⟩, rfl, rfl⟩ ⟨⟨rfl, rfl⟩, rfl, rfl⟩) <|
  .cons (sim_binary (n := 14) (x := (⟨Cert.KernelIdeal.main_v3, rfl, nofun, rfl⟩ : RefK ⟨Cert.KernelIdeal.S1, .i32⟩)) (x' := (⟨Cert.ReferenceIdeal.main_v34, rfl, nofun, rfl⟩ : RefR ⟨Cert.KernelIdeal.S1, .i32⟩)) (w := (⟨Cert.KernelIdeal.main_v6, rfl, nofun, rfl⟩ : RefK ⟨Cert.KernelIdeal.S1, .i32⟩)) (w' := (⟨Cert.ReferenceIdeal.main_v37, rfl, nofun, rfl⟩ : RefR ⟨Cert.KernelIdeal.S1, .i32⟩)) (y := (⟨Cert.KernelIdeal.main_v7, rfl, nofun, rfl⟩ : RefK ⟨Cert.KernelIdeal.S2, .i32⟩)) (z := (⟨Cert.ReferenceIdeal.main_v38, rfl, nofun, rfl⟩ : RefR ⟨Cert.KernelIdeal.S2, .i32⟩)) (f := (fun a b => concatenate Cert.KernelIdeal.S2 0 [⟨Cert.KernelIdeal.S1, a⟩, ⟨Cert.KernelIdeal.S1, b⟩] Cert.KernelIdeal.Facts₀.concatenates_S1_S1_S2_d0)) 9 13 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_nullary ⟨⟨rfl, rfl⟩, rfl, rfl⟩) <|
  .cons (sim_unary 15 rfl ⟨⟨rfl, rfl⟩, rfl, rfl⟩ ⟨⟨rfl, rfl⟩, rfl, rfl⟩) <|
  .cons (sim_unary 16 rfl ⟨⟨rfl, rfl⟩, rfl, rfl⟩ ⟨⟨rfl, rfl⟩, rfl, rfl⟩) <|
  .cons (sim_unary 17 rfl ⟨⟨rfl, rfl⟩, rfl, rfl⟩ ⟨⟨rfl, rfl⟩, rfl, rfl⟩) <|
  .cons (sim_unary 14 rfl ⟨⟨rfl, rfl⟩, rfl, rfl⟩ ⟨⟨rfl, rfl⟩, rfl, rfl⟩) <|
  .cons (sim_reshape 20 rfl ⟨⟨rfl, rfl⟩, rfl, rfl⟩ ⟨⟨rfl, rfl⟩, rfl, rfl⟩) <|
  .cons (sim_unary 14 rfl ⟨⟨rfl, rfl⟩, rfl, rfl⟩ ⟨⟨rfl, rfl⟩, rfl, rfl⟩) <|
  .cons (sim_reshape 22 rfl ⟨⟨rfl, rfl⟩, rfl, rfl⟩ ⟨⟨rfl, rfl⟩, rfl, rfl⟩) <|
  .cons (sim_nullary ⟨⟨rfl, rfl⟩, rfl, rfl⟩) <|
  .cons (sim_nullary ⟨⟨rfl, rfl⟩, rfl, rfl⟩) <|
  .cons (sim_nullary ⟨⟨rfl, rfl⟩, rfl, rfl⟩) <|
  .cons (sim_unary 26 rfl ⟨⟨rfl, rfl⟩, rfl, rfl⟩ ⟨⟨rfl, rfl⟩, rfl, rfl⟩) <|
  .cons (sim_binary 27 24 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 29 rfl ⟨⟨rfl, rfl⟩, rfl, rfl⟩ ⟨⟨rfl, rfl⟩, rfl, rfl⟩) <|
  .cons (sim_binary 30 25 rfl rfl ⟨⟨rfl, rfl⟩, rfl, rfl⟩ ⟨⟨rfl, rfl⟩, rfl, rfl⟩ ⟨⟨rfl, rfl⟩, rfl, rfl⟩) <|
  .cons (sim_binary 28 31 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 33 rfl ⟨⟨rfl, rfl⟩, rfl, rfl⟩ ⟨⟨rfl, rfl⟩, rfl, rfl⟩) <|
  .cons (sim_binary 32 34 rfl rfl ⟨⟨rfl, rfl⟩, rfl, rfl⟩ ⟨⟨rfl, rfl⟩, rfl, rfl⟩ ⟨⟨rfl, rfl⟩, rfl, rfl⟩) <|
  .cons (sim_unary 32 rfl ⟨⟨rfl, rfl⟩, rfl, rfl⟩ ⟨⟨rfl, rfl⟩, rfl, rfl⟩) <|
  .cons (sim_unary 35 rfl ⟨⟨rfl, rfl⟩, rfl, rfl⟩ ⟨⟨rfl, rfl⟩, rfl, rfl⟩) <|
  .cons (sim_binary 21 23 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_binary 38 39 rfl rfl ⟨⟨rfl, rfl⟩, rfl, rfl⟩ ⟨⟨rfl, rfl⟩, rfl, rfl⟩ ⟨⟨rfl, rfl⟩, rfl, rfl⟩) <|
  .cons (sim_unary 21 rfl ⟨⟨rfl, rfl⟩, rfl, rfl⟩ ⟨⟨rfl, rfl⟩, rfl, rfl⟩) <|
  .cons (sim_binary 37 41 rfl rfl ⟨⟨rfl, rfl⟩, rfl, rfl⟩ ⟨⟨rfl, rfl⟩, rfl, rfl⟩ ⟨⟨rfl, rfl⟩, rfl, rfl⟩) <|
  .cons (sim_unary 23 rfl ⟨⟨rfl, rfl⟩, rfl, rfl⟩ ⟨⟨rfl, rfl⟩, rfl, rfl⟩) <|
  .cons (sim_binary 36 43 rfl rfl ⟨⟨rfl, rfl⟩, rfl, rfl⟩ ⟨⟨rfl, rfl⟩, rfl, rfl⟩ ⟨⟨rfl, rfl⟩, rfl, rfl⟩) <|
  .cons (sim_binary 42 44 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 46 rfl ⟨⟨rfl, rfl⟩, rfl, rfl⟩ ⟨⟨rfl, rfl⟩, rfl, rfl⟩) <|
  .cons (sim_binary 44 47 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 49 rfl ⟨⟨rfl, rfl⟩, rfl, rfl⟩ ⟨⟨rfl, rfl⟩, rfl, rfl⟩) <|
  .cons (sim_binary 44 50 rfl rfl ⟨⟨rfl, rfl⟩, rfl, rfl⟩ ⟨⟨rfl, rfl⟩, rfl, rfl⟩ ⟨⟨rfl, rfl⟩, rfl, rfl⟩) <|
  .cons (sim_binary 48 51 rfl rfl ⟨⟨rfl, rfl⟩, rfl, rfl⟩ ⟨⟨rfl, rfl⟩, rfl, rfl⟩ ⟨⟨rfl, rfl⟩, rfl, rfl⟩) <|
  .cons (sim_binary 45 52 rfl rfl ⟨⟨rfl, rfl⟩, rfl, rfl⟩ ⟨⟨rfl, rfl⟩, rfl, rfl⟩ ⟨⟨rfl, rfl⟩, rfl, rfl⟩) <|
  .cons (sim_binary 45 53 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 55 rfl ⟨⟨rfl, rfl⟩, rfl, rfl⟩ ⟨⟨rfl, rfl⟩, rfl, rfl⟩) <|
  .cons (sim_binary 53 56 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 58 rfl ⟨⟨rfl, rfl⟩, rfl, rfl⟩ ⟨⟨rfl, rfl⟩, rfl, rfl⟩) <|
  .cons (sim_binary 53 59 rfl rfl ⟨⟨rfl, rfl⟩, rfl, rfl⟩ ⟨⟨rfl, rfl⟩, rfl, rfl⟩ ⟨⟨rfl, rfl⟩, rfl, rfl⟩) <|
  .cons (sim_binary 57 60 rfl rfl ⟨⟨rfl, rfl⟩, rfl, rfl⟩ ⟨⟨rfl, rfl⟩, rfl, rfl⟩ ⟨⟨rfl, rfl⟩, rfl, rfl⟩) <|
  .cons (sim_binary 54 61 rfl rfl ⟨⟨rfl, rfl⟩, rfl, rfl⟩ ⟨⟨rfl, rfl⟩, rfl, rfl⟩ ⟨⟨rfl, rfl⟩, rfl, rfl⟩) <|
  .cons (sim_binary 54 62 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 64 rfl ⟨⟨rfl, rfl⟩, rfl, rfl⟩ ⟨⟨rfl, rfl⟩, rfl, rfl⟩) <|
  .cons (sim_binary 62 65 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 67 rfl ⟨⟨rfl, rfl⟩, rfl, rfl⟩ ⟨⟨rfl, rfl⟩, rfl, rfl⟩) <|
  .cons (sim_binary 62 68 rfl rfl ⟨⟨rfl, rfl⟩, rfl, rfl⟩ ⟨⟨rfl, rfl⟩, rfl, rfl⟩ ⟨⟨rfl, rfl⟩, rfl, rfl⟩) <|
  .cons (sim_binary 66 69 rfl rfl ⟨⟨rfl, rfl⟩, rfl, rfl⟩ ⟨⟨rfl, rfl⟩, rfl, rfl⟩ ⟨⟨rfl, rfl⟩, rfl, rfl⟩) <|
  .cons (sim_binary 63 70 rfl rfl ⟨⟨rfl, rfl⟩, rfl, rfl⟩ ⟨⟨rfl, rfl⟩, rfl, rfl⟩ ⟨⟨rfl, rfl⟩, rfl, rfl⟩) <|
  .cons (sim_binary 63 71 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 73 rfl ⟨⟨rfl, rfl⟩, rfl, rfl⟩ ⟨⟨rfl, rfl⟩, rfl, rfl⟩) <|
  .cons (sim_binary 71 74 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 76 rfl ⟨⟨rfl, rfl⟩, rfl, rfl⟩ ⟨⟨rfl, rfl⟩, rfl, rfl⟩) <|
  .cons (sim_binary 71 77 rfl rfl ⟨⟨rfl, rfl⟩, rfl, rfl⟩ ⟨⟨rfl, rfl⟩, rfl, rfl⟩ ⟨⟨rfl, rfl⟩, rfl, rfl⟩) <|
  .cons (sim_binary 75 78 rfl rfl ⟨⟨rfl, rfl⟩, rfl, rfl⟩ ⟨⟨rfl, rfl⟩, rfl, rfl⟩ ⟨⟨rfl, rfl⟩, rfl, rfl⟩) <|
  .cons (sim_binary 72 79 rfl rfl ⟨⟨rfl, rfl⟩, rfl, rfl⟩ ⟨⟨rfl, rfl⟩, rfl, rfl⟩ ⟨⟨rfl, rfl⟩, rfl, rfl⟩) <|
  .cons (sim_unary 23 rfl ⟨⟨rfl, rfl⟩, rfl, rfl⟩ ⟨⟨rfl, rfl⟩, rfl, rfl⟩) <|
  .cons (sim_binary 72 81 rfl rfl ⟨⟨rfl, rfl⟩, rfl, rfl⟩ ⟨⟨rfl, rfl⟩, rfl, rfl⟩ ⟨⟨rfl, rfl⟩, rfl, rfl⟩) <|
  .cons (sim_unary 40 rfl ⟨⟨rfl, rfl⟩, rfl, rfl⟩ ⟨⟨rfl, rfl⟩, rfl, rfl⟩) <|
  .cons (sim_binary 80 83 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 85 rfl ⟨⟨rfl, rfl⟩, rfl, rfl⟩ ⟨⟨rfl, rfl⟩, rfl, rfl⟩) <|
  .cons (sim_binary 84 86 rfl rfl ⟨⟨rfl, rfl⟩, rfl, rfl⟩ ⟨⟨rfl, rfl⟩, rfl, rfl⟩ ⟨⟨rfl, rfl⟩, rfl, rfl⟩) <|
  .cons (sim_binary 82 87 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 89 rfl ⟨⟨rfl, rfl⟩, rfl, rfl⟩ ⟨⟨rfl, rfl⟩, rfl, rfl⟩) <|
  .cons (sim_binary 87 90 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 92 rfl ⟨⟨rfl, rfl⟩, rfl, rfl⟩ ⟨⟨rfl, rfl⟩, rfl, rfl⟩) <|
  .cons (sim_binary 87 93 rfl rfl ⟨⟨rfl, rfl⟩, rfl, rfl⟩ ⟨⟨rfl, rfl⟩, rfl, rfl⟩ ⟨⟨rfl, rfl⟩, rfl, rfl⟩) <|
  .cons (sim_binary 91 94 rfl rfl ⟨⟨rfl, rfl⟩, rfl, rfl⟩ ⟨⟨rfl, rfl⟩, rfl, rfl⟩ ⟨⟨rfl, rfl⟩, rfl, rfl⟩) <|
  .cons (sim_binary 88 95 rfl rfl ⟨⟨rfl, rfl⟩, rfl, rfl⟩ ⟨⟨rfl, rfl⟩, rfl, rfl⟩ ⟨⟨rfl, rfl⟩, rfl, rfl⟩) <|
  .cons (sim_binary 88 96 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 98 rfl ⟨⟨rfl, rfl⟩, rfl, rfl⟩ ⟨⟨rfl, rfl⟩, rfl, rfl⟩) <|
  .cons (sim_binary 96 99 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 101 rfl ⟨⟨rfl, rfl⟩, rfl, rfl⟩ ⟨⟨rfl, rfl⟩, rfl, rfl⟩) <|
  .cons (sim_binary 96 102 rfl rfl ⟨⟨rfl, rfl⟩, rfl, rfl⟩ ⟨⟨rfl, rfl⟩, rfl, rfl⟩ ⟨⟨rfl, rfl⟩, rfl, rfl⟩) <|
  .cons (sim_binary 100 103 rfl rfl ⟨⟨rfl, rfl⟩, rfl, rfl⟩ ⟨⟨rfl, rfl⟩, rfl, rfl⟩ ⟨⟨rfl, rfl⟩, rfl, rfl⟩) <|
  .cons (sim_binary 97 104 rfl rfl ⟨⟨rfl, rfl⟩, rfl, rfl⟩ ⟨⟨rfl, rfl⟩, rfl, rfl⟩ ⟨⟨rfl, rfl⟩, rfl, rfl⟩) <|
  .cons (sim_binary 97 105 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 107 rfl ⟨⟨rfl, rfl⟩, rfl, rfl⟩ ⟨⟨rfl, rfl⟩, rfl, rfl⟩) <|
  .cons (sim_binary 105 108 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 110 rfl ⟨⟨rfl, rfl⟩, rfl, rfl⟩ ⟨⟨rfl, rfl⟩, rfl, rfl⟩) <|
  .cons (sim_binary 105 111 rfl rfl ⟨⟨rfl, rfl⟩, rfl, rfl⟩ ⟨⟨rfl, rfl⟩, rfl, rfl⟩ ⟨⟨rfl, rfl⟩, rfl, rfl⟩) <|
  .cons (sim_binary 109 112 rfl rfl ⟨⟨rfl, rfl⟩, rfl, rfl⟩ ⟨⟨rfl, rfl⟩, rfl, rfl⟩ ⟨⟨rfl, rfl⟩, rfl, rfl⟩) <|
  .cons (sim_binary 106 113 rfl rfl ⟨⟨rfl, rfl⟩, rfl, rfl⟩ ⟨⟨rfl, rfl⟩, rfl, rfl⟩ ⟨⟨rfl, rfl⟩, rfl, rfl⟩) <|
  .cons (sim_binary 106 114 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 116 rfl ⟨⟨rfl, rfl⟩, rfl, rfl⟩ ⟨⟨rfl, rfl⟩, rfl, rfl⟩) <|
  .cons (sim_binary 114 117 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 119 rfl ⟨⟨rfl, rfl⟩, rfl, rfl⟩ ⟨⟨rfl, rfl⟩, rfl, rfl⟩) <|
  .cons (sim_binary 114 120 rfl rfl ⟨⟨rfl, rfl⟩, rfl, rfl⟩ ⟨⟨rfl, rfl⟩, rfl, rfl⟩ ⟨⟨rfl, rfl⟩, rfl, rfl⟩) <|
  .cons (sim_binary 118 121 rfl rfl ⟨⟨rfl, rfl⟩, rfl, rfl⟩ ⟨⟨rfl, rfl⟩, rfl, rfl⟩ ⟨⟨rfl, rfl⟩, rfl, rfl⟩) <|
  .cons (sim_binary 115 122 rfl rfl ⟨⟨rfl, rfl⟩, rfl, rfl⟩ ⟨⟨rfl, rfl⟩, rfl, rfl⟩ ⟨⟨rfl, rfl⟩, rfl, rfl⟩) <|
  .cons (sim_unary 40 rfl ⟨⟨rfl, rfl⟩, rfl, rfl⟩ ⟨⟨rfl, rfl⟩, rfl, rfl⟩) <|
  .cons (sim_binary 115 124 rfl rfl ⟨⟨rfl, rfl⟩, rfl, rfl⟩ ⟨⟨rfl, rfl⟩, rfl, rfl⟩ ⟨⟨rfl, rfl⟩, rfl, rfl⟩) <|
  .cons (sim_unary 21 rfl ⟨⟨rfl, rfl⟩, rfl, rfl⟩ ⟨⟨rfl, rfl⟩, rfl, rfl⟩) <|
  .cons (sim_binary 123 126 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 128 rfl ⟨⟨rfl, rfl⟩, rfl, rfl⟩ ⟨⟨rfl, rfl⟩, rfl, rfl⟩) <|
  .cons (sim_binary 127 129 rfl rfl ⟨⟨rfl, rfl⟩, rfl, rfl⟩ ⟨⟨rfl, rfl⟩, rfl, rfl⟩ ⟨⟨rfl, rfl⟩, rfl, rfl⟩) <|
  .cons (sim_binary 125 130 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 132 rfl ⟨⟨rfl, rfl⟩, rfl, rfl⟩ ⟨⟨rfl, rfl⟩, rfl, rfl⟩) <|
  .cons (sim_binary 130 133 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 135 rfl ⟨⟨rfl, rfl⟩, rfl, rfl⟩ ⟨⟨rfl, rfl⟩, rfl, rfl⟩) <|
  .cons (sim_binary 130 136 rfl rfl ⟨⟨rfl, rfl⟩, rfl, rfl⟩ ⟨⟨rfl, rfl⟩, rfl, rfl⟩ ⟨⟨rfl, rfl⟩, rfl, rfl⟩) <|
  .cons (sim_binary 134 137 rfl rfl ⟨⟨rfl, rfl⟩, rfl, rfl⟩ ⟨⟨rfl, rfl⟩, rfl, rfl⟩ ⟨⟨rfl, rfl⟩, rfl, rfl⟩) <|
  .cons (sim_binary 131 138 rfl rfl ⟨⟨rfl, rfl⟩, rfl, rfl⟩ ⟨⟨rfl, rfl⟩, rfl, rfl⟩ ⟨⟨rfl, rfl⟩, rfl, rfl⟩) <|
  .cons (sim_binary 131 139 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 141 rfl ⟨⟨rfl, rfl⟩, rfl, rfl⟩ ⟨⟨rfl, rfl⟩, rfl, rfl⟩) <|
  .cons (sim_binary 139 142 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 144 rfl ⟨⟨rfl, rfl⟩, rfl, rfl⟩ ⟨⟨rfl, rfl⟩, rfl, rfl⟩) <|
  .cons (sim_binary 139 145 rfl rfl ⟨⟨rfl, rfl⟩, rfl, rfl⟩ ⟨⟨rfl, rfl⟩, rfl, rfl⟩ ⟨⟨rfl, rfl⟩, rfl, rfl⟩) <|
  .cons (sim_binary 143 146 rfl rfl ⟨⟨rfl, rfl⟩, rfl, rfl⟩ ⟨⟨rfl, rfl⟩, rfl, rfl⟩ ⟨⟨rfl, rfl⟩, rfl, rfl⟩) <|
  .cons (sim_binary 140 147 rfl rfl ⟨⟨rfl, rfl⟩, rfl, rfl⟩ ⟨⟨rfl, rfl⟩, rfl, rfl⟩ ⟨⟨rfl, rfl⟩, rfl, rfl⟩) <|
  .cons (sim_binary 140 148 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 150 rfl ⟨⟨rfl, rfl⟩, rfl, rfl⟩ ⟨⟨rfl, rfl⟩, rfl, rfl⟩) <|
  .cons (sim_binary 148 151 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 153 rfl ⟨⟨rfl, rfl⟩, rfl, rfl⟩ ⟨⟨rfl, rfl⟩, rfl, rfl⟩) <|
  .cons (sim_binary 148 154 rfl rfl ⟨⟨rfl, rfl⟩, rfl, rfl⟩ ⟨⟨rfl, rfl⟩, rfl, rfl⟩ ⟨⟨rfl, rfl⟩, rfl, rfl⟩) <|
  .cons (sim_binary 152 155 rfl rfl ⟨⟨rfl, rfl⟩, rfl, rfl⟩ ⟨⟨rfl, rfl⟩, rfl, rfl⟩ ⟨⟨rfl, rfl⟩, rfl, rfl⟩) <|
  .cons (sim_binary 149 156 rfl rfl ⟨⟨rfl, rfl⟩, rfl, rfl⟩ ⟨⟨rfl, rfl⟩, rfl, rfl⟩ ⟨⟨rfl, rfl⟩, rfl, rfl⟩) <|
  .cons (sim_binary 149 157 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 159 rfl ⟨⟨rfl, rfl⟩, rfl, rfl⟩ ⟨⟨rfl, rfl⟩, rfl, rfl⟩) <|
  .cons (sim_binary 157 160 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 162 rfl ⟨⟨rfl, rfl⟩, rfl, rfl⟩ ⟨⟨rfl, rfl⟩, rfl, rfl⟩) <|
  .cons (sim_binary 157 163 rfl rfl ⟨⟨rfl, rfl⟩, rfl, rfl⟩ ⟨⟨rfl, rfl⟩, rfl, rfl⟩ ⟨⟨rfl, rfl⟩, rfl, rfl⟩) <|
  .cons (sim_binary 161 164 rfl rfl ⟨⟨rfl, rfl⟩, rfl, rfl⟩ ⟨⟨rfl, rfl⟩, rfl, rfl⟩ ⟨⟨rfl, rfl⟩, rfl, rfl⟩) <|
  .cons (sim_binary 158 165 rfl rfl ⟨⟨rfl, rfl⟩, rfl, rfl⟩ ⟨⟨rfl, rfl⟩, rfl, rfl⟩ ⟨⟨rfl, rfl⟩, rfl, rfl⟩) <|
  .cons (sim_unary 21 rfl ⟨⟨rfl, rfl⟩, rfl, rfl⟩ ⟨⟨rfl, rfl⟩, rfl, rfl⟩) <|
  .cons (sim_binary 158 167 rfl rfl ⟨⟨rfl, rfl⟩, rfl, rfl⟩ ⟨⟨rfl, rfl⟩, rfl, rfl⟩ ⟨⟨rfl, rfl⟩, rfl, rfl⟩) <|
  .cons (sim_unary 23 rfl ⟨⟨rfl, rfl⟩, rfl, rfl⟩ ⟨⟨rfl, rfl⟩, rfl, rfl⟩) <|
  .cons (sim_binary 166 169 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 171 rfl ⟨⟨rfl, rfl⟩, rfl, rfl⟩ ⟨⟨rfl, rfl⟩, rfl, rfl⟩) <|
  .cons (sim_binary 170 172 rfl rfl ⟨⟨rfl, rfl⟩, rfl, rfl⟩ ⟨⟨rfl, rfl⟩, rfl, rfl⟩ ⟨⟨rfl, rfl⟩, rfl, rfl⟩) <|
  .cons (sim_binary 168 173 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 175 rfl ⟨⟨rfl, rfl⟩, rfl, rfl⟩ ⟨⟨rfl, rfl⟩, rfl, rfl⟩) <|
  .cons (sim_binary 173 176 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 178 rfl ⟨⟨rfl, rfl⟩, rfl, rfl⟩ ⟨⟨rfl, rfl⟩, rfl, rfl⟩) <|
  .cons (sim_binary 173 179 rfl rfl ⟨⟨rfl, rfl⟩, rfl, rfl⟩ ⟨⟨rfl, rfl⟩, rfl, rfl⟩ ⟨⟨rfl, rfl⟩, rfl, rfl⟩) <|
  .cons (sim_binary 177 180 rfl rfl ⟨⟨rfl, rfl⟩, rfl, rfl⟩ ⟨⟨rfl, rfl⟩, rfl, rfl⟩ ⟨⟨rfl, rfl⟩, rfl, rfl⟩) <|
  .cons (sim_binary 174 181 rfl rfl ⟨⟨rfl, rfl⟩, rfl, rfl⟩ ⟨⟨rfl, rfl⟩, rfl, rfl⟩ ⟨⟨rfl, rfl⟩, rfl, rfl⟩) <|
  .cons (sim_binary 174 182 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 184 rfl ⟨⟨rfl, rfl⟩, rfl, rfl⟩ ⟨⟨rfl, rfl⟩, rfl, rfl⟩) <|
  .cons (sim_binary 182 185 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 187 rfl ⟨⟨rfl, rfl⟩, rfl, rfl⟩ ⟨⟨rfl, rfl⟩, rfl, rfl⟩) <|
  .cons (sim_binary 182 188 rfl rfl ⟨⟨rfl, rfl⟩, rfl, rfl⟩ ⟨⟨rfl, rfl⟩, rfl, rfl⟩ ⟨⟨rfl, rfl⟩, rfl, rfl⟩) <|
  .cons (sim_binary 186 189 rfl rfl ⟨⟨rfl, rfl⟩, rfl, rfl⟩ ⟨⟨rfl, rfl⟩, rfl, rfl⟩ ⟨⟨rfl, rfl⟩, rfl, rfl⟩) <|
  .cons (sim_binary 183 190 rfl rfl ⟨⟨rfl, rfl⟩, rfl, rfl⟩ ⟨⟨rfl, rfl⟩, rfl, rfl⟩ ⟨⟨rfl, rfl⟩, rfl, rfl⟩) <|
  .cons (sim_binary 183 191 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 193 rfl ⟨⟨rfl, rfl⟩, rfl, rfl⟩ ⟨⟨rfl, rfl⟩, rfl, rfl⟩) <|
  .cons (sim_binary 191 194 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 196 rfl ⟨⟨rfl, rfl⟩, rfl, rfl⟩ ⟨⟨rfl, rfl⟩, rfl, rfl⟩) <|
  .cons (sim_binary 191 197 rfl rfl ⟨⟨rfl, rfl⟩, rfl, rfl⟩ ⟨⟨rfl, rfl⟩, rfl, rfl⟩ ⟨⟨rfl, rfl⟩, rfl, rfl⟩) <|
  .cons (sim_binary 195 198 rfl rfl ⟨⟨rfl, rfl⟩, rfl, rfl⟩ ⟨⟨rfl, rfl⟩, rfl, rfl⟩ ⟨⟨rfl, rfl⟩, rfl, rfl⟩) <|
  .cons (sim_binary 192 199 rfl rfl ⟨⟨rfl, rfl⟩, rfl, rfl⟩ ⟨⟨rfl, rfl⟩, rfl, rfl⟩ ⟨⟨rfl, rfl⟩, rfl, rfl⟩) <|
  .cons (sim_binary 192 200 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 202 rfl ⟨⟨rfl, rfl⟩, rfl, rfl⟩ ⟨⟨rfl, rfl⟩, rfl, rfl⟩) <|
  .cons (sim_binary 200 203 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 205 rfl ⟨⟨rfl, rfl⟩, rfl, rfl⟩ ⟨⟨rfl, rfl⟩, rfl, rfl⟩) <|
  .cons (sim_binary 200 206 rfl rfl ⟨⟨rfl, rfl⟩, rfl, rfl⟩ ⟨⟨rfl, rfl⟩, rfl, rfl⟩ ⟨⟨rfl, rfl⟩, rfl, rfl⟩) <|
  .cons (sim_binary 204 207 rfl rfl ⟨⟨rfl, rfl⟩, rfl, rfl⟩ ⟨⟨rfl, rfl⟩, rfl, rfl⟩ ⟨⟨rfl, rfl⟩, rfl, rfl⟩) <|
  .cons (sim_binary 201 208 rfl rfl ⟨⟨rfl, rfl⟩, rfl, rfl⟩ ⟨⟨rfl, rfl⟩, rfl, rfl⟩ ⟨⟨rfl, rfl⟩, rfl, rfl⟩) <|
  .cons (sim_unary 23 rfl ⟨⟨rfl, rfl⟩, rfl, rfl⟩ ⟨⟨rfl, rfl⟩, rfl, rfl⟩) <|
  .cons (sim_binary 201 210 rfl rfl ⟨⟨rfl, rfl⟩, rfl, rfl⟩ ⟨⟨rfl, rfl⟩, rfl, rfl⟩ ⟨⟨rfl, rfl⟩, rfl, rfl⟩) <|
  .cons (sim_unary 40 rfl ⟨⟨rfl, rfl⟩, rfl, rfl⟩ ⟨⟨rfl, rfl⟩, rfl, rfl⟩) <|
  .cons (sim_binary 209 212 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 214 rfl ⟨⟨rfl, rfl⟩, rfl, rfl⟩ ⟨⟨rfl, rfl⟩, rfl, rfl⟩) <|
  .cons (sim_binary 213 215 rfl rfl ⟨⟨rfl, rfl⟩, rfl, rfl⟩ ⟨⟨rfl, rfl⟩, rfl, rfl⟩ ⟨⟨rfl, rfl⟩, rfl, rfl⟩) <|
  .cons (sim_binary 211 216 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 218 rfl ⟨⟨rfl, rfl⟩, rfl, rfl⟩ ⟨⟨rfl, rfl⟩, rfl, rfl⟩) <|
  .cons (sim_binary 216 219 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 221 rfl ⟨⟨rfl, rfl⟩, rfl, rfl⟩ ⟨⟨rfl, rfl⟩, rfl, rfl⟩) <|
  .cons (sim_binary 216 222 rfl rfl ⟨⟨rfl, rfl⟩, rfl, rfl⟩ ⟨⟨rfl, rfl⟩, rfl, rfl⟩ ⟨⟨rfl, rfl⟩, rfl, rfl⟩) <|
  .cons (sim_binary 220 223 rfl rfl ⟨⟨rfl, rfl⟩, rfl, rfl⟩ ⟨⟨rfl, rfl⟩, rfl, rfl⟩ ⟨⟨rfl, rfl⟩, rfl, rfl⟩) <|
  .cons (sim_binary 217 224 rfl rfl ⟨⟨rfl, rfl⟩, rfl, rfl⟩ ⟨⟨rfl, rfl⟩, rfl, rfl⟩ ⟨⟨rfl, rfl⟩, rfl, rfl⟩) <|
  .cons (sim_binary 217 225 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 227 rfl ⟨⟨rfl, rfl⟩, rfl, rfl⟩ ⟨⟨rfl, rfl⟩, rfl, rfl⟩) <|
  .cons (sim_binary 225 228 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 230 rfl ⟨⟨rfl, rfl⟩, rfl, rfl⟩ ⟨⟨rfl, rfl⟩, rfl, rfl⟩) <|
  .cons (sim_binary 225 231 rfl rfl ⟨⟨rfl, rfl⟩, rfl, rfl⟩ ⟨⟨rfl, rfl⟩, rfl, rfl⟩ ⟨⟨rfl, rfl⟩, rfl, rfl⟩) <|
  .cons (sim_binary 229 232 rfl rfl ⟨⟨rfl, rfl⟩, rfl, rfl⟩ ⟨⟨rfl, rfl⟩, rfl, rfl⟩ ⟨⟨rfl, rfl⟩, rfl, rfl⟩) <|
  .cons (sim_binary 226 233 rfl rfl ⟨⟨rfl, rfl⟩, rfl, rfl⟩ ⟨⟨rfl, rfl⟩, rfl, rfl⟩ ⟨⟨rfl, rfl⟩, rfl, rfl⟩) <|
  .cons (sim_binary 226 234 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 236 rfl ⟨⟨rfl, rfl⟩, rfl, rfl⟩ ⟨⟨rfl, rfl⟩, rfl, rfl⟩) <|
  .cons (sim_binary 234 237 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 239 rfl ⟨⟨rfl, rfl⟩, rfl, rfl⟩ ⟨⟨rfl, rfl⟩, rfl, rfl⟩) <|
  .cons (sim_binary 234 240 rfl rfl ⟨⟨rfl, rfl⟩, rfl, rfl⟩ ⟨⟨rfl, rfl⟩, rfl, rfl⟩ ⟨⟨rfl, rfl⟩, rfl, rfl⟩) <|
  .cons (sim_binary 238 241 rfl rfl ⟨⟨rfl, rfl⟩, rfl, rfl⟩ ⟨⟨rfl, rfl⟩, rfl, rfl⟩ ⟨⟨rfl, rfl⟩, rfl, rfl⟩) <|
  .cons (sim_binary 235 242 rfl rfl ⟨⟨rfl, rfl⟩, rfl, rfl⟩ ⟨⟨rfl, rfl⟩, rfl, rfl⟩ ⟨⟨rfl, rfl⟩, rfl, rfl⟩) <|
  .cons (sim_binary 235 243 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 245 rfl ⟨⟨rfl, rfl⟩, rfl, rfl⟩ ⟨⟨rfl, rfl⟩, rfl, rfl⟩) <|
  .cons (sim_binary 243 246 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 248 rfl ⟨⟨rfl, rfl⟩, rfl, rfl⟩ ⟨⟨rfl, rfl⟩, rfl, rfl⟩) <|
  .cons (sim_binary 243 249 rfl rfl ⟨⟨rfl, rfl⟩, rfl, rfl⟩ ⟨⟨rfl, rfl⟩, rfl, rfl⟩ ⟨⟨rfl, rfl⟩, rfl, rfl⟩) <|
  .cons (sim_binary 247 250 rfl rfl ⟨⟨rfl, rfl⟩, rfl, rfl⟩ ⟨⟨rfl, rfl⟩, rfl, rfl⟩ ⟨⟨rfl, rfl⟩, rfl, rfl⟩) <|
  .cons (sim_binary 244 251 rfl rfl ⟨⟨rfl, rfl⟩, rfl, rfl⟩ ⟨⟨rfl, rfl⟩, rfl, rfl⟩ ⟨⟨rfl, rfl⟩, rfl, rfl⟩) <|
  .cons (sim_unary 40 rfl ⟨⟨rfl, rfl⟩, rfl, rfl⟩ ⟨⟨rfl, rfl⟩, rfl, rfl⟩) <|
  .cons (sim_binary 244 253 rfl rfl ⟨⟨rfl, rfl⟩, rfl, rfl⟩ ⟨⟨rfl, rfl⟩, rfl, rfl⟩ ⟨⟨rfl, rfl⟩, rfl, rfl⟩) <|
  .cons (sim_unary 21 rfl ⟨⟨rfl, rfl⟩, rfl, rfl⟩ ⟨⟨rfl, rfl⟩, rfl, rfl⟩) <|
  .cons (sim_binary 252 255 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 257 rfl ⟨⟨rfl, rfl⟩, rfl, rfl⟩ ⟨⟨rfl, rfl⟩, rfl, rfl⟩) <|
  .cons (sim_binary 256 258 rfl rfl ⟨⟨rfl, rfl⟩, rfl, rfl⟩ ⟨⟨rfl, rfl⟩, rfl, rfl⟩ ⟨⟨rfl, rfl⟩, rfl, rfl⟩) <|
  .cons (sim_binary 254 259 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 261 rfl ⟨⟨rfl, rfl⟩, rfl, rfl⟩ ⟨⟨rfl, rfl⟩, rfl, rfl⟩) <|
  .cons (sim_binary 260 262 rfl rfl ⟨⟨rfl, rfl⟩, rfl, rfl⟩ ⟨⟨rfl, rfl⟩, rfl, rfl⟩ ⟨⟨rfl, rfl⟩, rfl, rfl⟩) <|
  .cons (sim_nullary ⟨⟨rfl, rfl⟩, rfl, rfl⟩) <|
  .cons (sim_unary 264 rfl ⟨⟨rfl, rfl⟩, rfl, rfl⟩ ⟨⟨rfl, rfl⟩, rfl, rfl⟩) <|
  .cons (sim_binary 263 265 rfl rfl ⟨⟨rfl, rfl⟩, rfl, rfl⟩ ⟨⟨rfl, rfl⟩, rfl, rfl⟩ ⟨⟨rfl, rfl⟩, rfl, rfl⟩) <|
  .cons (sim_unary 266 rfl ⟨⟨rfl, rfl⟩, rfl, rfl⟩ ⟨⟨rfl, rfl⟩, rfl, rfl⟩) <|
  .cons (sim_nullary ⟨⟨rfl, rfl⟩, rfl, rfl⟩) <|
  .cons (sim_unary 268 rfl ⟨⟨rfl, rfl⟩, rfl, rfl⟩ ⟨⟨rfl, rfl⟩, rfl, rfl⟩) <|
  .cons (sim_binary 267 269 rfl rfl ⟨⟨rfl, rfl⟩, rfl, rfl⟩ ⟨⟨rfl, rfl⟩, rfl, rfl⟩ ⟨⟨rfl, rfl⟩, rfl, rfl⟩) <|
  .cons (sim_binary 19 18 rfl rfl ⟨⟨rfl, rfl⟩, rfl, rfl⟩ ⟨⟨rfl, rfl⟩, rfl, rfl⟩ ⟨⟨rfl, rfl⟩, rfl, rfl⟩) <|
  .cons (sim_unary 271 rfl ⟨⟨rfl, rfl⟩, rfl, rfl⟩ ⟨⟨rfl, rfl⟩, rfl, rfl⟩) <|
  .cons (sim_binary 270 272 rfl rfl ⟨⟨rfl, rfl⟩, rfl, rfl⟩ ⟨⟨rfl, rfl⟩, rfl, rfl⟩ ⟨⟨rfl, rfl⟩, rfl, rfl⟩) <|
  .cons (sim_unary 18 rfl ⟨⟨rfl, rfl⟩, rfl, rfl⟩ ⟨⟨rfl, rfl⟩, rfl, rfl⟩) <|
  .cons (sim_binary 273 274 rfl rfl ⟨⟨rfl, rfl⟩, rfl, rfl⟩ ⟨⟨rfl, rfl⟩, rfl, rfl⟩ ⟨⟨rfl, rfl⟩, rfl, rfl⟩) <|
  .cons (sim_unary 18 rfl ⟨⟨rfl, rfl⟩, rfl, rfl⟩ ⟨⟨rfl, rfl⟩, rfl, rfl⟩) <|
  .cons (sim_binary 276 275 rfl rfl ⟨⟨rfl, rfl⟩, rfl, rfl⟩ ⟨⟨rfl, rfl⟩, rfl, rfl⟩ ⟨⟨rfl, rfl⟩, rfl, rfl⟩) <|
  .cons (sim_unary 277 rfl ⟨⟨rfl, rfl⟩, rfl, rfl⟩ ⟨⟨rfl, rfl⟩, rfl, rfl⟩) <|
  .cons (sim_unary 278 rfl ⟨⟨rfl, rfl⟩, rfl, rfl⟩ ⟨⟨rfl, rfl⟩, rfl, rfl⟩) <|
  .cons (sim_unary 279 rfl ⟨⟨rfl, rfl⟩, rfl, rfl⟩ ⟨⟨rfl, rfl⟩, rfl, rfl⟩) <|
  .cons (sim_unary 280 rfl ⟨⟨rfl, rfl⟩, rfl, rfl⟩ ⟨⟨rfl, rfl⟩, rfl, rfl⟩) <|
  .nil

end

end Cert.Noise
-- ==== Proof.KI.Host.lean ====
/-
  What the host operations around the launch leave in its arrays and in the result.
-/
module

public import proofs.«01_k».proof.Proof.KI.Run
public import proofs.«01_k».proof.Proof.Noise
public import Idealize.ShloMosaic.Lib.Pipeline.Value
public import Idealize.ShloMosaic.Lib.StableHlo.RunRead

@[expose] public section

set_option maxRecDepth 65536

noncomputable section

namespace Cert.KernelIdeal.Body

open Cert.KernelIdeal Cert.KernelIdeal.Gen
open Idealize.ShloMosaic Idealize.ShloMosaic.TcCoe Idealize.ShloMosaic.StableHlo
open Idealize.SL.Sem

variable {F : FTy → Type} [FloatOps F] [Named F]
variable (m : (ℓ : Loc nD τ sig) → Buf (Elt F) ℓ)

/-- What the launch contents become by the operations that draw the noise. -/
def W0 (c : Dev nD) : Valuation τ sig (Elt F) :=
  StableHlo.after ((hostOps0 : List (HloOp τ sig (Elt F))).tail ++ hostOps0_1) (StableHlo.after (List.take 1 hostOps0) (fun b => m (c, b)))

/-- The host operations before the launch, the last five apart. -/
theorem V0_eq (c : Dev nD) : V0 m c = StableHlo.after hostOps0_2 (W0 m c) := by
  unfold W0
  rw [← StableHlo.after_append, ← StableHlo.after_append]
  rfl

/-- A buffer that none of the noise operations writes keeps its contents. -/
theorem keeps_of (b : Ref sig .tc) (U : Valuation τ sig (Elt F))
    (h : ((hostOps0 : List (HloOp τ sig (Elt F))).tail ++ hostOps0_1).Forall fun op : HloOp τ sig (Elt F) => Proc.devRef .tc b ∉ op.writes) :
    StableHlo.after ((hostOps0 : List (HloOp τ sig (Elt F))).tail ++ hostOps0_1) U (Proc.devRef .tc b) = U (Proc.devRef .tc b) :=
  StableHlo.after_of_forall_not_mem _ _ (List.forall_iff_forall_mem.mp h)

/-- None of the noise operations writes one of the first five buffers. -/
theorem early (b : Ref sig .tc) (hb : b.space = .hbm) (hi : b.idx.val < 5) :
    ((hostOps0 : List (HloOp τ sig (Elt F))).tail ++ hostOps0_1).Forall fun op : HloOp τ sig (Elt F) => Proc.devRef .tc b ∉ op.writes := by
  simp only [hostOps0, hostOps0_1, List.tail_cons, List.cons_append,
      List.nil_append, List.Forall, StableHlo.nullary_writes, StableHlo.unary_writes, StableHlo.binary_writes, StableHlo.reshape_writes, Finset.mem_singleton]
  repeat' apply And.intro
  all_goals exact StableHlo.devRef_ne_of_ne (by rintro rfl; exact absurd hi (by decide))

/-- The logits as blocks, after the noise operations. -/
theorem W0_v0 (c : Dev nD) : W0 m c (Proc.devRef .tc main_v0)
    = shapeCast S128x200x500 (m ((c : Thread nD τ).loc main_arg0)) shapeCasts_S128x100000_S128x200x500 := by
  unfold W0
  rw [keeps_of main_v0 _ (early _ rfl (by decide))]
  after_reads_simp
  rfl

/-- The temperatures are not written before the launch. -/
theorem W0_arg1 (c : Dev nD) : W0 m c (Proc.devRef .tc main_arg1) = m ((c : Thread nD τ).loc main_arg1) := by
  unfold W0
  rw [keeps_of main_arg1 _ (early _ rfl (by decide))]
  after_reads_simp
/-- The mass bounds are not written before the launch. -/
theorem W0_arg2 (c : Dev nD) : W0 m c (Proc.devRef .tc main_arg2) = m ((c : Thread nD τ).loc main_arg2) := by
  unfold W0
  rw [keeps_of main_arg2 _ (early _ rfl (by decide))]
  after_reads_simp
/-- The counts are not written before the launch. -/
theorem W0_arg3 (c : Dev nD) : W0 m c (Proc.devRef .tc main_arg3) = m ((c : Thread nD τ).loc main_arg3) := by
  unfold W0
  rw [keeps_of main_arg3 _ (early _ rfl (by decide))]
  after_reads_simp

/-- The kernel's noise is the reference's. -/
theorem W0_v8 (c : Dev nD) (W : Noise.ValR F) : (W0 m c (Proc.devRef .tc main_v8) : Vec F S128x100000 .f32)
    = StableHlo.after Cert.ReferenceIdeal.Ops.opsNoise W (Proc.devRef .tc Cert.ReferenceIdeal.main_v39) := by
  have hlen : 281 < 5 + ((hostOps0 : List (HloOp τ sig (Elt F))).tail ++ hostOps0_1).length := by
    simp only [hostOps0, hostOps0_1, List.tail_cons, List.cons_append, List.nil_append, List.length_cons, List.length_nil]
    omega
  have h := Noise.sim_all (F := F) (StableHlo.after (List.take 1 hostOps0) (fun b => m (c, b))) W (fun _ _ _ _ _ h5 hi => absurd hi (by omega))
  exact h ⟨S128x100000, .f32⟩ ⟨main_v8, rfl, nofun, rfl⟩ ⟨Cert.ReferenceIdeal.main_v39, rfl, nofun, rfl⟩ 281 ⟨⟨rfl, rfl⟩, rfl, rfl⟩ (by decide) hlen

/-- The launch finds the logits cut into 200 rows of 500. -/
theorem V_v0 (c : Dev nD) : V m c main_v0
    = shapeCast S128x200x500 (m ((c : Thread nD τ).loc main_arg0)) shapeCasts_S128x100000_S128x200x500 := by
  show V0 m c _ = _
  rw [V0_eq]
  after_reads_simp
  exact W0_v0 m c

/-- The launch finds the temperatures cut into blocks. -/
theorem V_v10 (c : Dev nD) : V m c main_v10 = shapeCast S16x1x8 (m ((c : Thread nD τ).loc main_arg1)) shapeCasts_S128_S16x1x8 := by
  show V0 m c _ = _
  rw [V0_eq]
  after_reads_simp
  rw [W0_arg1]; rfl
/-- The launch finds the mass bounds cut into blocks. -/
theorem V_v11 (c : Dev nD) : V m c main_v11 = shapeCast S16x1x8 (m ((c : Thread nD τ).loc main_arg2)) shapeCasts_S128_S16x1x8 := by
  show V0 m c _ = _
  rw [V0_eq]
  after_reads_simp
  rw [W0_arg2]; rfl
/-- The launch finds the counts cut into blocks. -/
theorem V_v12 (c : Dev nD) : V m c main_v12 = shapeCast S16x1x8 (m ((c : Thread nD τ).loc main_arg3)) shapeCasts_S128_S16x1x8 := by
  show V0 m c _ = _
  rw [V0_eq]
  after_reads_simp
  rw [W0_arg3]; rfl
/-- The launch finds the noise of the first sixty-four ranks cut into blocks. -/
theorem V_v13 (c : Dev nD) : V m c main_v13 = shapeCast S16x8x64
    (extractStridedSlice S128x64 ![0, 0] (W0 m c (Proc.devRef .tc main_v8) : Vec F S128x100000 .f32) slices_S128x100000_S128x64_0_0) shapeCasts_S128x64_S16x8x64 := by
  show V0 m c _ = _
  rw [V0_eq]
  after_reads_simp
  rfl

end Cert.KernelIdeal.Body
-- ==== Proof.Math.Top.lean ====
/-
  Taking the greatest entry again and again: what a run of "the maximum, its least index, that entry removed" keeps.
-/
module

public import Idealize.ShloMosaic.PureOps.Reduce
public import Idealize.ShloMosaic.PureOps.Ideal

@[expose] public section

namespace Cert.Top

open Idealize.ShloMosaic

/-! ## Maximum and least word of a family -/

/-- `m` is the greatest value of the family `w`, and one of them. -/
def IsMax {ι : Type} (w : ι → EReal) (m : EReal) : Prop := (∀ i, w i ≤ m) ∧ ∃ i, w i = m

/-- `a` is the least word of the family `f` by the signed order, and one of them. -/
def IsMin {ι : Type} (f : ι → BitVec 32) (a : BitVec 32) : Prop := (∀ i, a.toInt ≤ (f i).toInt) ∧ ∃ i, f i = a

/-- The fold of `max` from −∞ over a nonempty family is its maximum. -/
theorem isMax_fold {ι : Type} [Fintype ι] [Nonempty ι] (w : ι → EReal) {b : EReal} (hb : b = ⊥) :
    IsMax w (Finset.univ.fold max b w) := by
  subst hb
  change IsMax w (Finset.univ.sup w)
  refine ⟨fun i => Finset.le_sup (Finset.mem_univ i), ?_⟩
  obtain ⟨i, -, hi⟩ := Finset.exists_mem_eq_sup Finset.univ Finset.univ_nonempty w
  exact ⟨i, hi.symm⟩

/-- A maximum of maxima is the maximum of the pairs. -/
theorem IsMax.pair {ι κ : Type} {u : ι → EReal} {w : ι → κ → EReal} {m : EReal} (h : IsMax u m) (hu : ∀ i, IsMax (w i) (u i)) :
    IsMax (fun p : ι × κ => w p.1 p.2) m := by
  refine ⟨fun p => ((hu p.1).1 p.2).trans (h.1 p.1), ?_⟩
  obtain ⟨i, hi⟩ := h.2
  obtain ⟨k, hk⟩ := (hu i).2
  exact ⟨(i, k), hk.trans hi⟩

/-- Two maxima of one family are equal. -/
theorem IsMax.unique {ι : Type} {w : ι → EReal} {m m' : EReal} (h : IsMax w m) (h' : IsMax w m') : m = m' := by
  obtain ⟨i, hi⟩ := h.2
  obtain ⟨i', hi'⟩ := h'.2
  exact le_antisymm (hi ▸ h'.1 i) (hi' ▸ h.1 i')

/-- The smaller of two words is at most both and is one of them. -/
theorem toInt_minsi_le (x y : BitVec 32) : (IntOp.minsi x y).toInt ≤ x.toInt ∧ (IntOp.minsi x y).toInt ≤ y.toInt
    ∧ (IntOp.minsi x y = x ∨ IntOp.minsi x y = y) := by
  unfold IntOp.minsi
  split
  · rename_i h; simp only [BitVec.slt, decide_eq_true_eq] at h; exact ⟨le_rfl, by omega, .inl rfl⟩
  · rename_i h; simp only [BitVec.slt, decide_eq_true_eq] at h; exact ⟨by omega, le_rfl, .inr rfl⟩

/-- The fold of the signed minimum from the greatest word over a nonempty family is its least word. -/
theorem isMin_fold {ι : Type} [Fintype ι] [Nonempty ι] (f : ι → BitVec 32) :
    IsMin f (Finset.univ.fold IntOp.minsi 2147483647#32 f) := by
  classical
  have key : ∀ s : Finset ι, (∀ i ∈ s, (s.fold IntOp.minsi 2147483647#32 f).toInt ≤ (f i).toInt)
      ∧ (s.fold IntOp.minsi 2147483647#32 f = 2147483647#32 ∨ ∃ i ∈ s, f i = s.fold IntOp.minsi 2147483647#32 f) := by
    intro s
    induction s using Finset.induction_on with
    | empty => exact ⟨fun i hi => absurd hi (Finset.notMem_empty i), .inl rfl⟩
    | insert a s ha ih =>
      rw [Finset.fold_insert ha]
      obtain ⟨h1, h2, h3⟩ := toInt_minsi_le (f a) (s.fold IntOp.minsi 2147483647#32 f)
      refine ⟨fun i hi => ?_, ?_⟩
      · rcases Finset.mem_insert.1 hi with rfl | hi
        · exact h1
        · exact h2.trans (ih.1 i hi)
      · rcases h3 with h | h
        · exact .inr ⟨a, Finset.mem_insert_self a s, h.symm⟩
        · rw [h]
          rcases ih.2 with h' | ⟨i, hi, h'⟩
          · exact .inl h'
          · exact .inr ⟨i, Finset.mem_insert_of_mem hi, h'⟩
  obtain ⟨h1, h2⟩ := key Finset.univ
  refine ⟨fun i => h1 i (Finset.mem_univ i), ?_⟩
  rcases h2 with h | ⟨i, -, hi⟩
  · obtain ⟨i⟩ := ‹Nonempty ι›
    refine ⟨i, BitVec.eq_of_toInt_eq ?_⟩
    have h3 := h1 i (Finset.mem_univ i)
    have h4 := BitVec.toInt_lt (x := f i)
    rw [h] at h3 ⊢
    have h5 : (2147483647#32 : BitVec 32).toInt = 2147483647 := by decide
    rw [h5] at h3 ⊢
    norm_num at h4
    omega
  · exact ⟨i, hi⟩

/-- A least word of least words is the least of the pairs. -/
theorem IsMin.pair {ι κ : Type} {u : ι → BitVec 32} {w : ι → κ → BitVec 32} {m : BitVec 32} (h : IsMin u m)
    (hu : ∀ i, IsMin (w i) (u i)) : IsMin (fun p : ι × κ => w p.1 p.2) m := by
  refine ⟨fun p => (h.1 p.1).trans ((hu p.1).1 p.2), ?_⟩
  obtain ⟨i, hi⟩ := h.2
  obtain ⟨k, hk⟩ := (hu i).2
  exact ⟨(i, k), hk.trans hi⟩

/-- A small natural's word reads back as it. -/
theorem toInt_ofNat_small {n : ℕ} (h : n < 2 ^ 31) : (BitVec.ofNat 32 n).toInt = (n : ℤ) := by
  rw [BitVec.toInt_eq_toNat_of_lt, BitVec.toNat_ofNat, Nat.mod_eq_of_lt (by omega)]
  rw [BitVec.toNat_ofNat, Nat.mod_eq_of_lt (by omega)]; omega

/-- Small naturals with one word are equal. -/
theorem ofNat_inj_small {n k : ℕ} (hn : n < 2 ^ 31) (hk : k < 2 ^ 31) (h : BitVec.ofNat 32 n = BitVec.ofNat 32 k) : n = k := by
  have := congrArg BitVec.toInt h
  rw [toInt_ofNat_small hn, toInt_ofNat_small hk] at this
  exact_mod_cast this

/-- The least code among the places where the maximum stands. -/
theorem pick_spec {ι : Type} {w : ι → EReal} {c : ι → ℕ} (hc : ∀ i, c i < 2 ^ 30) {m : EReal} {a : BitVec 32} (hm : IsMax w m)
    (ha : IsMin (fun i => if w i = m then BitVec.ofNat 32 (c i) else 1073741824#32) a) :
    ∃ i, w i = m ∧ a = BitVec.ofNat 32 (c i) ∧ ∀ i', w i' = m → c i ≤ c i' := by
  obtain ⟨i₀, hi₀⟩ := hm.2
  obtain ⟨i, hi⟩ := ha.2
  have hbig : (1073741824#32 : BitVec 32).toInt = 1073741824 := by decide
  have h0 := ha.1 i₀
  simp only [hi₀, if_true] at h0
  rw [toInt_ofNat_small (by have := hc i₀; omega)] at h0
  have hcc := hc i₀
  by_cases hw : w i = m
  · simp only [hw, if_true] at hi
    refine ⟨i, hw, hi.symm, fun i' hi' => ?_⟩
    have h1 := ha.1 i'
    simp only [hi', if_true] at h1
    have hci := hc i
    have hci' := hc i'
    norm_num at hci hci'
    rw [← hi, toInt_ofNat_small (by omega), toInt_ofNat_small (by omega)] at h1
    exact_mod_cast h1
  · simp only [hw, if_false] at hi
    rw [← hi, hbig] at h0
    exfalso; norm_num at hcc; omega

/-! ## The kept entries -/

section Keep

variable {n : ℕ} (X : Fin n → EReal)

/-- The first `j` of the `σ` are, one after the other, the greatest entry of `X` not yet taken, the least index among equals. -/
def Top (σ : ℕ → Fin n) (j : ℕ) : Prop :=
  ∀ l < j, (∀ l' < l, σ l' ≠ σ l) ∧ ∀ q, (∀ l' < l, σ l' ≠ q) → q ≠ σ l → X q < X (σ l) ∨ (X q = X (σ l) ∧ σ l < q)

variable {X}

/-- What the kept entries are is determined. -/
theorem Top.unique {σ σ' : ℕ → Fin n} {j : ℕ} (h : Top X σ j) (h' : Top X σ' j) : ∀ l < j, σ l = σ' l := by
  intro l
  induction l using Nat.strong_induction_on with
  | _ l ih =>
    intro hl
    by_contra hne
    have e : ∀ l' < l, σ l' = σ' l' := fun l' hl' => ih l' hl' (hl'.trans hl)
    have h1 := (h l hl).2 (σ' l) (fun l' hl' => by rw [e l' hl']; exact (h' l hl).1 l' hl') (fun hh => hne hh.symm)
    have h2 := (h' l hl).2 (σ l) (fun l' hl' => by rw [← e l' hl']; exact (h l hl).1 l' hl') hne
    rcases h1 with h1 | ⟨h1, h1'⟩ <;> rcases h2 with h2 | ⟨h2, h2'⟩
    · exact absurd (h1.trans h2) (lt_irrefl _)
    · rw [h2] at h1; exact lt_irrefl _ h1
    · rw [h1] at h2; exact lt_irrefl _ h2
    · exact absurd (h1'.trans h2') (lt_irrefl _)

/-- Kept entries are pairwise different. -/
theorem Top.inj {σ : ℕ → Fin n} {j : ℕ} (h : Top X σ j) {l l' : ℕ} (hl : l < j) (hl' : l' < j) (e : σ l = σ l') : l = l' := by
  rcases lt_trichotomy l l' with hh | hh | hh
  · exact absurd e ((h l' hl').1 l hh)
  · exact hh
  · exact absurd e.symm ((h l hl).1 l' hh)

/-- A shorter run of the same. -/
theorem Top.mono {σ : ℕ → Fin n} {j k : ℕ} (h : Top X σ j) (hk : k ≤ j) : Top X σ k := fun l hl => h l (hl.trans_le hk)

/-- A map of the values that keeps their order keeps what is kept. -/
theorem Top.map {σ : ℕ → Fin n} {j : ℕ} (h : Top X σ j) {Y : Fin n → EReal} (f : EReal → EReal) (hf : StrictMono f) (hY : ∀ p, Y p = f (X p)) :
    Top Y σ j := by
  intro l hl
  refine ⟨(h l hl).1, fun q hq hne => ?_⟩
  rcases (h l hl).2 q hq hne with h1 | ⟨h1, h2⟩
  · exact .inl (by rw [hY, hY]; exact hf h1)
  · exact .inr ⟨by rw [hY, hY, h1], h2⟩

variable {ι : Type} (X) (L : EReal) (τ : ι → Fin n)

/-- After `j` removals the family `w` is `X` along `τ` with the entries kept so far at `L`. -/
def Left (σ : ℕ → Fin n) (j : ℕ) (w : ι → EReal) : Prop :=
  ∀ i, ((∃ l < j, σ l = τ i) → w i = L) ∧ ((∀ l < j, σ l ≠ τ i) → w i = X (τ i))

variable {X L τ}

/-- One removal: if some entry not yet taken stands above everything outside the family, the maximum and its least
    index are the next kept entry. -/
theorem step (hn : n ≤ 2 ^ 30) (hX : ∀ p, L < X p) {σ : ℕ → Fin n} {j : ℕ} {w : ι → EReal} (ht : Top X σ j) (hw : Left X L τ σ j w)
    (hrich : ∃ i, (∀ l < j, σ l ≠ τ i) ∧ ∀ q, (∀ i', τ i' ≠ q) → X q < X (τ i)) {m : EReal} {a : BitVec 32} (hm : IsMax w m)
    (ha : IsMin (fun i => if w i = m then BitVec.ofNat 32 (τ i).val else 1073741824#32) a) {w' : ι → EReal}
    (hw' : ∀ i, w' i = if BitVec.ofNat 32 (τ i).val = a then L else w i) :
    ∃ σ' : ℕ → Fin n, (∀ l < j, σ' l = σ l) ∧ Top X σ' (j + 1) ∧ Left X L τ σ' (j + 1) w' ∧ m = X (σ' j)
      ∧ a = BitVec.ofNat 32 (σ' j).val ∧ ∃ i, σ' j = τ i := by
  have hsm : ∀ p : Fin n, p.val < 2 ^ 31 := fun p => by have := p.isLt; omega
  obtain ⟨i, hi, hai, hmin⟩ := pick_spec (c := fun i => (τ i).val) (fun i => by have := (τ i).isLt; omega) hm ha
  obtain ⟨i₁, hi₁, hout⟩ := hrich
  have h1 : X (τ i₁) ≤ m := by rw [← (hw i₁).2 hi₁]; exact hm.1 i₁
  have hLm : L < m := (hX _).trans_le h1
  have hfree : ∀ l < j, σ l ≠ τ i := by
    intro l hl he
    have := (hw i).1 ⟨l, hl, he⟩
    rw [hi] at this; rw [this] at hLm; exact lt_irrefl _ hLm
  have hmX : m = X (τ i) := by rw [← hi]; exact (hw i).2 hfree
  refine ⟨fun l => if l = j then τ i else σ l, fun l hl => if_neg (by omega), ?_, ?_, ?_, ?_, i, if_pos rfl⟩
  · intro l hl
    rcases Nat.lt_succ_iff_lt_or_eq.1 hl with hl | rfl
    · have e : ∀ l' ≤ l, (if l' = j then τ i else σ l') = σ l' := fun l' h' => if_neg (by omega)
      simp only [e l le_rfl]
      refine ⟨fun l' hl' => by rw [e l' hl'.le]; exact (ht l hl).1 l' hl', fun q hq hne => (ht l hl).2 q (fun l' hl' => ?_) hne⟩
      rw [← e l' hl'.le]; exact hq l' hl'
    · have e : ∀ l' < l, (if l' = l then τ i else σ l') = σ l' := fun l' h' => if_neg (by omega)
      simp only [if_true]
      refine ⟨fun l' hl' => by rw [e l' hl']; exact hfree l' hl', fun q hq hne => ?_⟩
      by_cases hqr : ∃ i', τ i' = q
      · obtain ⟨i', rfl⟩ := hqr
        have hw2 : w i' = X (τ i') := (hw i').2 fun l' hl' => by have := hq l' hl'; rwa [e l' hl'] at this
        have hle : X (τ i') ≤ X (τ i) := by rw [← hw2, ← hmX]; exact hm.1 i'
        rcases lt_or_eq_of_le hle with h | h
        · exact .inl h
        · refine .inr ⟨h, lt_of_le_of_ne ?_ (Ne.symm hne)⟩
          exact hmin i' (by rw [hw2, h, hmX])
      · rw [not_exists] at hqr
        exact .inl (by rw [← hmX]; exact (hout q hqr).trans_le h1)
  · intro i'
    have e : ∀ l' < j, (if l' = j then τ i else σ l') = σ l' := fun l' h' => if_neg (by omega)
    rw [hw' i']
    constructor
    · rintro ⟨l, hl, he⟩
      rcases Nat.lt_succ_iff_lt_or_eq.1 hl with hl | rfl
      · simp only [e l hl] at he
        have := (hw i').1 ⟨l, hl, he⟩
        split
        · rfl
        · exact this
      · simp only [if_true] at he
        rw [if_pos (by rw [← he, hai])]
    · intro hno
      have h2 := hno j (Nat.lt_succ_self j)
      simp only [if_true] at h2
      rw [if_neg fun hh => h2 ?_]
      · exact (hw i').2 fun l hl => by have := hno l (by omega); simp only [e l hl] at this; exact this
      · rw [hai] at hh
        exact Fin.ext (ofNat_inj_small (hsm _) (hsm _) hh).symm
  · simp only [if_true]; exact hmX
  · simp only [if_true]; exact hai

/-- At the start nothing is kept. -/
theorem top_zero (σ : ℕ → Fin n) : Top X σ 0 := fun l hl => absurd hl (Nat.not_lt_zero l)

/-- At the start the family is `X` along `τ`. -/
theorem left_zero (σ : ℕ → Fin n) {w : ι → EReal} (h : ∀ i, w i = X (τ i)) : Left X L τ σ 0 w :=
  fun i => ⟨fun ⟨l, hl, _⟩ => absurd hl (Nat.not_lt_zero l), fun _ => h i⟩

/-- The room for the next entry: a family that holds at least `k` entries above everything outside it, fewer than `k` of them taken. -/
theorem rich_of_card [Fintype ι] (hτ : Function.Injective τ) {σ : ℕ → Fin n} {j k : ℕ} (hj : j < k) (b : EReal)
    (hb : ∀ q, (∀ i, τ i ≠ q) → X q ≤ b) (hk : k ≤ (Finset.univ.filter fun i => b < X (τ i)).card) :
    ∃ i, (∀ l < j, σ l ≠ τ i) ∧ ∀ q, (∀ i', τ i' ≠ q) → X q < X (τ i) := by
  classical
  have hc : ((Finset.range j).image σ).card < ((Finset.univ.filter fun i => b < X (τ i)).image τ).card := by
    rw [Finset.card_image_of_injective _ hτ]
    exact (Finset.card_image_le.trans_eq (Finset.card_range j)).trans_lt (hj.trans_le hk)
  obtain ⟨q, hq, hq'⟩ := Finset.exists_mem_notMem_of_card_lt_card hc
  obtain ⟨i, hi, rfl⟩ := Finset.mem_image.1 hq
  refine ⟨i, fun l hl he => hq' (Finset.mem_image.2 ⟨l, Finset.mem_range.2 hl, he⟩), fun q hqo => ?_⟩
  exact (hb q hqo).trans_lt (Finset.mem_filter.1 hi).2

/-- The room for the next entry where the family is everything. -/
theorem rich_of_surj [Fintype ι] (hτ : Function.Bijective τ) {σ : ℕ → Fin n} {j : ℕ} (hj : j < n) :
    ∃ i, (∀ l < j, σ l ≠ τ i) ∧ ∀ q, (∀ i', τ i' ≠ q) → X q < X (τ i) := by
  classical
  have hc : ((Finset.range j).image σ).card < (Finset.univ : Finset (Fin n)).card := by
    rw [Finset.card_univ, Fintype.card_fin]
    exact (Finset.card_image_le.trans_eq (Finset.card_range j)).trans_lt hj
  obtain ⟨q, -, hq'⟩ := Finset.exists_mem_notMem_of_card_lt_card hc
  obtain ⟨i, rfl⟩ := hτ.2 q
  refine ⟨i, fun l hl he => hq' (Finset.mem_image.2 ⟨l, Finset.mem_range.2 hl, he⟩), fun q hqo => ?_⟩
  obtain ⟨i', rfl⟩ := hτ.2 q
  exact absurd rfl (hqo i')

end Keep

end Cert.Top
-- ==== Proof.KI.Slow.lean ====
/-
  The long way of a block: sixty-four times the greatest of a whole row, its least index, that entry removed.
-/
module

public import proofs.«01_k».proof.Proof.KI.Block
public import proofs.«01_k».proof.Proof.Math.Top
public import Idealize.ShloMosaic.Lib.Pointwise
public import Idealize.ShloMosaic.Lib.ValueIdx
public import Idealize.ShloMosaic.PureOps.Ideal.Laws

@[expose] public section

set_option maxRecDepth 16384

noncomputable section

namespace Cert.KernelIdeal.Body

open Cert.KernelIdeal Cert.KernelIdeal.Gen Cert.Top
open Idealize.ShloMosaic Idealize.ShloMosaic.TcCoe

/-- The value removed entries are set to, as an extended real. -/
abbrev lowE : EReal := Ideal.ofBits .f32 4284592614#32

/-- Row `r` of a block, along the flat index. -/
def rowX (x : Vec Ideal S8x200x500 .f32) (r : Fin 8) (p : Fin 100000) : EReal :=
  x (ix3 r ⟨p.val / 500, by omega⟩ ⟨p.val % 500, by omega⟩)

/-- The flat index of a place in a row. -/
def flat (i : Fin 200 × Fin 500) : Fin 100000 := ⟨i.1.val * 500 + i.2.val, by omega⟩

/-- A row read at a flat index is the block read at its two places. -/
theorem rowX_flat (x : Vec Ideal S8x200x500 .f32) (r : Fin 8) (i : Fin 200 × Fin 500) : rowX x r (flat i) = x (ix3 r i.1 i.2) := by
  obtain ⟨⟨p, hp⟩, ⟨l, hl⟩⟩ := i
  unfold rowX flat
  congr 2
  · exact Fin.ext (by simp only; omega)
  · exact Fin.ext (by simp only; omega)

/-- Flat indices and pairs of places are the same. -/
theorem flat_bij : Function.Bijective flat := by
  constructor
  · rintro ⟨⟨p, hp⟩, ⟨l, hl⟩⟩ ⟨⟨p', hp'⟩, ⟨l', hl'⟩⟩ h
    have := congrArg Fin.val h
    simp only [flat] at this
    refine Prod.ext (Fin.ext ?_) (Fin.ext ?_) <;> simp only <;> omega
  · intro q
    refine ⟨(⟨q.val / 500, by omega⟩, ⟨q.val % 500, by omega⟩), Fin.ext ?_⟩
    simp only [flat]; omega

/-- The word of a flat index, as the program computes it. -/
theorem word_flat (a b : ℕ) :
    IntOp.addi (IntOp.muli (BitVec.ofNat 32 a) 500#32) (BitVec.ofNat 32 b) = BitVec.ofNat 32 (a * 500 + b) := by
  unfold IntOp.addi IntOp.muli
  rw [show (500#32 : BitVec 32) = BitVec.ofNat 32 500 from rfl, ← BitVec.ofNat_mul, ← BitVec.ofNat_add]

/-- Two words compare equal where they are equal. -/
theorem cmpi_eq_one (a b : BitVec 32) : IntOp.cmpi .eq a b = 1#1 ↔ a = b := by
  unfold IntOp.cmpi
  by_cases h : a = b
  · simp [h]
  · have : (a == b) = false := by simpa using h
    rw [this]; simp [h]

/-- The word of −∞ is ⊥. -/
theorem ninf_eq : Ideal.ofBits .f32 4286578688#32 = ⊥ := by simp [Ideal.ofBits, Ideal.ieee]

/-- A selection on the equality of two words. -/
theorem select_eq {α : Type} (a b : BitVec 32) (x y : α) : Scalar.select (IntOp.cmpi .eq a b) x y = if a = b then x else y := by
  unfold Scalar.select
  by_cases h : a = b
  · rw [if_pos h]; simp [cmpi_eq_one, h]
  · rw [if_neg h]; simp [cmpi_eq_one, h]

/-- A selection on a rank's word being the trip's. -/
theorem select_slot {α : Type} (t : ℕ) (ht : t < 64) (j : Fin 64) (x y : α) :
    Scalar.select (IntOp.cmpi .eq (BitVec.ofNat 32 j.val) (Scf.iv 0#32 1#32 t)) x y = if j.val = t then x else y := by
  have e : (Scf.iv 0#32 1#32 t : BitVec 32) = BitVec.ofNat 32 t := by
    unfold Scf.iv; simp
  rw [e, select_eq]
  by_cases h : j.val = t
  · rw [if_pos h, if_pos (by rw [h])]
  · rw [if_neg h, if_neg fun hh => h (ofNat_inj_small (by omega) (by omega) hh)]

/-- A counted fold keeps what each of its trips keeps. -/
theorem fold_keeps {σ : Type} {n : ℕ} (g : Fin n → σ → σ) (a : σ) (P : ℕ → σ → Prop) (h0 : P 0 a)
    (hs : ∀ (k : Fin n) s, P k.val s → P (k.val + 1) (g k s)) : P n (Scf.fold g a) := by
  rw [Scf.fold_eq]
  have key : ∀ j (hj : j ≤ n), P j (((List.finRange n).take j).foldl (fun acc k => g k acc) a) := by
    intro j
    induction j with
    | zero => intro _; simpa using h0
    | succ j ih =>
      intro hj
      have hlt : j < (List.finRange n).length := by simpa using hj
      rw [List.take_succ_eq_append_getElem hlt, List.foldl_append]
      simp only [List.foldl_cons, List.foldl_nil, List.getElem_finRange]
      exact hs ⟨j, hj⟩ _ (ih (by omega))
  have := key n le_rfl
  rwa [List.take_of_length_le (by simp)] at this

/-- Row `r` of the kept values and indices: the sixty-four greatest entries of the row in order. -/
def Kept (x : Vec Ideal S8x200x500 .f32) (r : Fin 8) (v : FVec Ideal S8x64 .f32) (c : IVec S8x64 32) : Prop :=
  ∃ σ : ℕ → Fin 100000, Top (rowX x r) σ 64 ∧ ∀ j : Fin 64, v (ix2 r j) = rowX x r (σ j) ∧ c (ix2 r j) = BitVec.ofNat 32 (σ j).val

/-- A round's maximum over the row. -/
theorem max42 (s : FVec Ideal S8x1x200x500 .f32) (r : Fin 8) :
    IsMax (fun i : Fin 200 × Fin 500 => s (ix4 r 0 i.1 i.2)) (k0_pay42 s (ix1 r)) := by
  have h : k0_pay42 s (ix1 r) = Finset.univ.fold max (Ideal.ofBits .f32 4286578688#32) (fun _ : Fin 1 => Finset.univ.fold max (Ideal.ofBits .f32 4286578688#32)
      (fun p : Fin 200 => Finset.univ.fold max (Ideal.ofBits .f32 4286578688#32) (fun l : Fin 500 => s (ix4 r 0 p l)))) := by
    pointwise [k0_pay42]
  rw [h]
  have h1 := (isMax_fold (fun p : Fin 200 => Finset.univ.fold max (Ideal.ofBits .f32 4286578688#32) (fun l : Fin 500 => s (ix4 r 0 p l))) ninf_eq).pair
    (fun p => isMax_fold (fun l : Fin 500 => s (ix4 r 0 p l)) ninf_eq)
  obtain ⟨k, hk⟩ := (isMax_fold (fun _ : Fin 1 => Finset.univ.fold max (Ideal.ofBits .f32 4286578688#32)
      (fun p : Fin 200 => Finset.univ.fold max (Ideal.ofBits .f32 4286578688#32) (fun l : Fin 500 => s (ix4 r 0 p l)))) ninf_eq).2
  rw [← hk]; exact h1

/-- A round's code: the least among the entries at the maximum. -/
theorem min43 (s : FVec Ideal S8x1x200x500 .f32) (r : Fin 8) :
    IsMin (fun i : Fin 200 × Fin 500 => if s (ix4 r 0 i.1 i.2) = k0_pay42 s (ix1 r) then BitVec.ofNat 32 (flat i).val else 1073741824#32)
      (k0_pay43 k0_pay2 s (ix1 r)) := by
  have h : k0_pay43 k0_pay2 s (ix1 r) = Finset.univ.fold IntOp.minsi 2147483647#32 (fun _ : Fin 1 => Finset.univ.fold IntOp.minsi 2147483647#32
      (fun p : Fin 200 => Finset.univ.fold IntOp.minsi 2147483647#32 (fun l : Fin 500 =>
        if s (ix4 r 0 p l) = k0_pay42 s (ix1 r) then BitVec.ofNat 32 (p.val * 500 + l.val) else 1073741824#32))) := by
    pointwise [k0_pay43, k0_pay2]
    simp only [word_flat]
  rw [h]
  have h1 := (isMin_fold (fun p : Fin 200 => Finset.univ.fold IntOp.minsi 2147483647#32 (fun l : Fin 500 =>
        if s (ix4 r 0 p l) = k0_pay42 s (ix1 r) then BitVec.ofNat 32 (p.val * 500 + l.val) else 1073741824#32))).pair
    (fun p => isMin_fold (fun l : Fin 500 => if s (ix4 r 0 p l) = k0_pay42 s (ix1 r) then BitVec.ofNat 32 (p.val * 500 + l.val) else 1073741824#32))
  obtain ⟨k, hk⟩ := (isMin_fold (fun _ : Fin 1 => Finset.univ.fold IntOp.minsi 2147483647#32
      (fun p : Fin 200 => Finset.univ.fold IntOp.minsi 2147483647#32 (fun l : Fin 500 =>
        if s (ix4 r 0 p l) = k0_pay42 s (ix1 r) then BitVec.ofNat 32 (p.val * 500 + l.val) else 1073741824#32)))).2
  rw [← hk]; exact h1

/-- A round sets the entry taken low. -/
theorem read44 (q : IVec S8x1x200x500 32) (s : FVec Ideal S8x1x200x500 .f32) (r : Fin 8) (p : Fin 200) (l : Fin 500) :
    k0_pay44 q s (ix4 r 0 p l) = Scalar.select (IntOp.cmpi .eq (q (ix4 r 0 p l)) (k0_pay43 q s (ix1 r))) lowE (s (ix4 r 0 p l)) := by
  pointwise [k0_pay44]

/-- The code of an entry is its flat index. -/
theorem read2 (r : Fin 8) (p : Fin 200) (l : Fin 500) : k0_pay2 (ix4 r 0 p l) = BitVec.ofNat 32 (p.val * 500 + l.val) := by
  pointwise [k0_pay2]
  rw [word_flat]

/-- A round writes its maximum at its rank. -/
theorem read45 (t : Fin k0_t2_loop.trips) (s : FVec Ideal S8x1x200x500 .f32) (v : FVec Ideal S8x64 .f32) (r : Fin 8) (j : Fin 64) :
    k0_pay45 rankV t s v (ix2 r j) = Scalar.select (IntOp.cmpi .eq (BitVec.ofNat 32 j.val) (Scf.iv 0#32 1#32 t)) (k0_pay42 s (ix1 r)) (v (ix2 r j)) := by
  pointwise [k0_pay45, rankV]

/-- A round writes its code at its rank. -/
theorem read46 (q : IVec S8x1x200x500 32) (t : Fin k0_t2_loop.trips) (s : FVec Ideal S8x1x200x500 .f32) (c : IVec S8x64 32) (r : Fin 8) (j : Fin 64) :
    k0_pay46 q rankV t s c (ix2 r j) = Scalar.select (IntOp.cmpi .eq (BitVec.ofNat 32 j.val) (Scf.iv 0#32 1#32 t)) (k0_pay43 q s (ix1 r)) (c (ix2 r j)) := by
  pointwise [k0_pay46, rankV]

/-- The loop starts from the block. -/
theorem read39 (x : Vec Ideal S8x200x500 .f32) (r : Fin 8) (p : Fin 200) (l : Fin 500) : k0_pay39 x (ix4 r 0 p l) = x (ix3 r p l) := by
  pointwise [k0_pay39]

/-- What a row of the carried values keeps after `j` removals. -/
def Carry {ι : Type} (X : Fin 100000 → EReal) (τ : ι → Fin 100000) (j : ℕ) (w : ι → EReal) (v : Fin 64 → EReal) (c : Fin 64 → BitVec 32) : Prop :=
  ∃ σ : ℕ → Fin 100000, Top X σ j ∧ Left X lowE τ σ j w ∧ ∀ l : Fin 64, l.val < j → v l = X (σ l) ∧ c l = BitVec.ofNat 32 (σ l).val

/-- One trip keeps it. -/
theorem Carry.next {ι : Type} {X : Fin 100000 → EReal} {τ : ι → Fin 100000} (hX : ∀ p, lowE < X p) {j : ℕ} {w : ι → EReal}
    {v : Fin 64 → EReal} {c : Fin 64 → BitVec 32} (h : Carry X τ j w v c) (hj : j < 64)
    (hrich : ∀ σ : ℕ → Fin 100000, ∃ i, (∀ l < j, σ l ≠ τ i) ∧ ∀ q, (∀ i', τ i' ≠ q) → X q < X (τ i)) {m : EReal} {a : BitVec 32} (hm : IsMax w m)
    (ha : IsMin (fun i => if w i = m then BitVec.ofNat 32 (τ i).val else 1073741824#32) a) {w' : ι → EReal}
    (hw' : ∀ i, w' i = Scalar.select (IntOp.cmpi .eq (BitVec.ofNat 32 (τ i).val) a) lowE (w i)) {v' : Fin 64 → EReal} {c' : Fin 64 → BitVec 32}
    (hv' : ∀ l : Fin 64, v' l = Scalar.select (IntOp.cmpi .eq (BitVec.ofNat 32 l.val) (Scf.iv 0#32 1#32 j)) m (v l))
    (hc' : ∀ l : Fin 64, c' l = Scalar.select (IntOp.cmpi .eq (BitVec.ofNat 32 l.val) (Scf.iv 0#32 1#32 j)) a (c l)) :
    Carry X τ (j + 1) w' v' c' := by
  obtain ⟨σ, ht, hl, hvc⟩ := h
  obtain ⟨σ', hσ, ht', hl', hmX, haX, -⟩ := step (by norm_num) hX ht hl (hrich σ) hm ha (w' := w')
    (fun i => by rw [hw' i, select_eq])
  refine ⟨σ', ht', hl', fun l hlj => ?_⟩
  rw [hv', hc', select_slot j hj, select_slot j hj]
  rcases Nat.lt_succ_iff_lt_or_eq.1 hlj with h | h
  · rw [if_neg (by omega), if_neg (by omega), hσ l h]
    exact hvc l h
  · rw [if_pos h, if_pos h, h]
    exact ⟨hmX, haX⟩

/-- The long way keeps the sixty-four greatest of every row. -/
theorem slow_kept (x : Vec Ideal S8x200x500 .f32) (r : Fin 8) (hX : ∀ p, lowE < rowX x r p) : Kept x r (slowRes x).2.1 (slowRes x).2.2 := by
  have key := fold_keeps (fun t s => slowStep (F := Ideal) t s) (k0_pay39 x, k0_pay40, k0_pay41)
    (fun j s => Carry (rowX x r) flat j (fun i => s.1 (ix4 r 0 i.1 i.2)) (fun l => s.2.1 (ix2 r l)) (fun l => s.2.2 (ix2 r l)))
    ⟨fun _ => 0, top_zero _, left_zero _ (fun i => by rw [rowX_flat]; exact read39 x r i.1 i.2), fun l hl => absurd hl (Nat.not_lt_zero _)⟩
    (fun k s h => by
      have hk : k.val < 64 := k.isLt
      exact h.next hX hk (fun σ => rich_of_surj flat_bij (by omega)) (max42 s.1 r) (min43 s.1 r)
        (fun i => by show k0_pay44 k0_pay2 s.1 (ix4 r 0 i.1 i.2) = _; rw [read44, read2]; rfl)
        (fun l => read45 k s.1 s.2.1 r l) (fun l => read46 k0_pay2 k s.1 s.2.2 r l))
  obtain ⟨σ, ht, -, hvc⟩ := key
  exact ⟨σ, ht, fun j => hvc j j.isLt⟩

end Cert.KernelIdeal.Body
-- ==== Proof.KI.Col.lean ====
/-
  Five rounds of column maxima of a block, read at a place.
-/
module

public import proofs.«01_k».proof.Proof.KI.Slow

@[expose] public section

set_option maxRecDepth 16384

noncomputable section

namespace Cert.KernelIdeal.Body

open Cert.KernelIdeal Cert.KernelIdeal.Gen Cert.Top
open Idealize.ShloMosaic Idealize.ShloMosaic.TcCoe

/-! ## One column -/

/-- Five removals from a column. -/
theorem rounds (Y : Fin 200 → EReal) (hY : ∀ p, lowE < Y p) (w : ℕ → Fin 200 → EReal) (m : ℕ → EReal) (a : ℕ → BitVec 32)
    (h0 : ∀ p, w 0 p = Y p) (hm : ∀ k < 5, IsMax (w k) (m k))
    (ha : ∀ k < 5, IsMin (fun p : Fin 200 => if w k p = m k then BitVec.ofNat 32 p.val else 1073741824#32) (a k))
    (hw : ∀ k < 5, ∀ p : Fin 200, w (k + 1) p = if BitVec.ofNat 32 p.val = a k then lowE else w k p) (j : ℕ) (hj : j ≤ 5) :
    ∃ σ : ℕ → Fin 200, Top Y σ j ∧ Left Y lowE id σ j (w j) ∧ ∀ k < j, m k = Y (σ k) ∧ a k = BitVec.ofNat 32 (σ k).val := by
  induction j with
  | zero => exact ⟨fun _ => 0, top_zero _, left_zero _ h0, fun k hk => absurd hk (Nat.not_lt_zero k)⟩
  | succ j ih =>
    obtain ⟨σ, ht, hl, hk⟩ := ih (by omega)
    obtain ⟨σ', hσ, ht', hl', hmX, haX, -⟩ := step (τ := (id : Fin 200 → Fin 200)) (by norm_num) hY ht hl
      (rich_of_surj Function.bijective_id (by omega)) (hm j (by omega)) (ha j (by omega)) (w' := w (j + 1)) (hw j (by omega))
    refine ⟨σ', ht', hl', fun k hkj => ?_⟩
    rcases Nat.lt_succ_iff_lt_or_eq.1 hkj with h | rfl
    · rw [hσ k h]; exact hk k h
    · exact ⟨hmX, haX⟩

/-- The column `l` of row `r` after each round. -/
def colW (x : Vec Ideal S8x200x500 .f32) (r : Fin 8) (l : Fin 500) : ℕ → Fin 200 → EReal
  | 0 => fun p => k0_pay3 x (ix3 r p l)
  | 1 => fun p => k0_pay8 x (ix3 r p l)
  | 2 => fun p => k0_pay14 (blk2 x) (hit2 x) lowV (ix3 r p l)
  | 3 => fun p => k0_pay19 posV (blk2 x) (hit2 x) lowV (ix3 r p l)
  | 4 => fun p => k0_pay24 posV (blk2 x) (hit2 x) lowV (ix3 r p l)
  | _ => fun p => Scalar.select (IntOp.cmpi .eq (BitVec.ofNat 32 p.val) (ps4 x (ix2 r l))) lowE (blk4 x (ix3 r p l))

/-- The column's maximum at each round. -/
def colM (x : Vec Ideal S8x200x500 .f32) (r : Fin 8) (l : Fin 500) : ℕ → EReal
  | 0 => k0_pay4 x (ix2 r l)
  | 1 => k0_pay9 x (ix2 r l)
  | 2 => k0_pay15 (blk2 x) (hit2 x) lowV (ix2 r l)
  | 3 => k0_pay20 posV (blk2 x) (hit2 x) lowV (ix2 r l)
  | _ => k0_pay25 posV (blk2 x) (hit2 x) lowV (ix2 r l)

/-- The word of the maximum's strip at each round. -/
def colA (x : Vec Ideal S8x200x500 .f32) (r : Fin 8) (l : Fin 500) : ℕ → BitVec 32
  | 0 => k0_pay5 x (ix2 r l)
  | 1 => k0_pay10 x (ix2 r l)
  | 2 => k0_pay16 posV (blk2 x) (hit2 x) lowV (ix2 r l)
  | 3 => k0_pay21 posV (blk2 x) (hit2 x) lowV (ix2 r l)
  | _ => k0_pay26 posV (blk2 x) (hit2 x) lowV (ix2 r l)

/-- Before the first round a column is the block's. -/
theorem colW_zero (x : Vec Ideal S8x200x500 .f32) (r : Fin 8) (l : Fin 500) (p : Fin 200) : colW x r l 0 p = x (ix3 r p l) := by
  show k0_pay3 x (ix3 r p l) = _
  pointwise [k0_pay3]

/-- The first round's maximum of a column. -/
theorem read4 (x : Vec Ideal S8x200x500 .f32) (r : Fin 8) (l : Fin 500) :
    k0_pay4 x (ix2 r l) = Finset.univ.fold max (Ideal.ofBits .f32 4286578688#32) (fun p : Fin 200 => k0_pay3 x (ix3 r p l)) := by
  pointwise [k0_pay4]

/-- The second round's maximum of a column. -/
theorem read9 (x : Vec Ideal S8x200x500 .f32) (r : Fin 8) (l : Fin 500) :
    k0_pay9 x (ix2 r l) = Finset.univ.fold max (Ideal.ofBits .f32 4286578688#32) (fun p : Fin 200 => k0_pay8 x (ix3 r p l)) := by
  pointwise [k0_pay9]

/-- The third round's maximum of a column. -/
theorem read15 (w : FVec Ideal S8x200x500 .f32) (h : IVec S8x200x500 1) (c : Ideal .f32) (r : Fin 8) (l : Fin 500) :
    k0_pay15 w h c (ix2 r l) = Finset.univ.fold max (Ideal.ofBits .f32 4286578688#32) (fun p : Fin 200 => k0_pay14 w h c (ix3 r p l)) := by
  pointwise [k0_pay15]

/-- The fourth round's maximum of a column. -/
theorem read20 (q : IVec S8x200x500 32) (w : FVec Ideal S8x200x500 .f32) (h : IVec S8x200x500 1) (c : Ideal .f32) (r : Fin 8) (l : Fin 500) :
    k0_pay20 q w h c (ix2 r l) = Finset.univ.fold max (Ideal.ofBits .f32 4286578688#32) (fun p : Fin 200 => k0_pay19 q w h c (ix3 r p l)) := by
  pointwise [k0_pay20]

/-- The fifth round's maximum of a column. -/
theorem read25 (q : IVec S8x200x500 32) (w : FVec Ideal S8x200x500 .f32) (h : IVec S8x200x500 1) (c : Ideal .f32) (r : Fin 8) (l : Fin 500) :
    k0_pay25 q w h c (ix2 r l) = Finset.univ.fold max (Ideal.ofBits .f32 4286578688#32) (fun p : Fin 200 => k0_pay24 q w h c (ix3 r p l)) := by
  pointwise [k0_pay25]

/-- The first row that holds the first round's maximum. -/
theorem read5 (x : Vec Ideal S8x200x500 .f32) (r : Fin 8) (l : Fin 500) :
    k0_pay5 x (ix2 r l) = Finset.univ.fold IntOp.minsi 2147483647#32
      (fun p : Fin 200 => if k0_pay3 x (ix3 r p l) = k0_pay4 x (ix2 r l) then BitVec.ofNat 32 p.val else 1073741824#32) := by
  pointwise [k0_pay5]

/-- The first row that holds the second round's maximum. -/
theorem read10 (x : Vec Ideal S8x200x500 .f32) (r : Fin 8) (l : Fin 500) :
    k0_pay10 x (ix2 r l) = Finset.univ.fold IntOp.minsi 2147483647#32
      (fun p : Fin 200 => if k0_pay8 x (ix3 r p l) = k0_pay9 x (ix2 r l) then BitVec.ofNat 32 p.val else 1073741824#32) := by
  pointwise [k0_pay10]

/-- The first row that holds the third round's maximum. -/
theorem read16 (w : FVec Ideal S8x200x500 .f32) (h : IVec S8x200x500 1) (c : Ideal .f32) (r : Fin 8) (l : Fin 500) :
    k0_pay16 posV w h c (ix2 r l) = Finset.univ.fold IntOp.minsi 2147483647#32
      (fun p : Fin 200 => if k0_pay14 w h c (ix3 r p l) = k0_pay15 w h c (ix2 r l) then BitVec.ofNat 32 p.val else 1073741824#32) := by
  pointwise [k0_pay16, posV]

/-- The first row that holds the fourth round's maximum. -/
theorem read21 (w : FVec Ideal S8x200x500 .f32) (h : IVec S8x200x500 1) (c : Ideal .f32) (r : Fin 8) (l : Fin 500) :
    k0_pay21 posV w h c (ix2 r l) = Finset.univ.fold IntOp.minsi 2147483647#32
      (fun p : Fin 200 => if k0_pay19 posV w h c (ix3 r p l) = k0_pay20 posV w h c (ix2 r l) then BitVec.ofNat 32 p.val else 1073741824#32) := by
  pointwise [k0_pay21, posV]

/-- The first row that holds the fifth round's maximum. -/
theorem read26 (w : FVec Ideal S8x200x500 .f32) (h : IVec S8x200x500 1) (c : Ideal .f32) (r : Fin 8) (l : Fin 500) :
    k0_pay26 posV w h c (ix2 r l) = Finset.univ.fold IntOp.minsi 2147483647#32
      (fun p : Fin 200 => if k0_pay24 posV w h c (ix3 r p l) = k0_pay25 posV w h c (ix2 r l) then BitVec.ofNat 32 p.val else 1073741824#32) := by
  pointwise [k0_pay26, posV]

/-- After the first round: the entry taken is set low. -/
theorem read8 (x : Vec Ideal S8x200x500 .f32) (r : Fin 8) (p : Fin 200) (l : Fin 500) :
    k0_pay8 x (ix3 r p l) = Scalar.select (IntOp.cmpi .eq (BitVec.ofNat 32 p.val) (k0_pay5 x (ix2 r l))) lowE (k0_pay3 x (ix3 r p l)) := by
  pointwise [k0_pay8]

/-- Where the second round takes an entry. -/
theorem read13 (x : Vec Ideal S8x200x500 .f32) (r : Fin 8) (p : Fin 200) (l : Fin 500) :
    k0_pay13 x (ix3 r p l) = IntOp.cmpi .eq (BitVec.ofNat 32 p.val) (k0_pay10 x (ix2 r l)) := by
  pointwise [k0_pay13]

/-- After the second round: the entry taken is set low. -/
theorem read14 (w : FVec Ideal S8x200x500 .f32) (h : IVec S8x200x500 1) (r : Fin 8) (p : Fin 200) (l : Fin 500) :
    k0_pay14 w h lowV (ix3 r p l) = Scalar.select (h (ix3 r p l)) lowE (w (ix3 r p l)) := by
  pointwise [k0_pay14, lowV]

/-- After the third round: the entry taken is set low. -/
theorem read19 (w : FVec Ideal S8x200x500 .f32) (h : IVec S8x200x500 1) (c : Ideal .f32) (r : Fin 8) (p : Fin 200) (l : Fin 500) :
    k0_pay19 posV w h c (ix3 r p l) = Scalar.select (IntOp.cmpi .eq (BitVec.ofNat 32 p.val) (k0_pay16 posV w h c (ix2 r l))) lowE (k0_pay14 w h c (ix3 r p l)) := by
  pointwise [k0_pay19, posV]

/-- After the fourth round: the entry taken is set low. -/
theorem read24 (w : FVec Ideal S8x200x500 .f32) (h : IVec S8x200x500 1) (c : Ideal .f32) (r : Fin 8) (p : Fin 200) (l : Fin 500) :
    k0_pay24 posV w h c (ix3 r p l) = Scalar.select (IntOp.cmpi .eq (BitVec.ofNat 32 p.val) (k0_pay21 posV w h c (ix2 r l))) lowE (k0_pay19 posV w h c (ix3 r p l)) := by
  pointwise [k0_pay24, posV]

/-- What equals a maximum from −∞ is the greatest entry. -/
theorem isMax_eq {ι : Type} [Fintype ι] [Nonempty ι] {w : ι → EReal} {m : EReal}
    (h : m = Finset.univ.fold max (Ideal.ofBits .f32 4286578688#32) w) : IsMax w m := h ▸ isMax_fold w ninf_eq

/-- What equals a minimum from the greatest word is the least entry. -/
theorem isMin_eq {ι : Type} [Fintype ι] [Nonempty ι] {f : ι → BitVec 32} {a : BitVec 32}
    (h : a = Finset.univ.fold IntOp.minsi 2147483647#32 f) : IsMin f a := h ▸ isMin_fold f

/-- What five rounds leave of a column: the five greatest named in order, and the column without them. -/
theorem col_rounds (x : Vec Ideal S8x200x500 .f32) (r : Fin 8) (hX : ∀ p, lowE < rowX x r p) (l : Fin 500) :
    ∃ σ : ℕ → Fin 200, Top (fun p => x (ix3 r p l)) σ 5 ∧ Left (fun p => x (ix3 r p l)) lowE id σ 5 (colW x r l 5)
      ∧ ∀ k < 5, colM x r l k = x (ix3 r (σ k) l) ∧ colA x r l k = BitVec.ofNat 32 (σ k).val := by
  refine rounds (fun p => x (ix3 r p l)) (fun p => by have := hX (flat (p, l)); rwa [rowX_flat] at this) (colW x r l) (colM x r l) (colA x r l)
    (colW_zero x r l) ?_ ?_ ?_ 5 le_rfl
  · intro k hk
    match k, hk with
    | 0, _ => exact isMax_eq (read4 x r l)
    | 1, _ => exact isMax_eq (read9 x r l)
    | 2, _ => exact isMax_eq (read15 _ _ _ r l)
    | 3, _ => exact isMax_eq (read20 _ _ _ _ r l)
    | 4, _ => exact isMax_eq (read25 _ _ _ _ r l)
  · intro k hk
    match k, hk with
    | 0, _ => exact isMin_eq (read5 x r l)
    | 1, _ => exact isMin_eq (read10 x r l)
    | 2, _ => exact isMin_eq (read16 _ _ _ r l)
    | 3, _ => exact isMin_eq (read21 _ _ _ r l)
    | 4, _ => exact isMin_eq (read26 _ _ _ r l)
  · intro k hk p
    match k, hk with
    | 0, _ => exact (read8 x r p l).trans (select_eq _ _ _ _)
    | 1, _ => exact (read14 _ _ r p l).trans ((congrArg (fun b => Scalar.select b lowE (k0_pay8 x (ix3 r p l))) (read13 x r p l)).trans (select_eq _ _ _ _))
    | 2, _ => exact (read19 _ _ _ r p l).trans (select_eq _ _ _ _)
    | 3, _ => exact (read24 _ _ _ r p l).trans (select_eq _ _ _ _)
    | 4, _ => exact select_eq _ _ _ _

end Cert.KernelIdeal.Body
-- ==== Proof.KI.Cand.lean ====
/-
  The candidates a block's rounds give: their values and their flat indices.
-/
module

public import proofs.«01_k».proof.Proof.KI.Col

@[expose] public section

set_option maxRecDepth 16384

noncomputable section

namespace Cert.KernelIdeal.Body

open Cert.KernelIdeal Cert.KernelIdeal.Gen Cert.Top
open Idealize.ShloMosaic Idealize.ShloMosaic.TcCoe

/-- The candidates' values, in order. -/
theorem read27 (a b c d : FVec Ideal S8x1x500 .f32) (e : FVec Ideal S8x500 .f32) (r : Fin 8) (k : Fin 5) (l : Fin 500) :
    k0_pay27 a b c d e (ix4 r 0 k l) = match k with
      | 0 => a (ix3 r 0 l) | 1 => b (ix3 r 0 l) | 2 => c (ix3 r 0 l) | 3 => d (ix3 r 0 l) | 4 => e (ix2 r l) := by
  match k with
  | 0 => pointwise [k0_pay27]
  | 1 => pointwise [k0_pay27]
  | 2 => pointwise [k0_pay27]
  | 3 => pointwise [k0_pay27]
  | 4 => pointwise [k0_pay27]

/-- The candidates' codes, in the order of the rounds. -/
theorem read28 (a b c d : IVec S8x1x500 32) (e : IVec S8x500 32) (r : Fin 8) (k : Fin 5) (l : Fin 500) :
    k0_pay28 laneV a b c d e (ix4 r 0 k l) = match k with
      | 0 => a (ix3 r 0 l) | 1 => b (ix3 r 0 l) | 2 => c (ix3 r 0 l) | 3 => d (ix3 r 0 l)
      | 4 => IntOp.addi (IntOp.muli (e (ix2 r l)) 500#32) (BitVec.ofNat 32 l.val) := by
  match k with
  | 0 => pointwise [k0_pay28, laneV]
  | 1 => pointwise [k0_pay28, laneV]
  | 2 => pointwise [k0_pay28, laneV]
  | 3 => pointwise [k0_pay28, laneV]
  | 4 => pointwise [k0_pay28, laneV]

/-- The first candidates are the first round's maxima. -/
theorem read6 (x : Vec Ideal S8x200x500 .f32) (r : Fin 8) (l : Fin 500) : k0_pay6 x (ix3 r 0 l) = k0_pay4 x (ix2 r l) := by
  pointwise [k0_pay6]

/-- The second candidates are the second round's maxima. -/
theorem read11 (x : Vec Ideal S8x200x500 .f32) (r : Fin 8) (l : Fin 500) : k0_pay11 x (ix3 r 0 l) = k0_pay9 x (ix2 r l) := by
  pointwise [k0_pay11]

/-- The third candidates are the third round's maxima. -/
theorem read17 (w : FVec Ideal S8x200x500 .f32) (h : IVec S8x200x500 1) (c : Ideal .f32) (r : Fin 8) (l : Fin 500) :
    k0_pay17 w h c (ix3 r 0 l) = k0_pay15 w h c (ix2 r l) := by
  pointwise [k0_pay17]

/-- The fourth candidates are the fourth round's maxima. -/
theorem read22 (q : IVec S8x200x500 32) (w : FVec Ideal S8x200x500 .f32) (h : IVec S8x200x500 1) (c : Ideal .f32) (r : Fin 8) (l : Fin 500) :
    k0_pay22 q w h c (ix3 r 0 l) = k0_pay20 q w h c (ix2 r l) := by
  pointwise [k0_pay22]

/-- The code of a first candidate: its row times 500 plus its column. -/
theorem read7 (x : Vec Ideal S8x200x500 .f32) (r : Fin 8) (l : Fin 500) :
    k0_pay7 x (ix3 r 0 l) = IntOp.addi (IntOp.muli (k0_pay5 x (ix2 r l)) 500#32) (BitVec.ofNat 32 l.val) := by
  pointwise [k0_pay7]

/-- The code of a second candidate. -/
theorem read12 (x : Vec Ideal S8x200x500 .f32) (r : Fin 8) (l : Fin 500) :
    k0_pay12 x (ix3 r 0 l) = IntOp.addi (IntOp.muli (k0_pay10 x (ix2 r l)) 500#32) (BitVec.ofNat 32 l.val) := by
  pointwise [k0_pay12]

/-- The code of a third candidate. -/
theorem read18 (q : IVec S8x200x500 32) (w : FVec Ideal S8x200x500 .f32) (h : IVec S8x200x500 1) (c : Ideal .f32) (r : Fin 8) (l : Fin 500) :
    k0_pay18 q laneV w h c (ix3 r 0 l) = IntOp.addi (IntOp.muli (k0_pay16 q w h c (ix2 r l)) 500#32) (BitVec.ofNat 32 l.val) := by
  pointwise [k0_pay18, laneV]

/-- The code of a fourth candidate. -/
theorem read23 (q : IVec S8x200x500 32) (w : FVec Ideal S8x200x500 .f32) (h : IVec S8x200x500 1) (c : Ideal .f32) (r : Fin 8) (l : Fin 500) :
    k0_pay23 q laneV w h c (ix3 r 0 l) = IntOp.addi (IntOp.muli (k0_pay21 q w h c (ix2 r l)) 500#32) (BitVec.ofNat 32 l.val) := by
  pointwise [k0_pay23, laneV]

/-- The candidates' values are the column maxima of the rounds. -/
theorem read_cand (x : Vec Ideal S8x200x500 .f32) (r : Fin 8) (k : Fin 5) (l : Fin 500) :
    k0_pay27 (mx0 x) (mx1 x) (mx2 x) (mx3 x) (mx4 x) (ix4 r 0 k l) = colM x r l k.val := by
  refine (read27 _ _ _ _ _ r k l).trans ?_
  match k with
  | 0 => exact read6 x r l
  | 1 => exact read11 x r l
  | 2 => exact read17 _ _ _ r l
  | 3 => exact read22 _ _ _ _ r l
  | 4 => rfl

/-- The candidates' words. -/
def candI (x : Vec Ideal S8x200x500 .f32) : IVec S8x1x5x500 32 := k0_pay28 laneV (at0 x) (at1 x) (at2 x) (at3 x) (ps4 x)

/-- The candidates' words are the flat indices of the rounds' strips. -/
theorem read_candI (x : Vec Ideal S8x200x500 .f32) (r : Fin 8) (k : Fin 5) (l : Fin 500) :
    candI x (ix4 r 0 k l) = IntOp.addi (IntOp.muli (colA x r l k.val) 500#32) (BitVec.ofNat 32 l.val) := by
  refine (read28 _ _ _ _ _ r k l).trans ?_
  match k with
  | 0 => exact read7 x r l
  | 1 => exact read12 x r l
  | 2 => exact read18 _ _ _ _ r l
  | 3 => exact read23 _ _ _ _ r l
  | 4 => rfl

end Cert.KernelIdeal.Body
-- ==== Proof.KI.Loop.lean ====
/-
  The loop over the candidates and the test before it, read at a place.
-/
module

public import proofs.«01_k».proof.Proof.KI.Slow

@[expose] public section

set_option maxRecDepth 16384

noncomputable section

namespace Cert.KernelIdeal.Body

open Cert.KernelIdeal Cert.KernelIdeal.Gen Cert.Top
open Idealize.ShloMosaic Idealize.ShloMosaic.TcCoe

/-! ## The loop over the candidates -/

/-- A round's maximum over the candidates. -/
theorem max32 (s : FVec Ideal S8x1x5x500 .f32) (r : Fin 8) :
    IsMax (fun i : Fin 5 × Fin 500 => s (ix4 r 0 i.1 i.2)) (k0_pay32 s (ix1 r)) := by
  have h : k0_pay32 s (ix1 r) = Finset.univ.fold max (Ideal.ofBits .f32 4286578688#32) (fun _ : Fin 1 => Finset.univ.fold max (Ideal.ofBits .f32 4286578688#32)
      (fun p : Fin 5 => Finset.univ.fold max (Ideal.ofBits .f32 4286578688#32) (fun l : Fin 500 => s (ix4 r 0 p l)))) := by
    pointwise [k0_pay32]
  rw [h]
  have h1 := (isMax_fold (fun p : Fin 5 => Finset.univ.fold max (Ideal.ofBits .f32 4286578688#32) (fun l : Fin 500 => s (ix4 r 0 p l))) ninf_eq).pair
    (fun p => isMax_fold (fun l : Fin 500 => s (ix4 r 0 p l)) ninf_eq)
  obtain ⟨k, hk⟩ := (isMax_fold (fun _ : Fin 1 => Finset.univ.fold max (Ideal.ofBits .f32 4286578688#32)
      (fun p : Fin 5 => Finset.univ.fold max (Ideal.ofBits .f32 4286578688#32) (fun l : Fin 500 => s (ix4 r 0 p l)))) ninf_eq).2
  rw [← hk]; exact h1

/-- A round's code: the least among the candidates at the maximum. -/
theorem min33 (a b c d : IVec S8x1x500 32) (e : IVec S8x500 32) (s : FVec Ideal S8x1x5x500 .f32) (r : Fin 8) :
    IsMin (fun i : Fin 5 × Fin 500 => if s (ix4 r 0 i.1 i.2) = k0_pay32 s (ix1 r) then k0_pay28 laneV a b c d e (ix4 r 0 i.1 i.2) else 1073741824#32)
      (k0_pay33 laneV a b c d e s (ix1 r)) := by
  have h : k0_pay33 laneV a b c d e s (ix1 r) = Finset.univ.fold IntOp.minsi 2147483647#32 (fun _ : Fin 1 => Finset.univ.fold IntOp.minsi 2147483647#32
      (fun p : Fin 5 => Finset.univ.fold IntOp.minsi 2147483647#32 (fun l : Fin 500 =>
        if s (ix4 r 0 p l) = k0_pay32 s (ix1 r) then k0_pay28 laneV a b c d e (ix4 r 0 p l) else 1073741824#32))) := by
    pointwise [k0_pay33]
  rw [h]
  have h1 := (isMin_fold (fun p : Fin 5 => Finset.univ.fold IntOp.minsi 2147483647#32 (fun l : Fin 500 =>
        if s (ix4 r 0 p l) = k0_pay32 s (ix1 r) then k0_pay28 laneV a b c d e (ix4 r 0 p l) else 1073741824#32))).pair
    (fun p => isMin_fold (fun l : Fin 500 => if s (ix4 r 0 p l) = k0_pay32 s (ix1 r) then k0_pay28 laneV a b c d e (ix4 r 0 p l) else 1073741824#32))
  obtain ⟨k, hk⟩ := (isMin_fold (fun _ : Fin 1 => Finset.univ.fold IntOp.minsi 2147483647#32
      (fun p : Fin 5 => Finset.univ.fold IntOp.minsi 2147483647#32 (fun l : Fin 500 =>
        if s (ix4 r 0 p l) = k0_pay32 s (ix1 r) then k0_pay28 laneV a b c d e (ix4 r 0 p l) else 1073741824#32)))).2
  rw [← hk]; exact h1

/-- A round sets the candidate taken low. -/
theorem read34 (a b c d : IVec S8x1x500 32) (e : IVec S8x500 32) (s : FVec Ideal S8x1x5x500 .f32) (r : Fin 8) (k : Fin 5) (l : Fin 500) :
    k0_pay34 laneV a b c d e s (ix4 r 0 k l)
      = Scalar.select (IntOp.cmpi .eq (k0_pay28 laneV a b c d e (ix4 r 0 k l)) (k0_pay33 laneV a b c d e s (ix1 r))) lowE (s (ix4 r 0 k l)) := by
  pointwise [k0_pay34]

/-- A round writes its maximum at its rank. -/
theorem read35 (t : Fin k0_t1_loop.trips) (s : FVec Ideal S8x1x5x500 .f32) (v : FVec Ideal S8x64 .f32) (r : Fin 8) (j : Fin 64) :
    k0_pay35 rankV t s v (ix2 r j) = Scalar.select (IntOp.cmpi .eq (BitVec.ofNat 32 j.val) (Scf.iv 0#32 1#32 t)) (k0_pay32 s (ix1 r)) (v (ix2 r j)) := by
  pointwise [k0_pay35, rankV]

/-- A round writes its code at its rank. -/
theorem read36 (a b c d : IVec S8x1x500 32) (e : IVec S8x500 32) (t : Fin k0_t1_loop.trips) (s : FVec Ideal S8x1x5x500 .f32) (v : IVec S8x64 32)
    (r : Fin 8) (j : Fin 64) : k0_pay36 laneV rankV a b c d e t s v (ix2 r j)
      = Scalar.select (IntOp.cmpi .eq (BitVec.ofNat 32 j.val) (Scf.iv 0#32 1#32 t)) (k0_pay33 laneV a b c d e s (ix1 r)) (v (ix2 r j)) := by
  pointwise [k0_pay36, rankV]

/-! ## The test -/

/-- A sum of words of naturals is the word of the sum. -/
theorem fold_addi {ι : Type} (s : Finset ι) (f : ι → ℕ) :
    s.fold IntOp.addi 0#32 (fun i => BitVec.ofNat 32 (f i)) = BitVec.ofNat 32 (∑ i ∈ s, f i) := by
  classical
  induction s using Finset.induction_on with
  | empty => rfl
  | insert a s ha ih => rw [Finset.fold_insert ha, Finset.sum_insert ha, ih, BitVec.ofNat_add]; rfl

/-- What is greatest among the entries no candidate stands for. -/
def rest (w : FVec Ideal S8x200x500 .f32) (q : IVec S8x500 32) (r : Fin 8) : EReal :=
  Finset.univ.fold max (Ideal.ofBits .f32 4286578688#32) (fun p : Fin 200 => Finset.univ.fold max (Ideal.ofBits .f32 4286578688#32)
    (fun l : Fin 500 => Scalar.select (IntOp.cmpi .eq (BitVec.ofNat 32 p.val) (q (ix2 r l))) lowE (w (ix3 r p l))))

/-- The word counting a row's candidates above the rest. -/
def countW (v : FVec Ideal S8x1x5x500 .f32) (w : FVec Ideal S8x200x500 .f32) (q : IVec S8x500 32) (r : Fin 8) : BitVec 32 :=
  Finset.univ.fold IntOp.addi 0#32 (fun _ : Fin 1 => Finset.univ.fold IntOp.addi 0#32 (fun k : Fin 5 => Finset.univ.fold IntOp.addi 0#32
    (fun l : Fin 500 => BitVec.setWidth 32 (BitVec.ofBool (decide (rest w q r < v (ix4 r 0 k l)))))))

/-- The test's value: the least over the rows of one where the row's count reaches sixty-four and zero elsewhere. -/
theorem read29 (a b c d : FVec Ideal S8x1x500 .f32) (w : FVec Ideal S8x200x500 .f32) (e : FVec Ideal S8x500 .f32) (q : IVec S8x500 32) :
    k0_pay29 posV a b c d w e q = Finset.univ.fold min (Ideal.ofBits .f32 2139095040#32)
      (fun r : Fin 8 => Scalar.select (IntOp.cmpi .sge (countW (k0_pay27 a b c d e) w q r) 64#32) (1 : EReal) 0) := by
  pointwise [k0_pay29, posV]
  rfl

/-- The count of a row: its candidates above all that is left. -/
theorem countW_eq (v : FVec Ideal S8x1x5x500 .f32) (w : FVec Ideal S8x200x500 .f32) (q : IVec S8x500 32) (r : Fin 8) :
    countW v w q r = BitVec.ofNat 32 (Finset.univ.filter fun i : Fin 5 × Fin 500 => rest w q r < v (ix4 r 0 i.1 i.2)).card := by
  have e : ∀ (k : Fin 5) (l : Fin 500), BitVec.setWidth 32 (BitVec.ofBool (decide (rest w q r < v (ix4 r 0 k l))))
      = BitVec.ofNat 32 (if rest w q r < v (ix4 r 0 k l) then 1 else 0) := by
    intro k l
    by_cases h : rest w q r < v (ix4 r 0 k l) <;> simp [h]
  unfold countW
  simp only [e, fold_addi]
  rw [Finset.card_filter, Fintype.sum_prod_type]
  simp

/-- The test's bit says the tested value is positive. -/
theorem pos_of_test (z : Ideal .f32) (h : Scalar.cmpf (F := Ideal) .ogt z (Scalar.ofBits .f32 0x00000000#32) = 1#1) : (0 : EReal) < z := by
  have h2 : BitVec.ofBool (decide (Ideal.ofBits .f32 0x00000000#32 < z)) = 1#1 := h
  rw [Ideal.ofBits_zero_f32] at h2
  by_contra hc
  simp [hc] at h2

/-- Where the test holds every row has sixty-four candidates above the rest. -/
theorem count_of_test (a b c d : FVec Ideal S8x1x500 .f32) (w : FVec Ideal S8x200x500 .f32) (e : FVec Ideal S8x500 .f32) (q : IVec S8x500 32)
    (h : Scalar.cmpf (F := Ideal) .ogt (k0_pay29 posV a b c d w e q) (Scalar.ofBits .f32 0x00000000#32) = 1#1) (r : Fin 8) :
    64 ≤ (Finset.univ.filter fun i : Fin 5 × Fin 500 => rest w q r < k0_pay27 a b c d e (ix4 r 0 i.1 i.2)).card := by
  have h0 : (0 : EReal) < k0_pay29 posV a b c d w e q := by
    exact pos_of_test _ h
  rw [read29, Finset.lt_fold_min] at h0
  have h1 := h0.2 r (Finset.mem_univ r)
  have h3 : IntOp.cmpi .sge (countW (k0_pay27 a b c d e) w q r) 64#32 = 1#1 := by
    by_contra hc
    have : Scalar.select (IntOp.cmpi .sge (countW (k0_pay27 a b c d e) w q r) 64#32) (1 : EReal) 0 = 0 := if_neg hc
    rw [this] at h1; exact lt_irrefl _ h1
  rw [countW_eq] at h3
  have hle : (Finset.univ.filter fun i : Fin 5 × Fin 500 => rest w q r < k0_pay27 a b c d e (ix4 r 0 i.1 i.2)).card ≤ 2500 := by
    refine (Finset.card_le_univ _).trans ?_
    simp
  generalize (Finset.univ.filter fun i : Fin 5 × Fin 500 => rest w q r < k0_pay27 a b c d e (ix4 r 0 i.1 i.2)).card = n at h3 hle ⊢
  by_contra hlt
  have h4 : IntOp.cmpi .sge (BitVec.ofNat 32 n) 64#32 = BitVec.ofBool (decide ((64#32 : BitVec 32).toInt ≤ (BitVec.ofNat 32 n).toInt)) := by
    unfold IntOp.cmpi; simp [BitVec.sle]
  have h6 : (64#32 : BitVec 32).toInt = 64 := by decide
  have h5 : ¬ ((64#32 : BitVec 32).toInt ≤ (BitVec.ofNat 32 n).toInt) := by
    rw [h6, toInt_ofNat_small (by omega)]; omega
  rw [h4] at h3
  rw [h6] at h5
  simp [h5] at h3

end Cert.KernelIdeal.Body
-- ==== Proof.KI.Fast.lean ====
/-
  The short way of a block: five rounds of column maxima give the candidates; where every row has sixty-four of them
  above all that is left, removing the greatest among them keeps the same entries as removing from the whole row.
-/
module

public import proofs.«01_k».proof.Proof.KI.Cand
public import proofs.«01_k».proof.Proof.KI.Loop

@[expose] public section

set_option maxRecDepth 16384

noncomputable section

namespace Cert.KernelIdeal.Body

open Cert.KernelIdeal Cert.KernelIdeal.Gen Cert.Top
open Idealize.ShloMosaic Idealize.ShloMosaic.TcCoe

/-! ## Both ways keep the same -/

/-- The short way keeps the sixty-four greatest of every row where the test holds. -/
theorem fast_kept (x : Vec Ideal S8x200x500 .f32) (hok : okBit x = 1#1) (r : Fin 8) (hX : ∀ p, lowE < rowX x r p) :
    Kept x r (fastRes x).2.1 (fastRes x).2.2 := by
  choose σ hσ hleft hval using col_rounds x r hX
  obtain ⟨τ, hτ⟩ : ∃ τ : Fin 5 × Fin 500 → Fin 100000, ∀ i, τ i = flat (σ i.2 i.1.val, i.2) := ⟨_, fun _ => rfl⟩
  have hinj : Function.Injective τ := by
    rintro ⟨k, l⟩ ⟨k', l'⟩ h
    rw [hτ, hτ] at h
    have h1 := Prod.ext_iff.1 (flat_bij.1 h)
    have h2 : l = l' := h1.2
    subst h2
    exact Prod.ext (Fin.ext ((hσ l).inj k.isLt k'.isLt h1.1)) rfl
  have hcand : ∀ i : Fin 5 × Fin 500, k0_pay27 (mx0 x) (mx1 x) (mx2 x) (mx3 x) (mx4 x) (ix4 r 0 i.1 i.2) = rowX x r (τ i) := by
    intro i
    rw [read_cand, (hval i.2 i.1.val i.1.isLt).1, hτ, rowX_flat]
  have hcode : ∀ i : Fin 5 × Fin 500, k0_pay28 laneV (at0 x) (at1 x) (at2 x) (at3 x) (ps4 x) (ix4 r 0 i.1 i.2) = BitVec.ofNat 32 (τ i).val := by
    intro i
    have := read_candI x r i.1 i.2
    unfold candI at this
    rw [this, (hval i.2 i.1.val i.1.isLt).2, hτ, word_flat]; rfl
  have hcard := count_of_test (mx0 x) (mx1 x) (mx2 x) (mx3 x) (blk4 x) (mx4 x) (ps4 x) hok r
  simp only [hcand] at hcard
  have hrest : ∀ q, (∀ i, τ i ≠ q) → rowX x r q ≤ rest (blk4 x) (ps4 x) r := by
    intro q hq
    obtain ⟨⟨p, l⟩, rfl⟩ := flat_bij.2 q
    have h1 : colW x r l 5 p = x (ix3 r p l) := (hleft l p).2 fun k hk he => hq (⟨k, hk⟩, l) (by rw [hτ]; show flat (σ l k, l) = _; rw [he]; rfl)
    rw [rowX_flat]
    show x (ix3 r p l) ≤ _
    rw [← h1]
    exact ((isMax_fold _ ninf_eq).pair (fun p => isMax_fold (fun l : Fin 500 => colW x r l 5 p) ninf_eq)).1 (p, l)
  have hrich : ∀ j < 64, ∀ ρ : ℕ → Fin 100000, ∃ i, (∀ l < j, ρ l ≠ τ i) ∧ ∀ q, (∀ i', τ i' ≠ q) → rowX x r q < rowX x r (τ i) :=
    fun j hj ρ => rich_of_card hinj hj (rest (blk4 x) (ps4 x) r) hrest hcard
  have key := fold_keeps (fun t s => fastStep (F := Ideal) x t s) (candV x, k0_pay30, k0_pay31)
    (fun j s => Carry (rowX x r) τ j (fun i => s.1 (ix4 r 0 i.1 i.2)) (fun l => s.2.1 (ix2 r l)) (fun l => s.2.2 (ix2 r l)))
    ⟨fun _ => 0, top_zero _, left_zero _ (fun i => hcand i), fun l hl => absurd hl (Nat.not_lt_zero _)⟩
    (fun k s h => by
      have hk : k.val < 64 := k.isLt
      refine h.next hX hk (hrich k.val hk) (max32 s.1 r) (a := k0_pay33 laneV (at0 x) (at1 x) (at2 x) (at3 x) (ps4 x) s.1 (ix1 r)) ?_
        (fun i => ?_) (fun l => read35 k s.1 s.2.1 r l) (fun l => read36 _ _ _ _ _ k s.1 s.2.2 r l)
      · have := min33 (at0 x) (at1 x) (at2 x) (at3 x) (ps4 x) s.1 r
        simp only [hcode] at this
        exact this
      · refine (read34 _ _ _ _ _ s.1 r i.1 i.2).trans ?_
        rw [hcode])
  obtain ⟨ρ, ht, -, hvc⟩ := key
  exact ⟨ρ, ht, fun j => hvc j j.isLt⟩

/-- The short way's values are stored as they are. -/
theorem read37 (v : FVec Ideal S8x64 .f32) (r : Fin 8) (j : Fin 64) : k0_pay37 v (ix2 r j) = v (ix2 r j) := by pointwise [k0_pay37]
/-- The short way's codes are stored as they are. -/
theorem read38 (v : IVec S8x64 32) (r : Fin 8) (j : Fin 64) : k0_pay38 v (ix2 r j) = v (ix2 r j) := by pointwise [k0_pay38]
/-- The long way's values are stored as they are. -/
theorem read47 (v : FVec Ideal S8x64 .f32) (r : Fin 8) (j : Fin 64) : k0_pay47 v (ix2 r j) = v (ix2 r j) := by pointwise [k0_pay47]
/-- The long way's codes are stored as they are. -/
theorem read48 (v : IVec S8x64 32) (r : Fin 8) (j : Fin 64) : k0_pay48 v (ix2 r j) = v (ix2 r j) := by pointwise [k0_pay48]

/-- The block keeps the sixty-four greatest of every row. -/
theorem block_kept (x : Vec Ideal S8x200x500 .f32) (r : Fin 8) (hX : ∀ p, lowE < rowX x r p) : Kept x r (topV x) (topI x) := by
  unfold topV topI
  by_cases h : okBit x = 1#1
  · rw [if_pos h, if_pos h]
    obtain ⟨σ, ht, hvc⟩ := fast_kept x h r hX
    exact ⟨σ, ht, fun j => ⟨(read37 _ r j).trans (hvc j).1, (read38 _ r j).trans (hvc j).2⟩⟩
  · rw [if_neg h, if_neg h]
    obtain ⟨σ, ht, hvc⟩ := slow_kept x r hX
    exact ⟨σ, ht, fun j => ⟨(read47 _ r j).trans (hvc j).1, (read48 _ r j).trans (hvc j).2⟩⟩

end Cert.KernelIdeal.Body
-- ==== Proof.Math.Tail.lean ====
/-
  The draw from a row of ranked scores: softmax, mass cut, noise, first maximum; and that extending a row by ⊥ entries changes nothing.
-/
module

public import Idealize.ShloMosaic.PureOps.Ideal
public import Idealize.ShloMosaic.PureOps.Ideal.Laws

@[expose] public section

namespace Cert.Tail

open Idealize.ShloMosaic

noncomputable section

variable {n : ℕ}

/-- The largest entry. -/
def top (y : Fin n → EReal) : EReal := (Finset.univ : Finset (Fin n)).fold max ⊥ y
/-- The exponential of the distance from the largest entry. -/
def ex (y : Fin n → EReal) (j : Fin n) : EReal := Ideal.exp (y j - top y)
/-- The softmax. -/
def prob (y : Fin n → EReal) (j : Fin n) : EReal := Ideal.div (ex y j) (∑ x, ex y x)
/-- The mass up to and including a rank. -/
def cum (y : Fin n → EReal) (j : Fin n) : EReal := ∑ x, if x ≤ j then prob y x else 0
/-- The entries whose mass of better ranks is within the bound. -/
def kept (y : Fin n → EReal) (tp : EReal) (j : Fin n) : EReal := if cum y j - prob y j ≤ tp then y j else ⊥
/-- The first rank of the largest entry. -/
def IsPick (s : Fin n → EReal) (k : Fin n) : Prop := (∀ i, s i ≤ s k) ∧ ∀ i, s i = s k → k ≤ i

/-- The first rank of the largest entry is one rank. -/
theorem IsPick.unique {s : Fin n → EReal} {k k' : Fin n} (h : IsPick s k) (h' : IsPick s k') : k = k' :=
  le_antisymm (h.2 _ (le_antisymm (h.1 _) (h'.1 _) |>.symm ▸ rfl)) (h'.2 _ (le_antisymm (h'.1 _) (h.1 _)))

variable {N : ℕ} (h : n ≤ N)

/-- A longer row that is ⊥ beyond a shorter one. -/
def Extends (y' : Fin N → EReal) (y : Fin n → EReal) : Prop :=
  (∀ j : Fin n, y' (j.castLE h) = y j) ∧ ∀ j : Fin N, n ≤ j.val → y' j = ⊥

/-- The largest entry is at most a bound where every entry is. -/
theorem top_le {y : Fin n → EReal} {c : EReal} : top y ≤ c ↔ ∀ j, y j ≤ c := by
  simp [top, Finset.fold_max_le]

/-- Entries of ⊥ beyond the row do not change the largest. -/
theorem top_ext {y' : Fin N → EReal} {y : Fin n → EReal} (e : Extends h y' y) : top y' = top y := by
  apply le_antisymm
  · rw [top_le]; intro j
    by_cases hj : j.val < n
    · have := e.1 ⟨j.val, hj⟩
      rw [show (⟨j.val, hj⟩ : Fin n).castLE h = j from rfl] at this
      rw [this]; exact top_le.1 le_rfl _
    · rw [e.2 j (not_lt.1 hj)]; exact bot_le
  · rw [top_le]; intro j
    rw [← e.1 j]; exact top_le.1 le_rfl _

/-- Zeros beyond the row do not change the sum. -/
theorem sum_ext {f' : Fin N → EReal} {f : Fin n → EReal} (h1 : ∀ j : Fin n, f' (j.castLE h) = f j)
    (h2 : ∀ j : Fin N, n ≤ j.val → f' j = 0) : ∑ j, f' j = ∑ j, f j := by
  symm
  apply Finset.sum_of_injOn (fun j => j.castLE h)
  · intro a _ b _ hab; exact Fin.castLE_injective h hab
  · intro a _; simp
  · intro j _ hj
    apply h2
    by_contra hc
    exact hj ⟨⟨j.val, not_le.1 hc⟩, by simp, rfl⟩
  · intro j _; exact (h1 j).symm

/-- An entry of ⊥ has weight zero. -/
theorem ex_bot (y : Fin n → EReal) (j : Fin n) (hj : y j = ⊥) : ex y j = 0 := by
  unfold ex; rw [hj, sub_eq_add_neg, EReal.bot_add]; exact Ideal.exp_bot

/-- Nor the weights, -/
theorem ex_ext {y' : Fin N → EReal} {y : Fin n → EReal} (e : Extends h y' y) (j : Fin n) : ex y' (j.castLE h) = ex y j := by
  unfold ex; rw [top_ext h e, e.1]

/-- nor the softmax, -/
theorem prob_ext {y' : Fin N → EReal} {y : Fin n → EReal} (e : Extends h y' y) (j : Fin n) : prob y' (j.castLE h) = prob y j := by
  unfold prob; rw [ex_ext h e, sum_ext h (ex_ext h e) (fun j hj => ex_bot _ _ (e.2 j hj))]

/-- nor the mass up to a rank, -/
theorem cum_ext {y' : Fin N → EReal} {y : Fin n → EReal} (e : Extends h y' y) (j : Fin n) : cum y' (j.castLE h) = cum y j := by
  unfold cum
  apply sum_ext h
  · intro x; rw [prob_ext h e]; rfl
  · intro x hx
    rw [if_neg]
    intro hle
    have : x.val ≤ j.val := hle
    omega

/-- nor what the mass cut keeps. -/
theorem kept_ext {y' : Fin N → EReal} {y : Fin n → EReal} (e : Extends h y' y) (tp : EReal) :
    Extends h (kept y' tp) (kept y tp) := by
  refine ⟨fun j => ?_, fun j hj => ?_⟩
  · unfold kept; rw [cum_ext h e, prob_ext h e, e.1]
  · unfold kept; rw [e.2 j hj, ite_self]

/-- Adding noise keeps ⊥ beyond the row. -/
theorem noise_ext {z' g' : Fin N → EReal} {z g : Fin n → EReal} (e : Extends h z' z) (hg : ∀ j : Fin n, g' (j.castLE h) = g j) :
    Extends h (fun j => z' j + g' j) (fun j => z j + g j) := by
  refine ⟨fun j => ?_, fun j hj => ?_⟩
  · show z' _ + g' _ = _; rw [e.1, hg]
  · show z' j + g' j = ⊥; rw [e.2 j hj, EReal.bot_add]

/-- The first largest entry of the longer row is that of the shorter. -/
theorem pick_ext {s' : Fin N → EReal} {s : Fin n → EReal} (e : Extends h s' s) {k : Fin n} (hk : IsPick s k) : IsPick s' (k.castLE h) := by
  have hd : ∀ j : Fin N, (∃ i : Fin n, j = i.castLE h) ∨ n ≤ j.val := fun j => by
    by_cases hj : j.val < n
    · exact Or.inl ⟨⟨j.val, hj⟩, rfl⟩
    · exact Or.inr (not_lt.1 hj)
  refine ⟨fun j => ?_, fun j hs => ?_⟩
  · rcases hd j with ⟨i, rfl⟩ | hj
    · rw [e.1, e.1]; exact hk.1 i
    · rw [e.2 j hj]; exact bot_le
  · rcases hd j with ⟨i, rfl⟩ | hj
    · rw [e.1, e.1] at hs; exact hk.2 i hs
    · show k.val ≤ j.val; have := k.isLt; omega

/-- The draw from the short row is the draw from the long one. -/
theorem draw_ext {y' g' : Fin N → EReal} {y g : Fin n → EReal} (e : Extends h y' y) (hg : ∀ j : Fin n, g' (j.castLE h) = g j) (tp : EReal)
    {k : Fin n} {k' : Fin N} (hk : IsPick (fun j => kept y tp j + g j) k) (hk' : IsPick (fun j => kept y' tp j + g' j) k') : k' = k.castLE h :=
  hk'.unique (pick_ext h (noise_ext h (kept_ext h e tp) hg) hk)

end

end Cert.Tail
-- ==== Proof.KI.Tail.lean ====
/-
  The rest of a block: the draw from the sixty-four kept entries of a row.
-/
module

public import proofs.«01_k».proof.Proof.KI.Fast
public import proofs.«01_k».proof.Proof.Math.Tail

@[expose] public section

set_option maxRecDepth 16384

noncomputable section

namespace Cert.KernelIdeal.Body

open Cert.KernelIdeal Cert.KernelIdeal.Gen Cert.Top
open Idealize.ShloMosaic Idealize.ShloMosaic.TcCoe

/-- A row's kept entries over its temperature, those from rank max(k, 1) on dropped. -/
def yRow (a : Vec Ideal S1x1x8 .f32) (c : Vec Ideal S1x1x8 .i32) (v : FVec Ideal S8x64 .f32) (r : Fin 8) (j : Fin 64) : EReal :=
  Scalar.select (IntOp.cmpi .sge (BitVec.ofNat 32 j.val) (IntOp.maxsi (c (ix3 0 0 r)) 1#32)) ⊥ (Ideal.div (v (ix2 r j)) (a (ix3 0 0 r)))

/-- The named mask is −∞. -/
theorem mask_eq : (Named.named κ "mask" 3463342888#32 : Ideal .f32) = (⊥ : EReal) := rfl

/-- A rank as a signed word. -/
theorem rank_int (x : Fin 64) : (BitVec.ofNat 32 x.val).toInt = x.val := by
  rw [BitVec.toInt_eq_toNat_cond, BitVec.toNat_ofNat]
  split <;> omega

/-- A comparison's bit as a number. -/
theorem bit_val (x j : Fin 64) : (FloatOps.sitofp .f32 (BitVec.setWidth 32 (IntOp.cmpi .sle (BitVec.ofNat 32 x.val) (BitVec.ofNat 32 j.val))) : Ideal .f32)
    = (if x ≤ j then (1 : EReal) else 0) := by
  have hx : (BitVec.ofNat 32 x.val).toInt = x.val := rank_int x
  have hj : (BitVec.ofNat 32 j.val).toInt = j.val := rank_int j
  have e : IntOp.cmpi .sle (BitVec.ofNat 32 x.val) (BitVec.ofNat 32 j.val) = if x ≤ j then 1#1 else 0#1 := by
    by_cases h : x ≤ j
    · rw [if_pos h]
      simp [IntOp.cmpi, BitVec.sle, hx, hj, h]
    · rw [if_neg h]
      simp [IntOp.cmpi, BitVec.sle, hx, hj, h]
  rw [e]
  split
  · show ((((1#32 : BitVec 32).toInt : ℝ)) : EReal) = 1
    simp
  · show ((((0#32 : BitVec 32).toInt : ℝ)) : EReal) = 0
    simp

/-- The mass up to a rank, as the product with the triangle of ones. -/
theorem cum_eq (p : Fin 64 → EReal) (j : Fin 64) : (∑ x, p x * (FloatOps.sitofp .f32 (BitVec.setWidth 32 (IntOp.cmpi .sle (BitVec.ofNat 32 x.val) (BitVec.ofNat 32 j.val))) : Ideal .f32))
    = ∑ x, if x ≤ j then p x else 0 := by
  refine Finset.sum_congr rfl fun x _ => ?_
  rw [bit_val]
  split
  · exact mul_one _
  · exact mul_zero _

/-- The kept scores of a row after the mass cut. -/
theorem read50 (a b : Vec Ideal S1x1x8 .f32) (c : Vec Ideal S1x1x8 .i32) (v : FVec Ideal S8x64 .f32) (r : Fin 8) (j : Fin 64) :
    k0_pay50 rankV a b c v (ix2 r j) = Tail.kept (yRow a c v r) (b (ix3 0 0 r)) j := by
  pointwise [k0_pay50, rankV]
  simp only [mask_eq, ninf_eq, cum_eq]
  rfl

/-- The noise as the block holds it. -/
theorem read49 (g : Vec Ideal S1x8x64 .f32) (r : Fin 8) (j : Fin 64) : k0_pay49 g (ix2 r j) = g (ix3 0 r j) := by
  pointwise [k0_pay49]

/-- The drawn entry's code: the code at the first rank of the largest noisy score. -/
theorem read1 (g v : FVec Ideal S8x64 .f32) (c : IVec S8x64 32) (r : Fin 8) (k : Fin 64)
    (hk : Tail.IsPick (fun j => v (ix2 r j) + g (ix2 r j)) k) : k0_pay1 rankV g c v (ix3 0 0 r) = c (ix2 r k) := by
  pointwise [k0_pay1, rankV]
  rw [ninf_eq]
  obtain ⟨i, hi, ha, hmin⟩ := pick_spec (c := fun x : Fin 64 => x.val) (fun x => by omega)
    (isMax_fold (fun x : Fin 64 => v (ix2 r x) + g (ix2 r x)) rfl) (isMin_fold _)
  have hik : i = k := by
    refine Tail.IsPick.unique (s := fun j => v (ix2 r j) + g (ix2 r j)) ⟨fun j => ?_, fun j hj => hmin j (hj.trans hi)⟩ hk
    have := (isMax_fold (fun x : Fin 64 => v (ix2 r x) + g (ix2 r x)) rfl).1 j
    exact this.trans hi.ge
  subst hik
  have e : ∀ x : Fin 64, Scalar.select (IntOp.cmpi .eq (BitVec.ofNat 32 x.val) (BitVec.ofNat 32 i.val)) (c (ix2 r x)) 0#32
      = BitVec.ofNat 32 (if x = i then (c (ix2 r x)).toNat else 0) := by
    intro x
    rw [select_eq]
    by_cases h : x = i
    · subst h; rw [if_pos rfl, if_pos rfl, BitVec.ofNat_toNat, BitVec.setWidth_eq]
    · rw [if_neg h, if_neg]
      intro h'
      have := congrArg BitVec.toInt h'
      rw [rank_int, rank_int] at this
      exact h (Fin.ext (by omega))
  refine (congrArg (fun a => Finset.univ.fold IntOp.addi 0#32 (fun x : Fin 64 => Scalar.select (IntOp.cmpi .eq (BitVec.ofNat 32 x.val) a) (c (ix2 r x)) 0#32)) ha).trans ?_
  refine (congrArg (fun f => Finset.univ.fold IntOp.addi 0#32 f) (funext e)).trans ?_
  rw [fold_addi, Finset.sum_ite_eq' Finset.univ i (fun x => (c (ix2 r x)).toNat), if_pos (Finset.mem_univ _), BitVec.ofNat_toNat, BitVec.setWidth_eq]

/-- A block's result at a row: the token whose rank is the first of the largest noisy kept score. -/
theorem out_row (x1 : Vec Ideal S8x200x500 .f32) (x2 x3 : Vec Ideal S1x1x8 .f32) (x4 : Vec Ideal S1x1x8 .i32) (x5 : Vec Ideal S1x8x64 .f32)
    (r : Fin 8) (hX : ∀ p, lowE < rowX x1 r p) : ∃ (σ : ℕ → Fin 100000), Top (rowX x1 r) σ 64 ∧ ∀ k : Fin 64,
      Tail.IsPick (fun j => Tail.kept (fun j : Fin 64 => Scalar.select (IntOp.cmpi .sge (BitVec.ofNat 32 j.val) (IntOp.maxsi (x4 (ix3 0 0 r)) 1#32)) ⊥
        (Ideal.div (rowX x1 r (σ j)) (x2 (ix3 0 0 r)))) (x3 (ix3 0 0 r)) j + x5 (ix3 0 r j)) k →
      outV x1 x2 x3 x4 x5 (ix3 0 0 r) = BitVec.ofNat 32 (σ k).val := by
  obtain ⟨σ, hT, hv⟩ := block_kept x1 r hX
  refine ⟨σ, hT, fun k hk => ?_⟩
  rw [← (hv k).2]
  refine read1 _ _ _ r k ?_
  have e : yRow x2 x4 (topV x1) r = fun j : Fin 64 => Scalar.select (IntOp.cmpi .sge (BitVec.ofNat 32 j.val) (IntOp.maxsi (x4 (ix3 0 0 r)) 1#32)) ⊥
        (Ideal.div (rowX x1 r (σ j)) (x2 (ix3 0 0 r))) := by
    funext j
    rw [yRow, (hv j).1]
  simp only [read50, read49, e]
  exact hk

end Cert.KernelIdeal.Body
-- ==== Proof.KI.Casts.lean ====
/-
  The host's reshapes read index by index.
-/
module

public import proofs.«01_k».proof.Proof.KI.Slow

@[expose] public section

set_option maxRecDepth 16384

noncomputable section

namespace Cert.KernelIdeal.Body

open Cert.KernelIdeal Cert.KernelIdeal.Gen
open Idealize.ShloMosaic Idealize.ShloMosaic.TcCoe

variable {α : Type}

/-- A batch row from its block and its row there. -/
def brow (k : Fin 16) (r : Fin 8) : Fin 128 := ⟨k.val * 8 + r.val, by omega⟩

/-- The result's rows, from blocks of eight. -/
theorem cast_out (g : S16x1x8.Idx → α) (k : Fin 16) (r : Fin 8) : shapeCast S128 g shapeCasts_S16x1x8_S128 (ix1 (brow k r)) = g (ix3 k 0 r) := by
  pointwise [brow]

/-- A batch vector cut into blocks of eight. -/
theorem cast_vec (x : S128.Idx → α) (k : Fin 16) (r : Fin 8) : shapeCast S16x1x8 x shapeCasts_S128_S16x1x8 (ix3 k 0 r) = x (ix1 (brow k r)) := by
  pointwise [brow]

/-- A row of logits as 200 rows of 500. -/
theorem cast_row (x : S128x100000.Idx → α) (b : Fin 128) (p : Fin 200) (l : Fin 500) :
    shapeCast S128x200x500 x shapeCasts_S128x100000_S128x200x500 (ix3 b p l) = x (ix2 b ⟨p.val * 500 + l.val, by omega⟩) := by
  pointwise

/-- The noise cut into blocks of eight rows. -/
theorem cast_noise (x : S128x64.Idx → α) (k : Fin 16) (r : Fin 8) (j : Fin 64) :
    shapeCast S16x8x64 x shapeCasts_S128x64_S16x8x64 (ix3 k r j) = x (ix2 (brow k r) j) := by
  pointwise [brow]

/-- The noise of the first sixty-four ranks. -/
theorem slice_noise (x : S128x100000.Idx → α) (b : Fin 128) (j : Fin 64) :
    extractStridedSlice S128x64 ![0, 0] x slices_S128x100000_S128x64_0_0 (ix2 b j) = x (ix2 b ⟨j.val, by omega⟩) := by
  pointwise

end Cert.KernelIdeal.Body
-- ==== Proof.KI.Out.lean ====
/-
  The kernel's result, token by token: row 8·t + r of the result is row r of the block at grid point t.
-/
module

public import proofs.«01_k».proof.Proof.KI.Host
public import proofs.«01_k».proof.Proof.KI.Tail
public import proofs.«01_k».proof.Proof.KI.Casts

@[expose] public section

set_option maxRecDepth 16384

noncomputable section

namespace Cert.KernelIdeal.Body

open Cert.KernelIdeal Cert.KernelIdeal.Gen
open Idealize.ShloMosaic Idealize.ShloMosaic.TcCoe
open Idealize.SL.Sem

variable {F : FTy → Type} [FloatOps F] [Named F]
variable (m : (ℓ : Loc nD τ sig) → Buf (Elt F) ℓ)

/-- Every window's block index is the grid point on the first axis and zero on the others. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The block index of the temperatures. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
/-- The block index of the mass bounds. -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
/-- The block index of the counts. -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
/-- The block index of the noise. -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
/-- The block index of the result. -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- A grid point as a block number. -/
def pt (t : Fin cfg0.N) : Fin 16 := ⟨t.val, by have := t.isLt; have h : cfg0.N = 16 := N_0; omega⟩
/-- An entry of a block of logits. -/
theorem in0 (c : Dev nD) (t : Fin cfg0.N) (r : Fin 8) (p : Fin 200) (l : Fin 500) :
    (iblk m c 0 t : Vec F S8x200x500 .f32) (ix3 r p l) = (V m c main_v0 : Vec F S128x200x500 .f32) (ix3 (brow (pt t) r) p l) := by
  obtain ⟨e0, e1, e2⟩ := idx0 t
  show (V m c main_v0 : Vec F S128x200x500 .f32) (((cfg0.win 0).blk t).view.emb (ix3 r p l)) = _
  congr 1
  funext a; apply Fin.ext
  match a with
  | ⟨0, _⟩ => show win0_0.index t (0 : Fin 3) * 8 + 1 * r.val = t.val * 8 + r.val; omega
  | ⟨1, _⟩ => show win0_0.index t (1 : Fin 3) * 200 + 1 * p.val = p.val; omega
  | ⟨2, _⟩ => show win0_0.index t (2 : Fin 3) * 500 + 1 * l.val = l.val; omega

/-- An entry of a block of temperatures. -/
theorem in1 (c : Dev nD) (t : Fin cfg0.N) (r : Fin 8) :
    (iblk m c 1 t : Vec F S1x1x8 .f32) (ix3 0 0 r) = (V m c main_v10 : Vec F S16x1x8 .f32) (ix3 (pt t) 0 r) := by
  obtain ⟨e0, e1, e2⟩ := idx1 t
  show (V m c main_v10 : Vec F S16x1x8 .f32) (((cfg0.win 1).blk t).view.emb (ix3 0 0 r)) = _
  congr 1
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 8 + 1 * r.val = r.val; omega

/-- An entry of a block of mass bounds. -/
theorem in2 (c : Dev nD) (t : Fin cfg0.N) (r : Fin 8) :
    (iblk m c 2 t : Vec F S1x1x8 .f32) (ix3 0 0 r) = (V m c main_v11 : Vec F S16x1x8 .f32) (ix3 (pt t) 0 r) := by
  obtain ⟨e0, e1, e2⟩ := idx2 t
  show (V m c main_v11 : Vec F S16x1x8 .f32) (((cfg0.win 2).blk t).view.emb (ix3 0 0 r)) = _
  congr 1
  funext a; apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 8 + 1 * r.val = r.val; omega

/-- An entry of a block of counts. -/
theorem in3 (c : Dev nD) (t : Fin cfg0.N) (r : Fin 8) :
    (iblk m c 3 t : Vec F S1x1x8 .i32) (ix3 0 0 r) = (V m c main_v12 : Vec F S16x1x8 .i32) (ix3 (pt t) 0 r) := by
  obtain ⟨e0, e1, e2⟩ := idx3 t
  show (V m c main_v12 : Vec F S16x1x8 .i32) (((cfg0.win 3).blk t).view.emb (ix3 0 0 r)) = _
  congr 1
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 8 + 1 * r.val = r.val; omega

/-- An entry of a block of noise. -/
theorem in4 (c : Dev nD) (t : Fin cfg0.N) (r : Fin 8) (j : Fin 64) :
    (iblk m c 4 t : Vec F S1x8x64 .f32) (ix3 0 r j) = (V m c main_v13 : Vec F S16x8x64 .f32) (ix3 (pt t) r j) := by
  obtain ⟨e0, e1, e2⟩ := idx4 t
  show (V m c main_v13 : Vec F S16x8x64 .f32) (((cfg0.win 4).blk t).view.emb (ix3 0 r j)) = _
  congr 1
  funext a; apply Fin.ext
  match a with
  | ⟨0, _⟩ => show win0_4.index t (0 : Fin 3) * 1 + 1 * 0 = t.val; omega
  | ⟨1, _⟩ => show win0_4.index t (1 : Fin 3) * 8 + 1 * r.val = r.val; omega
  | ⟨2, _⟩ => show win0_4.index t (2 : Fin 3) * 64 + 1 * j.val = j.val; omega

/-- A block number as a grid point. -/
def unpt (k : Fin 16) : Fin cfg0.N := ⟨k.val, by have h : cfg0.N = 16 := N_0; omega⟩

/-- The output array as one function of the input blocks. -/
def G (c : Dev nD) : Vec F S16x1x8 .i32 := fun i =>
  outV (iblk m c 0 (unpt (i 0))) (iblk m c 1 (unpt (i 0))) (iblk m c 2 (unpt (i 0))) (iblk m c 3 (unpt (i 0))) (iblk m c 4 (unpt (i 0)))
    (ix3 0 0 (i 2))

/-- Where an index of a result block lies in the result. -/
theorem emb5 (t : Fin cfg0.N) (j : S1x1x8.Idx) : ((cfg0.win 5).blk t).view.emb j = (ix3 (pt t) 0 (j 2) : S16x1x8.Idx) := by
  obtain ⟨e0, e1, e2⟩ := idx5 t
  have h0 : (j 0).val < 1 := (j 0).isLt
  have h1 : (j 1).val < 1 := (j 1).isLt
  funext a; apply Fin.ext
  match a with
  | ⟨0, _⟩ => show win0_5.index t (0 : Fin 3) * 1 + 1 * (j 0).val = t.val; omega
  | ⟨1, _⟩ => show win0_5.index t (1 : Fin 3) * 1 + 1 * (j 1).val = 0; omega
  | ⟨2, _⟩ => show win0_5.index t (2 : Fin 3) * 8 + 1 * (j 2).val = (j 2).val; omega

/-- What a grid point writes back is its block of the result. -/
theorem flushed_eq (c : Dev nD) (t : Fin cfg0.N) :
    (dats m 0 c).flushed 5 t = ((cfg0.win 5).blk t).view.read (Elt F) (G m c) := by
  show (cfg0.win 5).cut (grid0.coords t) ((dats m 0 c).after 5 t) = _
  rw [after0_5]
  funext j
  show outV (iblk m c 0 t) (iblk m c 1 t) (iblk m c 2 t) (iblk m c 3 t) (iblk m c 4 t) j = G m c (((cfg0.win 5).blk t).view.emb j)
  rw [emb5]
  have hj : j = ix3 0 0 (j 2) := by
    funext a
    match a with
    | ⟨0, _⟩ => exact Subsingleton.elim (α := Fin 1) _ _
    | ⟨1, _⟩ => exact Subsingleton.elim (α := Fin 1) _ _
    | ⟨2, _⟩ => rfl
  exact congrArg (outV (iblk m c 0 t) (iblk m c 1 t) (iblk m c 2 t) (iblk m c 3 t) (iblk m c 4 t)) hj

/-- Every index of the result is in a block. -/
theorem covered (i : S16x1x8.Idx) : ∃ t : Fin cfg0.N, (cfg0.win 5).flush t = true ∧ i ∈ ((cfg0.win 5).blk t).view.set := by
  refine ⟨unpt (i 0), flush0_5 _, ?_⟩
  have h := ((cfg0.win 5).blk (unpt (i 0))).view.emb_mem_set (ix3 0 0 (i 2) : S1x1x8.Idx)
  rw [emb5] at h
  have e : (ix3 (pt (unpt (i 0))) 0 (i 2) : S16x1x8.Idx) = i := by
    funext a
    match a with
    | ⟨0, _⟩ => rfl
    | ⟨1, _⟩ => exact Subsingleton.elim (α := Fin 1) _ _
    | ⟨2, _⟩ => rfl
  exact e ▸ h

/-- The result array after the launch. -/
theorem final5 (c : Dev nD) : (dats m 0 c).arrAt 5 cfg0.N = G m c :=
  (dats m 0 c).arrAt_eq_of_cover 5 (G m c) (fun t _ => flushed_eq m c t) covered

/-- The result buffer after the whole program. -/
theorem tail_v15 (c : Dev nD) : Pipeline.afterTail₀ cfgs (dats m) 0 (V0 m) [hostOps1] c main_v15
    = shapeCast S128 (G m c) shapeCasts_S16x1x8_S128 := by
  unfold Pipeline.afterTail₀
  rw [List.flatten_cons, List.flatten_nil, List.append_nil]
  after_reads_simp
  have h := Pipeline.withArrays_arr (cfgs 0).spec (fun a b h => launch0.win.arr_inj h) c (V0 m c) (fun w => (dats m 0 c).arrAt w (cfgs 0).N) 5
  have h' := h.trans (final5 m c)
  exact congrArg (fun x => shapeCast S128 (x : Vec F S16x1x8 .i32) shapeCasts_S16x1x8_S128) h'

/-- Every run ends with the result buffer at that and the arguments as they began. -/
theorem run (ρ : Dev nD → PrngReg) : θ_run defs (onTc (τ := τ) (main (F := F))) ⟨m, fun _ => 0, ρ⟩ (fun r => ∀ c : Dev nD,
      r.2.mem ((c.tc : Thread nD τ).loc main_v15) = shapeCast S128 (G m c) shapeCasts_S16x1x8_S128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).2 main_v15 (Pipeline.mem_restRefs_of main_v15 (by decide) (by decide))).trans (tail_v15 m c), h.2 c⟩)
    (θ_run_and (run_main_quiescent m ρ) (unchanged m ρ))

end Cert.KernelIdeal.Body
-- ==== Proof.Ref.Read.lean ====
/-
  The reference's stretches as functions of what they read.
-/
module

public import proofs.«01_k».proof.Proof.Ref.Run

@[expose] public section

set_option maxRecDepth 65536

namespace Cert.ReferenceIdeal.Ops

open Idealize.ShloMosaic Idealize.ShloMosaic.TcCoe
open Cert.ReferenceIdeal Facts₀ Facts

noncomputable section

variable {F : FTy → Type} [FloatOps F]

/-- The scaled logits. -/
def scaled (x : FVec F S128x100000 .f32) (t : FVec F S128 .f32) : FVec F S128x100000 .f32 :=
  Host.divf x (broadcastInDim S128x100000 ![0, 1] bcast_S128x1_S128x100000_0_1 (broadcastInDim S128x1 ![0] bcast_S128_S128x1_0 t))

/-- Their descending order. -/
def order (y : FVec F S128x100000 .f32) : IVec S128x100000 32 :=
  (Host.sort2 S128x100000 1 comparator_f32_i32_d1 (Host.negf y) (iotaInDim S128x100000 32 1)).2

/-- The first stretch leaves the scaled logits, -/
theorem sort_scaled (V : Valuation τ sig (Elt F)) : StableHlo.after opsSort V (Proc.devRef .tc main_v2)
    = scaled (V (Proc.devRef .tc main_arg0)) (V (Proc.devRef .tc main_arg1)) := by
  after_reads_simp; rfl

/-- and their descending order. -/
theorem sort_order (V : Valuation τ sig (Elt F)) : StableHlo.after opsSort V (Proc.devRef .tc main_v4)
    = order (scaled (V (Proc.devRef .tc main_arg0)) (V (Proc.devRef .tc main_arg1))) := by
  after_reads_simp; rfl

/-- Row-wise indices, the negative ones counted from the end. -/
def wrapped (q : IVec S128x100000 32) : IVec S128x100000x1 32 :=
  shapeCast S128x100000x1 (select (cmpi .slt q (broadcastInDim S128x100000 ![] bcast_S_S128x100000 (constantI S_ 32 0#32)))
    (addi q (broadcastInDim S128x100000 ![] bcast_S_S128x100000 (constantI S_ 32 100000#32))) q) shapeCasts_S128x100000_S128x100000x1

/-- Entries taken at row-wise indices. -/
def taken (y : FVec F S128x100000 .f32) (q : IVec S128x100000 32) : FVec F S128x100000 .f32 :=
  select (Host.reduce IntOp.andi
      (andi (cmpi .sge (wrapped q) (broadcastInDim S128x100000x1 ![] bcast_S_S128x100000x1 (constantI S_ 32 0#32)))
        (cmpi .sle (wrapped q) (broadcastInDim S128x100000x1 ![0, 1, 2] bcast_S1x1x1_S128x100000x1_0_1_2
          (broadcastInDim S1x1x1 ![2] bcast_S1_S1x1x1_2 (constantI S1 32 99999#32)))))
      (constantI S_ 1 1#1) reducesTo_S128x100000x1_S128x100000_d2 h_S_)
    (Host.gather gather_S128x100000_S128x100000x1_S128x100000_n_1_0_0_1_2_11 y (wrapped q))
    (broadcastInDim S128x100000 ![] bcast_S_S128x100000 (constant S_ .f32 0x7FC00000#32))

/-- The second leaves them sorted. -/
theorem take_taken (V : Valuation τ sig (Elt F)) : StableHlo.after opsTake V (Proc.devRef .tc main_v5)
    = taken (V (Proc.devRef .tc main_v2)) (V (Proc.devRef .tc main_v4)) := by
  after_reads_simp
  simp only [StableHlo.TRef.ofBuf_toBuf]
  have hr : ∀ (x : IVec S128x100000 32) h,
      (StableHlo.TRef.of main_call1_v5 : StableHlo.TRef sig ⟨S128x100000x1, .i32⟩).ofBuf (Val := Elt F) (fun i => shapeCast main_call1_v5.ty.shape
        ((StableHlo.TRef.of main_call1_v4 : StableHlo.TRef sig ⟨S128x100000, .i32⟩).toBuf (Val := Elt F) x) h i) = shapeCast S128x100000x1 x shapeCasts_S128x100000_S128x100000x1 := fun _ _ => rfl
  have h4 : (StableHlo.TRef.of main_v4 : StableHlo.TRef sig ⟨S128x100000, .i32⟩).ofBuf (V (Proc.devRef .tc main_v4)) = V (Proc.devRef .tc main_v4) := rfl
  have h2 : (StableHlo.TRef.of main_v2 : StableHlo.TRef sig ⟨S128x100000, .f32⟩).ofBuf (V (Proc.devRef .tc main_v2)) = V (Proc.devRef .tc main_v2) := rfl
  have h5 : ∀ x : FVec F S128x100000 .f32, (StableHlo.TRef.of main_v5 : StableHlo.TRef sig ⟨S128x100000, .f32⟩).toBuf (Val := Elt F) x = x := fun _ => rfl
  refine (h5 _).trans ?_
  simp only [hr, h4, h2]
  rfl

/-- The rank cut. -/
def cut (y : FVec F S128x100000 .f32) (k : IVec S128 32) : FVec F S128x100000 .f32 :=
  select (cmpi .sge (broadcastInDim S128x100000 ![0, 1] bcast_S1x100000_S128x100000_0_1 (broadcastInDim S1x100000 ![1] bcast_S100000_S1x100000_1 (iotaInDim S100000 32 0)))
      (broadcastInDim S128x100000 ![0, 1] bcast_S128x1_S128x100000_0_1 (broadcastInDim S128x1 ![0] bcast_S128_S128x1_0
        (maxsi k (broadcastInDim S128 ![] bcast_S_S128 (constantI S_ 32 1#32))))))
    (broadcastInDim S128x100000 ![] bcast_S_S128x100000 (constant S_ .f32 0xFF800000#32)) y

/-- The third masks those from rank max(k, 1) on. -/
theorem topk_cut (V : Valuation τ sig (Elt F)) : StableHlo.after opsTopK V (Proc.devRef .tc main_v14)
    = cut (V (Proc.devRef .tc main_v5)) (V (Proc.devRef .tc main_arg3)) := by
  after_reads_simp; rfl

/-- The exponentials of the distances from the row maximum. -/
def expo (y : FVec F S128x100000 .f32) : FVec F S128x100000 .f32 :=
  Host.exp (subf y (broadcastInDim S128x100000 ![0, 1] bcast_S128x1_S128x100000_0_1 (broadcastInDim S128x1 ![0] bcast_S128_S128x1_0
    (maximumf (broadcastInDim S128 ![] bcast_S_S128 (constant S_ .f32 0xFF800000#32))
      (Host.reduce FloatOps.maximumf y (constant S_ .f32 0xFF800000#32) reducesTo_S128x100000_S128_d1 h_S_)))))

/-- The softmax. -/
def soft (y : FVec F S128x100000 .f32) : FVec F S128x100000 .f32 :=
  Host.divf (expo y) (broadcastInDim S128x100000 ![0, 1] bcast_S128x1_S128x100000_0_1 (broadcastInDim S128x1 ![0] bcast_S128_S128x1_0
    (Host.reduceAdd (expo y) (constant S_ .f32 0x00000000#32) reducesTo_S128x100000_S128_d1 h_S_)))

/-- The fourth is the softmax. -/
theorem soft_soft (V : Valuation τ sig (Elt F)) : StableHlo.after opsSoft V (Proc.devRef .tc main_v25) = soft (V (Proc.devRef .tc main_v14)) := by
  after_reads_simp; rfl

/-- The running sums. -/
def running (p : FVec F S128x100000 .f32) : FVec F S128x100000 .f32 :=
  Host.reduceWindowAdd ![1, 100000] ![1, 1] ![0, 99999] ![0, 0] p (broadcastInDim S_ ![] bcast_S_S_ (constant S_ .f32 0x00000000#32))
    reduceWindows_S128x100000_S128x100000_w1s1p0_0_w100000s1p99999_0 h_S_

/-- The mass cut. -/
def mass (y p : FVec F S128x100000 .f32) (tp : FVec F S128 .f32) : FVec F S128x100000 .f32 :=
  select (cmpf .ole (subf (running p) p) (broadcastInDim S128x100000 ![0, 1] bcast_S128x1_S128x100000_0_1 (broadcastInDim S128x1 ![0] bcast_S128_S128x1_0 tp)))
    y (broadcastInDim S128x100000 ![] bcast_S_S128x100000 (constant S_ .f32 0xFF800000#32))

/-- The fifth masks by mass. -/
theorem topp_mass (V : Valuation τ sig (Elt F)) : StableHlo.after opsTopP V (Proc.devRef .tc main_v31)
    = mass (V (Proc.devRef .tc main_v14)) (V (Proc.devRef .tc main_v25)) (V (Proc.devRef .tc main_arg2)) := by
  after_reads_simp; rfl

/-- The rank of the first maximum of the noisy scores. -/
def first (z g : FVec F S128x100000 .f32) : IVec S128 32 := fun j =>
  (Host.argReduce reducer_argmax_f32_i32 (addf z g) (iotaInDim S128x100000 32 1) (constant S_ .f32 0xFF800000#32) (constantI S_ 32 0#32)
    reducesTo_S128x100000_S128_d1 h_S_ j).2

/-- The seventh adds the noise and takes the first largest rank. -/
theorem pick_first (V : Valuation τ sig (Elt F)) : StableHlo.after opsPick V (Proc.devRef .tc main_v41)
    = first (V (Proc.devRef .tc main_v31)) (V (Proc.devRef .tc main_v39)) := by
  after_reads_simp; rfl

/-- Row-wise single indices, the negative ones counted from the end. -/
def wrapped1 (q : IVec S128 32) : IVec S128x1x1 32 :=
  shapeCast S128x1x1 (select (cmpi .slt (broadcastInDim S128x1 ![0] bcast_S128_S128x1_0 q) (broadcastInDim S128x1 ![] bcast_S_S128x1 (constantI S_ 32 0#32)))
    (addi (broadcastInDim S128x1 ![0] bcast_S128_S128x1_0 q) (broadcastInDim S128x1 ![] bcast_S_S128x1 (constantI S_ 32 100000#32)))
    (broadcastInDim S128x1 ![0] bcast_S128_S128x1_0 q)) shapeCasts_S128x1_S128x1x1

/-- The tokens at those ranks. -/
def token (o : IVec S128x100000 32) (q : IVec S128 32) : IVec S128 32 :=
  shapeCast S128 (select (Host.reduce IntOp.andi
      (andi (cmpi .sge (wrapped1 q) (broadcastInDim S128x1x1 ![] bcast_S_S128x1x1 (constantI S_ 32 0#32)))
        (cmpi .sle (wrapped1 q) (broadcastInDim S128x1x1 ![0, 1, 2] bcast_S1x1x1_S128x1x1_0_1_2
          (broadcastInDim S1x1x1 ![2] bcast_S1_S1x1x1_2 (constantI S1 32 99999#32)))))
      (constantI S_ 1 1#1) reducesTo_S128x1x1_S128x1_d2 h_S_)
    (Host.gather gather_S128x100000_S128x1x1_S128x1_n_1_0_0_1_2_11 o (wrapped1 q))
    (broadcastInDim S128x1 ![] bcast_S_S128x1 (constantI S_ 32 2147483648#32))) shapeCasts_S128x1_S128

/-- The last reads the token at that rank. -/
theorem token_token (V : Valuation τ sig (Elt F)) : StableHlo.after opsToken V (Proc.devRef .tc main_v44)
    = token (V (Proc.devRef .tc main_v4)) (V (Proc.devRef .tc main_v41)) := by
  after_reads_simp; rfl

end

end Cert.ReferenceIdeal.Ops
-- ==== Proof.Ref.Val1.lean ====
/-
  The reference stretches read at an index: the elementwise ones.
-/
module

public import proofs.«01_k».proof.Proof.Ref.Read
public import Idealize.ShloMosaic.Lib.Pointwise
public import Idealize.ShloMosaic.Lib.ValueIdx
public import Idealize.ShloMosaic.Lib.SortFacts
public import Idealize.ShloMosaic.PureOps.Ideal.Laws

@[expose] public section

set_option maxRecDepth 16384

namespace Cert.ReferenceIdeal.Ops

open Idealize.ShloMosaic
open Cert.ReferenceIdeal Facts₀ Facts

noncomputable section

/-- A scaled logit. -/
theorem scaled_at (x : FVec Ideal S128x100000 .f32) (t : FVec Ideal S128 .f32) (b : Fin 128) (p : Fin 100000) :
    scaled x t (ix2 b p) = Ideal.div (x (ix2 b p)) (t (ix1 b)) := by
  pointwise [scaled]

/-- An entry after the top-k mask. -/
theorem cut_at (y : FVec Ideal S128x100000 .f32) (k : IVec S128 32) (b : Fin 128) (p : Fin 100000) :
    cut y k (ix2 b p) = Scalar.select (IntOp.cmpi .sge (BitVec.ofNat 32 p.val) (IntOp.maxsi (k (ix1 b)) 1#32))
      (Ideal.ofBits .f32 4286578688#32) (y (ix2 b p)) := by
  pointwise [cut]

/-- The exponentials over a given row value. -/
def expoOf (y : FVec Ideal S128x100000 .f32) (m : FVec Ideal S128 .f32) : FVec Ideal S128x100000 .f32 :=
  Host.exp (subf y (broadcastInDim S128x100000 ![0, 1] bcast_S128x1_S128x100000_0_1 (broadcastInDim S128x1 ![0] bcast_S128_S128x1_0 m)))

/-- The row maximum. -/
def rowMax (y : FVec Ideal S128x100000 .f32) : FVec Ideal S128 .f32 :=
  maximumf (broadcastInDim S128 ![] bcast_S_S128 (constant S_ .f32 0xFF800000#32))
      (Host.reduce FloatOps.maximumf y (constant S_ .f32 0xFF800000#32) reducesTo_S128x100000_S128_d1 h_S_)

/-- The exponential of the distance from a row's value. -/
theorem expoOf_at (y : FVec Ideal S128x100000 .f32) (m : FVec Ideal S128 .f32) (b : Fin 128) (p : Fin 100000) :
    expoOf y m (ix2 b p) = Ideal.exp (y (ix2 b p) - m (ix1 b)) := by
  pointwise [expoOf]

/-- A row's maximum, at any size. -/
theorem reduce_max_at {n0 n1 : ℕ} (h : (⟨2, ![n0, n1]⟩ : Shape).ReducesTo [1] ⟨1, ![n0]⟩) (hu : 0 < S_.numel)
    (y : FVec Ideal ⟨2, ![n0, n1]⟩ .f32) (v : FVec Ideal S_ .f32) (c : EReal) (hv : ∀ i, v i = c) (b : Fin n0) :
    Host.reduce FloatOps.maximumf y v h hu (ix1 b) = (Finset.univ : Finset (Fin n1)).fold max c (fun p => y (ix2 b p)) := by
  rw [Host.reduce_eq_fold, Shape.ReducesTo.fold_fiber_r2_a1, hv]
  rfl

/-- The greater of two arrays, entry by entry. -/
theorem maximumf_at {s : Shape} (x y : FVec Ideal s .f32) (i : s.Idx) : maximumf x y i = max (x i) (y i) := rfl

/-- A row's maximum. -/
theorem rowMax_at (y : FVec Ideal S128x100000 .f32) (b : Fin 128) :
    rowMax y (ix1 b) = max (Ideal.ofBits .f32 4286578688#32)
      ((Finset.univ : Finset (Fin 100000)).fold max (Ideal.ofBits .f32 4286578688#32) (fun p => y (ix2 b p))) :=
  (maximumf_at _ _ _).trans (congrArg (max (Ideal.ofBits .f32 4286578688#32))
    (reduce_max_at reducesTo_S128x100000_S128_d1 h_S_ y (constant S_ .f32 0xFF800000#32) _ (fun _ => rfl) b))

/-- The softmax's numerator. -/
theorem expo_at (y : FVec Ideal S128x100000 .f32) (b : Fin 128) (p : Fin 100000) :
    expo y (ix2 b p) = Ideal.exp (y (ix2 b p) - rowMax y (ix1 b)) :=
  expoOf_at y (rowMax y) b p

end

end Cert.ReferenceIdeal.Ops
-- ==== Proof.Ref.Val2.lean ====
/-
  The reference stretches read at an index: the quotients and the mass cut.
-/
module

public import proofs.«01_k».proof.Proof.Ref.Read
public import Idealize.ShloMosaic.Lib.Pointwise
public import Idealize.ShloMosaic.Lib.ValueIdx
public import Idealize.ShloMosaic.Lib.SortFacts
public import Idealize.ShloMosaic.PureOps.Ideal.Laws

@[expose] public section

set_option maxRecDepth 16384

namespace Cert.ReferenceIdeal.Ops

open Idealize.ShloMosaic
open Cert.ReferenceIdeal Facts₀ Facts

noncomputable section

/-- The quotients by a row sum. -/
def softOf (e : FVec Ideal S128x100000 .f32) : FVec Ideal S128x100000 .f32 :=
  Host.divf e (broadcastInDim S128x100000 ![0, 1] bcast_S128x1_S128x100000_0_1 (broadcastInDim S128x1 ![0] bcast_S128_S128x1_0
    (Host.reduceAdd e (constant S_ .f32 0x00000000#32) reducesTo_S128x100000_S128_d1 h_S_)))

/-- A numerator over its row's sum. -/
theorem softOf_at (e : FVec Ideal S128x100000 .f32) (b : Fin 128) (p : Fin 100000) :
    softOf e (ix2 b p) = Ideal.div (e (ix2 b p)) (∑ q : Fin 100000, e (ix2 b q)) := by
  pointwise [softOf]

/-- The softmax, entry by entry. -/
theorem soft_at (y : FVec Ideal S128x100000 .f32) (b : Fin 128) (p : Fin 100000) :
    soft y (ix2 b p) = Ideal.div (expo y (ix2 b p)) (∑ q : Fin 100000, expo y (ix2 b q)) :=
  softOf_at (expo y) b p

/-- The mass cut over given running sums. -/
def massOf (y p r : FVec Ideal S128x100000 .f32) (tp : FVec Ideal S128 .f32) : FVec Ideal S128x100000 .f32 :=
  select (cmpf .ole (subf r p) (broadcastInDim S128x100000 ![0, 1] bcast_S128x1_S128x100000_0_1 (broadcastInDim S128x1 ![0] bcast_S128_S128x1_0 tp)))
    y (broadcastInDim S128x100000 ![] bcast_S_S128x100000 (constant S_ .f32 0xFF800000#32))

/-- The mass cut from given sums. -/
theorem massOf_at (y p r : FVec Ideal S128x100000 .f32) (tp : FVec Ideal S128 .f32) (b : Fin 128) (j : Fin 100000) :
    massOf y p r tp (ix2 b j) = if r (ix2 b j) - p (ix2 b j) ≤ tp (ix1 b)
      then y (ix2 b j) else Ideal.ofBits .f32 4286578688#32 := by
  pointwise [massOf]

/-- The mass cut, entry by entry. -/
theorem mass_at (y p : FVec Ideal S128x100000 .f32) (tp : FVec Ideal S128 .f32) (b : Fin 128) (j : Fin 100000) :
    mass y p tp (ix2 b j) = if running p (ix2 b j) - p (ix2 b j) ≤ tp (ix1 b)
      then y (ix2 b j) else Ideal.ofBits .f32 4286578688#32 :=
  massOf_at y p (running p) tp b j

end

end Cert.ReferenceIdeal.Ops
-- ==== Proof.Ref.Val3.lean ====
/-
  The descending order: its first entries are the largest scores in order.
-/
module

public import proofs.«01_k».proof.Proof.Ref.Read
public import Idealize.ShloMosaic.Lib.Pointwise
public import Idealize.ShloMosaic.Lib.ValueIdx
public import Idealize.ShloMosaic.Lib.SortFacts
public import Idealize.ShloMosaic.Lib.SortPrefix
public import proofs.«01_k».proof.Proof.Math.Top
public import Idealize.ShloMosaic.PureOps.Ideal.Laws

@[expose] public section

set_option maxRecDepth 16384

namespace Cert.ReferenceIdeal.Ops

open Idealize.ShloMosaic
open Cert.ReferenceIdeal Facts₀ Facts

noncomputable section

/-- The sort by key alone. -/
def byKey {n : ℕ} (Y : Fin n → EReal) (k k' : Fin n) : Bool := decide (-Y k < -Y k')
/-- The sort by key and then position. -/
def byBoth {n : ℕ} (Y : Fin n → EReal) (k k' : Fin n) : Bool := decide (-Y k < -Y k') || (decide (-Y k = -Y k') && decide (k < k'))

/-- By value and then by place is a strict total order. -/
theorem byBoth_strict {n : ℕ} (Y : Fin n → EReal) : StrictTotalBefore (byBoth Y) :=
  StrictTotalBefore.of_key_then_position (fun a b : EReal => decide (a < b)) (fun k => -Y k) (by simp)
    (fun a b c h h' => by simp only [decide_eq_true_eq] at *; exact h.trans h')
    (fun a b => by simp only [decide_eq_true_eq]; exact lt_trichotomy a b)

/-- A stable sort by value is a sort by value and then by place, -/
theorem stable_by {n : ℕ} (Y : Fin n → EReal) (l : List (Fin n)) (hl : l.Pairwise (· < ·)) : stableSort (byKey Y) l = stableSort (byBoth Y) l := by
  induction l with
  | nil => rfl
  | cons a l ih =>
    rw [List.pairwise_cons] at hl
    unfold stableSort
    rw [ih hl.2]
    apply insertBefore_congr
    intro b hb
    have hab := hl.1 b ((perm_stableSort _ l).mem_iff.1 hb)
    have : decide (b < a) = false := decide_eq_false (not_lt.2 hab.le)
    simp [byKey, byBoth, this]

/-- and so for the positions. -/
theorem sorted_by {n : ℕ} (Y : Fin n → EReal) (p : Fin n) : sortedFrom (byKey Y) p = sortedFrom (byBoth Y) p := by
  have : sortPositions n (byKey Y) = sortPositions n (byBoth Y) := stable_by Y _ (List.pairwise_lt_finRange n)
  have hg : ∀ (l l' : List (Fin n)) (hl : l.length = n) (hl' : l'.length = n), l = l' → l.get (p.cast hl.symm) = l'.get (p.cast hl'.symm) := by
    intro l l' hl hl' e; subst e; rfl
  exact hg _ _ (length_sortPositions n _) (length_sortPositions n _) this

/-- The sort's first positions are those of the largest keys. -/
theorem sorted_top {n k : ℕ} (hk : k ≤ n) (Y : Fin n → EReal) (σ : ℕ → Fin n) (h : Top.Top Y σ k) (i : Fin k) :
    sortedFrom (byKey Y) (i.castLE hk) = σ i := by
  have key : ∀ (i : Fin k) (q : Fin n), (∀ l' < i.val, σ l' ≠ q) → q ≠ σ i → byBoth Y q (σ i) = false := fun i q hq hne => by
    rcases (h i i.isLt).2 q hq hne with h1 | ⟨h1, h2⟩
    · have a : ¬ (-Y q < -Y (σ i)) := by rw [EReal.neg_lt_neg_iff]; exact not_lt.2 h1.le
      have b : ¬ (-Y q = -Y (σ i)) := fun e => h1.ne (neg_injective e)
      simp only [byBoth, a, b, decide_false, Bool.false_and, Bool.or_false]
    · have a : ¬ (-Y q < -Y (σ i)) := by rw [h1]; exact lt_irrefl _
      have b : ¬ (q < σ i) := not_lt.2 h2.le
      simp only [byBoth, a, b, decide_false, Bool.and_false, Bool.or_false]
  rw [sorted_by]
  refine (byBoth_strict Y).sortedFrom_eq_of_prefix hk (fun j => σ j) ?_ ?_ ?_ i
  · intro a b e; exact Fin.ext (h.inj a.isLt b.isLt e)
  · intro a b hab
    refine key a _ (fun l' hl' e => ?_) (fun e => ?_)
    · have := h.inj (hl'.trans a.isLt) b.isLt e
      have : a.val < b.val := hab
      omega
    · have := h.inj b.isLt a.isLt e
      have : a.val < b.val := hab
      omega
  · intro a q hq
    exact key a q (fun l' hl' => hq ⟨l', hl'.trans a.isLt⟩) (fun e => hq a e.symm)

/-- The reference's comparator compares the values. -/
theorem comparator_eq (a c : EReal) (i j : BitVec 32) :
    (comparator_f32_i32_d1 (F := Ideal) (a, i) (c, j) == 1#1) = decide (a < c) := by
  have h0 : ∀ x : EReal, Scalar.select (Ideal.cmp .oeq x (Ideal.ofBits .f32 0x00000000#32)) (Ideal.ofBits .f32 0x00000000#32) x = x := fun x => by
    by_cases h : x = Ideal.ofBits .f32 0x00000000#32
    · simp [Scalar.select, h]
    · have h' : ¬ (x = 0) := fun e => h (by rw [e]; simp)
      simp [Scalar.select, Ideal.cmp, h']
  have h1 : ∀ x y : EReal, Scalar.select (Ideal.cmp .une x x) y x = x := fun x y => by simp [Scalar.select, Ideal.cmp]
  have h2 : ∀ x y z : EReal, Scalar.select (Ideal.cmp .une x x) y z = z := fun x y z => by simp [Scalar.select, Ideal.cmp]
  have : comparator_f32_i32_d1 (F := Ideal) (a, i) (c, j) = Ideal.cmp .olt a c := by
    show Ideal.cmp .olt
        (Scalar.select (Ideal.cmp .une a a) _ (Scalar.select (Ideal.cmp .oeq a (Ideal.ofBits .f32 0x00000000#32)) (Ideal.ofBits .f32 0x00000000#32) a))
        (Scalar.select (Ideal.cmp .une c c) _ (Scalar.select (Ideal.cmp .oeq c (Ideal.ofBits .f32 0x00000000#32)) (Ideal.ofBits .f32 0x00000000#32) c)) = _
    rw [h2, h2, h0, h0]
  rw [this]
  by_cases h : a < c <;> simp [Ideal.cmp, h]

/-- A row's sorted places, at any size. -/
theorem sort2_row {n0 n1 : ℕ} (cmp : EReal × BitVec 32 → EReal × BitVec 32 → BitVec 1) (x : FVec Ideal ⟨2, ![n0, n1]⟩ .f32)
    (y : IVec ⟨2, ![n0, n1]⟩ 32) (b : Fin n0) (p : Fin n1) :
    (Host.sort2 ⟨2, ![n0, n1]⟩ 1 cmp x y).2 (ix2 b p)
      = y (ix2 b (sortedFrom (fun k k' : Fin n1 => cmp (x (ix2 b k), y (ix2 b k)) (x (ix2 b k'), y (ix2 b k')) == 1#1) p)) := by
  have hal : ∀ k : Fin n1, Shape.Idx.along (s := ⟨2, ![n0, n1]⟩) (ix2 b p) 1 k = ix2 b k := fun k => by
    funext a
    match a with
    | ⟨0, _⟩ => rfl
    | ⟨1, _⟩ => rfl
  unfold Host.sort2
  rw [dif_pos (show 1 < (⟨2, ![n0, n1]⟩ : Shape).rank from Nat.one_lt_two)]
  refine (congrArg y (hal _)).trans ?_
  have : (fun k k' : Fin n1 => cmp (x (Shape.Idx.along (s := ⟨2, ![n0, n1]⟩) (ix2 b p) 1 k), y (Shape.Idx.along (s := ⟨2, ![n0, n1]⟩) (ix2 b p) 1 k))
      (x (Shape.Idx.along (s := ⟨2, ![n0, n1]⟩) (ix2 b p) 1 k'), y (Shape.Idx.along (s := ⟨2, ![n0, n1]⟩) (ix2 b p) 1 k')) == 1#1)
      = fun k k' : Fin n1 => cmp (x (ix2 b k), y (ix2 b k)) (x (ix2 b k'), y (ix2 b k')) == 1#1 := by
    funext k k'; rw [hal, hal]
  exact congrArg (fun B => y (ix2 b (sortedFrom B p))) this

/-- A row's descending order, at any size. -/
theorem order_row {n0 n1 : ℕ} (Y : FVec Ideal ⟨2, ![n0, n1]⟩ .f32) (b : Fin n0) (p : Fin n1) :
    (Host.sort2 ⟨2, ![n0, n1]⟩ 1 comparator_f32_i32_d1 (Host.negf Y) (iotaInDim ⟨2, ![n0, n1]⟩ 32 1)).2 (ix2 b p)
      = BitVec.ofNat 32 (sortedFrom (byKey fun q => Y (ix2 b q)) p).val := by
  rw [sort2_row]
  have : (fun k k' : Fin n1 => comparator_f32_i32_d1 (F := Ideal) (Host.negf Y (ix2 b k), iotaInDim ⟨2, ![n0, n1]⟩ 32 1 (ix2 b k))
      (Host.negf Y (ix2 b k'), iotaInDim ⟨2, ![n0, n1]⟩ 32 1 (ix2 b k')) == 1#1) = byKey fun q => Y (ix2 b q) := by
    funext k k'
    rw [comparator_eq]
    rfl
  rw [this]
  rfl

/-- The descending order, entry by entry. -/
theorem order_at (Y : FVec Ideal S128x100000 .f32) (b : Fin 128) (p : Fin 100000) :
    order Y (ix2 b p) = BitVec.ofNat 32 (sortedFrom (byKey fun q => Y (ix2 b q)) p).val := order_row Y b p

/-- The first ranks hold the positions of the largest scores. -/
theorem order_top (Y : FVec Ideal S128x100000 .f32) (b : Fin 128) (σ : ℕ → Fin 100000) {k : ℕ} (hk : k ≤ 100000)
    (h : Top.Top (fun q => Y (ix2 b q)) σ k) (i : Fin k) : order Y (ix2 b (i.castLE hk)) = BitVec.ofNat 32 (σ i).val := by
  rw [order_at, sorted_top hk _ σ h]

end

end Cert.ReferenceIdeal.Ops
-- ==== Proof.Ref.Val4.lean ====
/-
  The running sums of a row.
-/
module

public import proofs.«01_k».proof.Proof.Ref.Read
public import Idealize.ShloMosaic.Lib.Pointwise
public import Idealize.ShloMosaic.Lib.ValueIdx
public import Idealize.ShloMosaic.Lib.SortFacts
public import Idealize.ShloMosaic.PureOps.Ideal.Laws

@[expose] public section

set_option maxRecDepth 16384

namespace Cert.ReferenceIdeal.Ops

open Idealize.ShloMosaic
open Cert.ReferenceIdeal Facts₀ Facts

noncomputable section

/-- Adding up from zero is the sum. -/
theorem foldl_add {N : ℕ} (f : Fin N → EReal) : (List.finRange N).foldl (fun r n => r + f n) 0 = ∑ n, f n := by
  rw [Fin.sum_univ_def, List.sum_eq_foldl, List.foldl_map]

/-- A window that ends at a rank sums up to that rank. -/
theorem window_sum {n : ℕ} (f : Fin n → EReal) (p : Fin n) :
    (∑ w : Fin n, if h : n - 1 ≤ p.val + w.val ∧ p.val + w.val - (n - 1) < n then f ⟨p.val + w.val - (n - 1), h.2⟩ else 0)
      = ∑ q : Fin n, if q ≤ p then f q else 0 := by
  rw [← Finset.sum_filter, ← Finset.sum_filter_add_sum_filter_not (Finset.univ : Finset (Fin n)) (fun w => n - 1 ≤ p.val + w.val)]
  rw [Finset.sum_eq_zero (s := Finset.univ.filter fun w : Fin n => ¬ (n - 1 ≤ p.val + w.val)), add_zero]
  · refine Finset.sum_bij' (fun w _ => (⟨p.val + w.val - (n - 1), by have := p.isLt; have := w.isLt; omega⟩ : Fin n))
      (fun q hq => (⟨q.val + (n - 1) - p.val, by
        have := q.isLt; have := p.isLt; have : q.val ≤ p.val := (Finset.mem_filter.1 hq).2; omega⟩ : Fin n)) ?_ ?_ ?_ ?_ ?_
    · intro w hw
      have h1 : n - 1 ≤ p.val + w.val := (Finset.mem_filter.1 hw).2
      refine Finset.mem_filter.2 ⟨Finset.mem_univ _, ?_⟩
      show p.val + w.val - (n - 1) ≤ p.val
      have := w.isLt; omega
    · intro q hq
      refine Finset.mem_filter.2 ⟨Finset.mem_univ _, ?_⟩
      show n - 1 ≤ p.val + (q.val + (n - 1) - p.val)
      omega
    · intro w hw
      have h1 : n - 1 ≤ p.val + w.val := (Finset.mem_filter.1 hw).2
      apply Fin.ext
      show p.val + w.val - (n - 1) + (n - 1) - p.val = w.val
      omega
    · intro q hq
      apply Fin.ext
      have : q.val ≤ p.val := (Finset.mem_filter.1 hq).2
      have := p.isLt
      show p.val + (q.val + (n - 1) - p.val) - (n - 1) = q.val
      omega
    · intro w hw
      have h1 : n - 1 ≤ p.val + w.val := (Finset.mem_filter.1 hw).2
      rw [dif_pos ⟨h1, by have := p.isLt; have := w.isLt; omega⟩]
  · intro w hw
    rw [dif_neg fun h => (Finset.mem_filter.1 hw).2 h.1]

/-- A window shape's positions are the window's columns. -/
def winEquiv (n : ℕ) : (⟨2, ![1, n]⟩ : Shape).Idx ≃ Fin n where
  toFun i := i 1
  invFun k := ix2 (0 : Fin 1) k
  left_inv i := by
    funext a
    match a with
    | ⟨0, _⟩ => exact Subsingleton.elim (α := Fin 1) _ _
    | ⟨1, _⟩ => rfl
  right_inv _ := rfl

/-- The cumulative sum of a row, at any size. -/
theorem running_row {m n : ℕ} (h : (⟨2, ![m, n]⟩ : Shape).ReduceWindows ![1, n] ![1, 1] ![0, n - 1] ![0, 0] ⟨2, ![m, n]⟩) (hu : 0 < S_.numel)
    (x : FVec Ideal ⟨2, ![m, n]⟩ .f32) (v : FVec Ideal S_ .f32) (hv : ∀ i, v i = 0) (b : Fin m) (p : Fin n) :
    Host.reduceWindowAdd ![1, n] ![1, 1] ![0, n - 1] ![0, 0] x v h hu (ix2 b p) = ∑ q : Fin n, if q ≤ p then x (ix2 b q) else 0 := by
  rw [← window_sum (fun q => x (ix2 b q)) p, ← (winEquiv n).sum_comp, ← (Shape.rowMajor _).symm.sum_comp, ← foldl_add]
  show List.foldl _ (v _) _ = _
  rw [hv]
  congr 1
  funext r w
  have h0 : ((Shape.rowMajor ⟨2, ![1, n]⟩).symm w 0).val = 0 := by
    have : ((Shape.rowMajor ⟨2, ![1, n]⟩).symm w 0).val < 1 := Fin.isLt _
    omega
  refine congrArg (fun e : EReal => r + e) ?_
  have hp : p.val * 1 + ((Shape.rowMajor ⟨2, ![1, n]⟩).symm w 1).val = p.val + (winEquiv n ((Shape.rowMajor _).symm w)).val := by
    rw [Nat.mul_one]; rfl
  by_cases hc : n - 1 ≤ p.val + (winEquiv n ((Shape.rowMajor _).symm w)).val ∧ p.val + (winEquiv n ((Shape.rowMajor _).symm w)).val - (n - 1) < n
  · refine (dif_pos fun a => ?_).trans (Eq.trans ?_ (dif_pos hc).symm)
    · match a with
      | ⟨0, _⟩ =>
        refine ⟨Nat.zero_le _, ?_⟩
        show b.val * 1 + ((Shape.rowMajor ⟨2, ![1, n]⟩).symm w 0).val - 0 < m
        rw [h0]; have := b.isLt; omega
      | ⟨1, _⟩ =>
        show n - 1 ≤ p.val * 1 + ((Shape.rowMajor ⟨2, ![1, n]⟩).symm w 1).val ∧ p.val * 1 + ((Shape.rowMajor ⟨2, ![1, n]⟩).symm w 1).val - (n - 1) < n
        rw [hp]; exact hc
    · refine congrArg x (funext fun a => ?_)
      match a with
      | ⟨0, _⟩ =>
        apply Fin.ext
        show b.val * 1 + ((Shape.rowMajor ⟨2, ![1, n]⟩).symm w 0).val - 0 = b.val
        rw [h0]; omega
      | ⟨1, _⟩ =>
        apply Fin.ext
        show p.val * 1 + ((Shape.rowMajor ⟨2, ![1, n]⟩).symm w 1).val - (n - 1) = p.val + (winEquiv n ((Shape.rowMajor _).symm w)).val - (n - 1)
        rw [hp]
  · refine (dif_neg fun hin => hc ?_).trans (by rw [dif_neg hc])
    have := hin 1
    change n - 1 ≤ p.val * 1 + ((Shape.rowMajor ⟨2, ![1, n]⟩).symm w 1).val ∧ p.val * 1 + ((Shape.rowMajor ⟨2, ![1, n]⟩).symm w 1).val - (n - 1) < n at this
    rw [hp] at this; exact this

/-- The cumulative sum, entry by entry. -/
theorem running_at (x : FVec Ideal S128x100000 .f32) (b : Fin 128) (p : Fin 100000) :
    running x (ix2 b p) = ∑ q : Fin 100000, if q ≤ p then x (ix2 b q) else 0 :=
  running_row reduceWindows_S128x100000_S128x100000_w1s1p0_0_w100000s1p99999_0 h_S_ x _
    (fun _ => show Ideal.ofBits .f32 0x00000000#32 = 0 by simp) b p

end

end Cert.ReferenceIdeal.Ops
-- ==== Proof.Ref.Val5.lean ====
/-
  Entries gathered along rows at in-range ranks.
-/
module

public import proofs.«01_k».proof.Proof.Ref.Read
public import Idealize.ShloMosaic.Lib.Pointwise
public import Idealize.ShloMosaic.Lib.ValueIdx
public import Idealize.ShloMosaic.Lib.SortFacts
public import Idealize.ShloMosaic.PureOps.Ideal.Laws

@[expose] public section

set_option maxRecDepth 16384

namespace Cert.ReferenceIdeal.Ops

open Idealize.ShloMosaic
open Cert.ReferenceIdeal Facts₀ Facts

noncomputable section

/-- A small number as a signed word. -/
theorem toInt_small {q : ℕ} (hq : q < 2 ^ 31) : (BitVec.ofNat 32 q).toInt = (q : ℤ) := by
  rw [BitVec.toInt_eq_toNat_of_lt]
  · rw [BitVec.toNat_ofNat, Nat.mod_eq_of_lt (by omega)]
  · rw [BitVec.toNat_ofNat, Nat.mod_eq_of_lt (by omega)]; omega

/-- Reading a row at computed places. -/
theorem gather_rows {α : Type} (y : S128x100000.Idx → α) (idx : IVec S128x100000x1 32) (b : Fin 128) (p q : Fin 100000)
    (hq : idx (ix3 b p 0) = BitVec.ofNat 32 q.val) :
    Host.gather gather_S128x100000_S128x100000x1_S128x100000_n_1_0_0_1_2_11 y idx (ix2 b p) = y (ix2 b q) := by
  refine congrArg y ?_
  funext a
  apply Fin.ext
  match a with
  | ⟨0, _⟩ =>
    show GatherDims.start _ _ idx 0 + GatherDims.batchCoord _ _ 0 + GatherDims.offCoord _ _ 0 = b.val
    rw [GatherDims.start_batching _ _ _ _ (List.mem_singleton.2 rfl),
      GatherDims.offCoord_eq_zero _ _ _ (fun h => ((GatherDims.mem_sKept _ _).1 h).2 (List.mem_singleton.2 rfl)), Nat.zero_add, Nat.add_zero]
    unfold GatherDims.batchCoord
    rw [dif_pos (by show (0 : Fin 2) ∈ [(0 : Fin 2)]; decide)]
    rfl
  | ⟨1, _⟩ =>
    show GatherDims.start _ _ idx 1 + GatherDims.batchCoord _ _ 1 + GatherDims.offCoord _ _ 1 = q.val
    rw [GatherDims.batchCoord_eq_zero _ _ _ (by show (1 : Fin 2) ∉ [(0 : Fin 2)]; decide),
      GatherDims.offCoord_eq_zero _ _ _ (fun h => ((GatherDims.mem_sKept _ _).1 h).1 (List.mem_singleton.2 rfl)), Nat.add_zero]
    unfold GatherDims.start
    rw [dif_pos (by show (1 : Fin 2) ∈ [(1 : Fin 2)]; decide)]
    have hi : GatherDims.siIdx gather_S128x100000_S128x100000x1_S128x100000_n_1_0_0_1_2_11 (ix2 b p)
        ⟨List.idxOf (1 : Fin 2) [(1 : Fin 2)], by decide⟩ = ix3 b p 0 := by
      funext a
      match a with
      | ⟨0, _⟩ => rfl
      | ⟨1, _⟩ => rfl
      | ⟨2, _⟩ => rfl
    refine (congrArg (fun w : BitVec 32 => min w.toInt.toNat (100000 - 1)) ((congrArg idx hi).trans hq)).trans ?_
    show min (BitVec.ofNat 32 q.val).toInt.toNat (100000 - 1) = q.val
    have := q.isLt
    rw [toInt_small (by omega), Int.toNat_natCast]; omega

/-- Reading a row at one computed place. -/
theorem gather_row {α : Type} (y : S128x100000.Idx → α) (idx : IVec S128x1x1 32) (b : Fin 128) (q : Fin 100000)
    (hq : idx (ix3 b 0 0) = BitVec.ofNat 32 q.val) :
    Host.gather gather_S128x100000_S128x1x1_S128x1_n_1_0_0_1_2_11 y idx (ix2 b 0) = y (ix2 b q) := by
  refine congrArg y ?_
  funext a
  apply Fin.ext
  match a with
  | ⟨0, _⟩ =>
    show GatherDims.start _ _ idx 0 + GatherDims.batchCoord _ _ 0 + GatherDims.offCoord _ _ 0 = b.val
    rw [GatherDims.start_batching _ _ _ _ (List.mem_singleton.2 rfl),
      GatherDims.offCoord_eq_zero _ _ _ (fun h => ((GatherDims.mem_sKept _ _).1 h).2 (List.mem_singleton.2 rfl)), Nat.zero_add, Nat.add_zero]
    unfold GatherDims.batchCoord
    rw [dif_pos (by show (0 : Fin 2) ∈ [(0 : Fin 2)]; decide)]
    rfl
  | ⟨1, _⟩ =>
    show GatherDims.start _ _ idx 1 + GatherDims.batchCoord _ _ 1 + GatherDims.offCoord _ _ 1 = q.val
    rw [GatherDims.batchCoord_eq_zero _ _ _ (by show (1 : Fin 2) ∉ [(0 : Fin 2)]; decide),
      GatherDims.offCoord_eq_zero _ _ _ (fun h => ((GatherDims.mem_sKept _ _).1 h).1 (List.mem_singleton.2 rfl)), Nat.add_zero]
    unfold GatherDims.start
    rw [dif_pos (by show (1 : Fin 2) ∈ [(1 : Fin 2)]; decide)]
    have hi : GatherDims.siIdx gather_S128x100000_S128x1x1_S128x1_n_1_0_0_1_2_11 (ix2 b 0)
        ⟨List.idxOf (1 : Fin 2) [(1 : Fin 2)], by decide⟩ = ix3 b 0 0 := by
      funext a
      match a with
      | ⟨0, _⟩ => rfl
      | ⟨1, _⟩ => rfl
      | ⟨2, _⟩ => rfl
    refine (congrArg (fun w : BitVec 32 => min w.toInt.toNat (100000 - 1)) ((congrArg idx hi).trans hq)).trans ?_
    show min (BitVec.ofNat 32 q.val).toInt.toNat (100000 - 1) = q.val
    have := q.isLt
    rw [toInt_small (by omega), Int.toNat_natCast]; omega

/-- Entries taken at given row-wise indices. -/
def takenOf (y : FVec Ideal S128x100000 .f32) (w : IVec S128x100000x1 32) : FVec Ideal S128x100000 .f32 :=
  select (Host.reduce IntOp.andi
      (andi (cmpi .sge w (broadcastInDim S128x100000x1 ![] bcast_S_S128x100000x1 (constantI S_ 32 0#32)))
        (cmpi .sle w (broadcastInDim S128x100000x1 ![0, 1, 2] bcast_S1x1x1_S128x100000x1_0_1_2
          (broadcastInDim S1x1x1 ![2] bcast_S1_S1x1x1_2 (constantI S1 32 99999#32)))))
      (constantI S_ 1 1#1) reducesTo_S128x100000x1_S128x100000_d2 h_S_)
    (Host.gather gather_S128x100000_S128x100000x1_S128x100000_n_1_0_0_1_2_11 y w)
    (broadcastInDim S128x100000 ![] bcast_S_S128x100000 (constant S_ .f32 0x7FC00000#32))

/-- The sorted entry, guarded by the range test. -/
theorem takenOf_at (y : FVec Ideal S128x100000 .f32) (w : IVec S128x100000x1 32) (b : Fin 128) (p : Fin 100000) :
    takenOf y w (ix2 b p) = Scalar.select ((Finset.univ : Finset (Fin 1)).fold IntOp.andi 1#1 fun x =>
        IntOp.andi (IntOp.cmpi .sge (w (ix3 b p x)) 0#32) (IntOp.cmpi .sle (w (ix3 b p x)) 99999#32))
      (Host.gather gather_S128x100000_S128x100000x1_S128x100000_n_1_0_0_1_2_11 y w (ix2 b p)) (Ideal.ofBits .f32 0x7FC00000#32) := by
  pointwise [takenOf]

/-- A place counted from the end where it is negative. -/
theorem wrapped_at (q : IVec S128x100000 32) (b : Fin 128) (p : Fin 100000) :
    wrapped q (ix3 b p 0) = Scalar.select (IntOp.cmpi .slt (q (ix2 b p)) 0#32) (IntOp.addi (q (ix2 b p)) 100000#32) (q (ix2 b p)) := by
  pointwise [wrapped]

/-- A place in range is not changed by that. -/
theorem wrap_small {w : BitVec 32} {q : Fin 100000} (h : w = BitVec.ofNat 32 q.val) :
    Scalar.select (IntOp.cmpi .slt w 0#32) (IntOp.addi w 100000#32) w = BitVec.ofNat 32 q.val := by
  subst h
  have := q.isLt
  have h0 : (BitVec.ofNat 32 q.val).slt 0#32 = false := by
    rw [BitVec.slt, toInt_small (q := q.val) (by omega)]; simp
  simp [Scalar.select, IntOp.cmpi, h0]

/-- A place in range passes the range test. -/
theorem range_small {w : Fin 1 → BitVec 32} {q : Fin 100000} (h : w 0 = BitVec.ofNat 32 q.val) :
    ((Finset.univ : Finset (Fin 1)).fold IntOp.andi 1#1 fun x =>
        IntOp.andi (IntOp.cmpi .sge (w x) 0#32) (IntOp.cmpi .sle (w x) 99999#32)) = 1#1 := by
  have := q.isLt
  have h0 : (0#32).sle (BitVec.ofNat 32 q.val) = true := by
    exact decide_eq_true (by rw [toInt_small (q := q.val) (by omega)]; simp)
  have h1 : (BitVec.ofNat 32 q.val).sle 99999#32 = true := by
    rw [BitVec.sle, toInt_small (q := q.val) (by omega)]; simp; omega
  rw [show (Finset.univ : Finset (Fin 1)) = {0} from rfl, Finset.fold_singleton, h]
  simp [IntOp.cmpi, IntOp.andi, h0, h1]

/-- Where the index of a rank is in range, the entry taken is the one at that index. -/
theorem taken_at (y : FVec Ideal S128x100000 .f32) (o : IVec S128x100000 32) (b : Fin 128) (p q : Fin 100000)
    (h : o (ix2 b p) = BitVec.ofNat 32 q.val) : taken y o (ix2 b p) = y (ix2 b q) := by
  have hw : wrapped o (ix3 b p 0) = BitVec.ofNat 32 q.val := (wrapped_at o b p).trans (wrap_small h)
  refine (takenOf_at y (wrapped o) b p).trans ?_
  rw [range_small (w := fun x => wrapped o (ix3 b p x)) hw, gather_rows y (wrapped o) b p q hw]
  rfl

/-- Tokens taken at given single indices. -/
def tokenOf (o : IVec S128x100000 32) (w : IVec S128x1x1 32) : IVec S128 32 :=
  shapeCast S128 (select (Host.reduce IntOp.andi
      (andi (cmpi .sge w (broadcastInDim S128x1x1 ![] bcast_S_S128x1x1 (constantI S_ 32 0#32)))
        (cmpi .sle w (broadcastInDim S128x1x1 ![0, 1, 2] bcast_S1x1x1_S128x1x1_0_1_2
          (broadcastInDim S1x1x1 ![2] bcast_S1_S1x1x1_2 (constantI S1 32 99999#32)))))
      (constantI S_ 1 1#1) reducesTo_S128x1x1_S128x1_d2 h_S_)
    (Host.gather gather_S128x100000_S128x1x1_S128x1_n_1_0_0_1_2_11 o w)
    (broadcastInDim S128x1 ![] bcast_S_S128x1 (constantI S_ 32 2147483648#32))) shapeCasts_S128x1_S128

/-- The token, guarded by the range test. -/
theorem tokenOf_at (o : IVec S128x100000 32) (w : IVec S128x1x1 32) (b : Fin 128) :
    tokenOf o w (ix1 b) = Scalar.select ((Finset.univ : Finset (Fin 1)).fold IntOp.andi 1#1 fun x =>
        IntOp.andi (IntOp.cmpi .sge (w (ix3 b 0 x)) 0#32) (IntOp.cmpi .sle (w (ix3 b 0 x)) 99999#32))
      (Host.gather gather_S128x100000_S128x1x1_S128x1_n_1_0_0_1_2_11 o w (ix2 b 0)) 2147483648#32 := by
  pointwise [tokenOf]

/-- The drawn rank counted from the end where it is negative. -/
theorem wrapped1_at (q : IVec S128 32) (b : Fin 128) :
    wrapped1 q (ix3 b 0 0) = Scalar.select (IntOp.cmpi .slt (q (ix1 b)) 0#32) (IntOp.addi (q (ix1 b)) 100000#32) (q (ix1 b)) := by
  pointwise [wrapped1]

/-- Where the rank is in range, the token taken is the one at that rank. -/
theorem token_at (o : IVec S128x100000 32) (k : IVec S128 32) (b : Fin 128) (q : Fin 100000)
    (h : k (ix1 b) = BitVec.ofNat 32 q.val) : token o k (ix1 b) = o (ix2 b q) := by
  have hw : wrapped1 k (ix3 b 0 0) = BitVec.ofNat 32 q.val := (wrapped1_at k b).trans (wrap_small h)
  refine (tokenOf_at o (wrapped1 k) b).trans ?_
  rw [range_small (w := fun x => wrapped1 k (ix3 b 0 x)) hw, gather_row o (wrapped1 k) b q hw]
  rfl

end

end Cert.ReferenceIdeal.Ops
-- ==== Proof.Ref.Val6.lean ====
/-
  The rank of the first largest noisy score.
-/
module

public import proofs.«01_k».proof.Proof.Ref.Read
public import Idealize.ShloMosaic.Lib.Pointwise
public import Idealize.ShloMosaic.Lib.ValueIdx
public import proofs.«01_k».proof.Proof.Math.Tail
public import Idealize.ShloMosaic.PureOps.Ideal.Laws

@[expose] public section

set_option maxRecDepth 16384

namespace Cert.ReferenceIdeal.Ops

open Idealize.ShloMosaic
open Cert.ReferenceIdeal Facts₀ Facts

noncomputable section

/-- A pair no worse than another. -/
def Beats (a b : EReal × BitVec 32) : Prop := b.1 < a.1 ∨ (b.1 = a.1 ∧ a.2.toInt ≤ b.2.toInt)

/-- Every pair beats itself. -/
theorem Beats.refl (a : EReal × BitVec 32) : Beats a a := Or.inr ⟨rfl, le_rfl⟩

/-- What beats a winner beats the beaten. -/
theorem Beats.trans {a b c : EReal × BitVec 32} (h : Beats a b) (h' : Beats b c) : Beats a c := by
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

/-- The reducer keeps one of two pairs, and it beats both. -/
theorem reducer_step (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  have e : reducer_argmax_f32_i32 (F := Ideal) a b
      = (Scalar.select (IntOp.ori (Ideal.cmp .ogt a.1 b.1) (Ideal.cmp .une a.1 a.1)) a.1 b.1,
        Scalar.select (IntOp.ori (IntOp.ori (Ideal.cmp .ogt a.1 b.1) (Ideal.cmp .une a.1 a.1))
          (IntOp.andi (Ideal.cmp .oeq a.1 b.1) (IntOp.cmpi .slt a.2 b.2))) a.2 b.2) := rfl
  obtain ⟨a1, a2⟩ := a
  obtain ⟨b1, b2⟩ := b
  rw [e]
  rcases lt_trichotomy a1 b1 with h | h | h
  · have h1 : ¬ b1 < a1 := not_lt.2 h.le
    have h2 : ¬ a1 = b1 := h.ne
    have : (Scalar.select (IntOp.ori (Ideal.cmp .ogt a1 b1) (Ideal.cmp .une a1 a1)) a1 b1,
        Scalar.select (IntOp.ori (IntOp.ori (Ideal.cmp .ogt a1 b1) (Ideal.cmp .une a1 a1))
          (IntOp.andi (Ideal.cmp .oeq a1 b1) (IntOp.cmpi .slt a2 b2))) a2 b2) = (b1, b2) := by
      simp [Scalar.select, Ideal.cmp, IntOp.ori, IntOp.andi, h1, h2]
    rw [this]
    exact ⟨Or.inr rfl, Or.inl h, Beats.refl _⟩
  · subst h
    by_cases hc : a2.toInt < b2.toInt
    · have hs : a2.slt b2 = true := by rw [BitVec.slt]; exact decide_eq_true hc
      have : (Scalar.select (IntOp.ori (Ideal.cmp .ogt a1 a1) (Ideal.cmp .une a1 a1)) a1 a1,
          Scalar.select (IntOp.ori (IntOp.ori (Ideal.cmp .ogt a1 a1) (Ideal.cmp .une a1 a1))
            (IntOp.andi (Ideal.cmp .oeq a1 a1) (IntOp.cmpi .slt a2 b2))) a2 b2) = (a1, a2) := by
        simp [Scalar.select, Ideal.cmp, IntOp.ori, IntOp.andi, IntOp.cmpi, hs]
      rw [this]
      exact ⟨Or.inl rfl, Beats.refl _, Or.inr ⟨rfl, hc.le⟩⟩
    · have hs : a2.slt b2 = false := by rw [BitVec.slt]; exact decide_eq_false hc
      have : (Scalar.select (IntOp.ori (Ideal.cmp .ogt a1 a1) (Ideal.cmp .une a1 a1)) a1 a1,
          Scalar.select (IntOp.ori (IntOp.ori (Ideal.cmp .ogt a1 a1) (Ideal.cmp .une a1 a1))
            (IntOp.andi (Ideal.cmp .oeq a1 a1) (IntOp.cmpi .slt a2 b2))) a2 b2) = (a1, b2) := by
        simp [Scalar.select, Ideal.cmp, IntOp.ori, IntOp.andi, IntOp.cmpi, hs]
      rw [this]
      exact ⟨Or.inr rfl, Or.inr ⟨rfl, not_lt.1 hc⟩, Beats.refl _⟩
  · have h2 : ¬ a1 = b1 := h.ne'
    have : (Scalar.select (IntOp.ori (Ideal.cmp .ogt a1 b1) (Ideal.cmp .une a1 a1)) a1 b1,
        Scalar.select (IntOp.ori (IntOp.ori (Ideal.cmp .ogt a1 b1) (Ideal.cmp .une a1 a1))
          (IntOp.andi (Ideal.cmp .oeq a1 b1) (IntOp.cmpi .slt a2 b2))) a2 b2) = (a1, a2) := by
      simp [Scalar.select, Ideal.cmp, IntOp.ori, IntOp.andi, h, h2]
    rw [this]
    exact ⟨Or.inl rfl, Beats.refl _, Or.inl h⟩

/-- The reduction keeps one of the pairs, and it beats all. -/
theorem reducer_fold {ι : Type} (f : ι → EReal × BitVec 32) (l : List ι) (a : EReal × BitVec 32) :
    (l.foldl (fun r n => reducer_argmax_f32_i32 (F := Ideal) r (f n)) a = a
        ∨ ∃ n ∈ l, l.foldl (fun r n => reducer_argmax_f32_i32 (F := Ideal) r (f n)) a = f n)
      ∧ Beats (l.foldl (fun r n => reducer_argmax_f32_i32 (F := Ideal) r (f n)) a) a
      ∧ ∀ n ∈ l, Beats (l.foldl (fun r n => reducer_argmax_f32_i32 (F := Ideal) r (f n)) a) (f n) := by
  induction l generalizing a with
  | nil => exact ⟨Or.inl rfl, Beats.refl _, by simp⟩
  | cons m l ih =>
    obtain ⟨h1, h2, h3⟩ := ih (reducer_argmax_f32_i32 (F := Ideal) a (f m))
    obtain ⟨g1, g2, g3⟩ := reducer_step a (f m)
    rw [List.foldl_cons]
    refine ⟨?_, h2.trans g2, fun n hn => ?_⟩
    · rcases h1 with h1 | ⟨n, hn, h1⟩
      · rcases g1 with g1 | g1
        · exact Or.inl (h1.trans g1)
        · exact Or.inr ⟨m, List.mem_cons_self, h1.trans g1⟩
      · exact Or.inr ⟨n, List.mem_cons_of_mem _ hn, h1⟩
    · rcases List.mem_cons.1 hn with rfl | hn
      · exact h2.trans g3
      · exact h3 n hn

/-- A rank as a signed word. -/
theorem toInt_rank {q : ℕ} (hq : q < 2 ^ 31) : (BitVec.ofNat 32 q).toInt = (q : ℤ) := by
  rw [BitVec.toInt_eq_toNat_of_lt]
  · rw [BitVec.toNat_ofNat, Nat.mod_eq_of_lt (by omega)]
  · rw [BitVec.toNat_ofNat, Nat.mod_eq_of_lt (by omega)]; omega

/-- The reduction's rank is the first of the largest entry, at any size. -/
theorem argmax_row {m n : ℕ} (hn : n < 2 ^ 31) (hn0 : 0 < n) (h : (⟨2, ![m, n]⟩ : Shape).ReducesTo [1] ⟨1, ![m]⟩) (hu : 0 < S_.numel)
    (x : FVec Ideal ⟨2, ![m, n]⟩ .f32) (v : FVec Ideal S_ .f32) (hv : ∀ i, v i = ⊥) (w : IVec S_ 32) (hw : ∀ i, w i = 0#32) (b : Fin m) :
    ∃ k : Fin n, Tail.IsPick (fun q => x (ix2 b q)) k ∧
      (Host.argReduce reducer_argmax_f32_i32 x (iotaInDim ⟨2, ![m, n]⟩ 32 1) v w h hu (ix1 b)).2 = BitVec.ofNat 32 k.val := by
  rw [Ideal.argReduce_eq_reduce2]
  obtain ⟨h1, h2, h3⟩ := reducer_fold
    (fun i : Fin (⟨2, ![m, n]⟩ : Shape).numel => (x ((Shape.rowMajor _).symm i), iotaInDim ⟨2, ![m, n]⟩ 32 1 ((Shape.rowMajor _).symm i)))
    ((List.finRange (⟨2, ![m, n]⟩ : Shape).numel).filter fun i => h.drop ((Shape.rowMajor _).symm i) = ix1 b) (⊥, 0#32)
  have hR : Host.reduce2 reducer_argmax_f32_i32 x (iotaInDim ⟨2, ![m, n]⟩ 32 1) v w h hu (ix1 b)
      = List.foldl (fun r i => reducer_argmax_f32_i32 (F := Ideal) r (x ((Shape.rowMajor _).symm i), iotaInDim ⟨2, ![m, n]⟩ 32 1 ((Shape.rowMajor _).symm i))) (⊥, 0#32)
        ((List.finRange (⟨2, ![m, n]⟩ : Shape).numel).filter fun i => h.drop ((Shape.rowMajor _).symm i) = ix1 b) := by
    show List.foldl _ (v _, w _) _ = _
    rw [hv, hw]
  rw [hR]
  generalize List.foldl (fun r i => reducer_argmax_f32_i32 (F := Ideal) r (x ((Shape.rowMajor _).symm i), iotaInDim ⟨2, ![m, n]⟩ 32 1 ((Shape.rowMajor _).symm i))) (⊥, 0#32)
        ((List.finRange (⟨2, ![m, n]⟩ : Shape).numel).filter fun i => h.drop ((Shape.rowMajor _).symm i) = ix1 b) = R at *
  have hall : ∀ q : Fin n, Beats R (x (ix2 b q), BitVec.ofNat 32 q.val) := fun q => by
    have := h3 ((Shape.rowMajor _) (ix2 b q)) (by
      rw [List.mem_filter]
      refine ⟨List.mem_finRange _, ?_⟩
      rw [decide_eq_true_eq, Equiv.symm_apply_apply]
      exact (h.fiber_r2_a1 (ix1 b) (ix2 b q)).2 ⟨q, rfl⟩)
    rw [Equiv.symm_apply_apply] at this
    exact this
  have hex : ∃ k : Fin n, R = (x (ix2 b k), BitVec.ofNat 32 k.val) := by
    rcases h1 with h1 | ⟨i, hi, h1⟩
    · refine ⟨⟨0, hn0⟩, ?_⟩
      have := hall ⟨0, hn0⟩
      rw [h1] at this ⊢
      rcases this with hlt | ⟨he, _⟩
      · exact absurd hlt not_lt_bot
      · exact Prod.ext he.symm rfl
    · rw [List.mem_filter, decide_eq_true_eq] at hi
      obtain ⟨k, hk⟩ := (h.fiber_r2_a1 (ix1 b) _).1 hi.2
      refine ⟨k, ?_⟩
      rw [h1, ← hk]
      rfl
  obtain ⟨k, hk⟩ := hex
  refine ⟨k, ⟨fun i => ?_, fun i hi => ?_⟩, by rw [hk]⟩
  · rcases hall i with hh | ⟨hh, _⟩
    · rw [hk] at hh; exact hh.le
    · rw [hk] at hh; exact hh.le
  · rcases hall i with hh | ⟨_, hh⟩
    · rw [hk] at hh; exact absurd hi hh.ne
    · rw [hk] at hh
      have e1 : (BitVec.ofNat 32 k.val).toInt = (k.val : ℤ) := toInt_rank (k.isLt.trans hn)
      have e2 : (BitVec.ofNat 32 i.val).toInt = (i.val : ℤ) := toInt_rank (i.isLt.trans hn)
      have : (BitVec.ofNat 32 k.val).toInt ≤ (BitVec.ofNat 32 i.val).toInt := hh
      rw [e1, e2] at this
      exact Fin.le_def.2 (by exact_mod_cast this)

/-- The first largest noisy score of a row, at any size. -/
theorem first_row {m n : ℕ} (hn : n < 2 ^ 31) (hn0 : 0 < n) (h : (⟨2, ![m, n]⟩ : Shape).ReducesTo [1] ⟨1, ![m]⟩) (hu : 0 < S_.numel)
    (z g : FVec Ideal ⟨2, ![m, n]⟩ .f32) (b : Fin m) :
    ∃ k : Fin n, Tail.IsPick (fun q => z (ix2 b q) + g (ix2 b q)) k ∧
      (Host.argReduce reducer_argmax_f32_i32 (addf z g) (iotaInDim ⟨2, ![m, n]⟩ 32 1) (constant S_ .f32 0xFF800000#32) (constantI S_ 32 0#32) h hu (ix1 b)).2
        = BitVec.ofNat 32 k.val :=
  argmax_row hn hn0 h hu (addf z g) _ (fun _ => show Ideal.ofBits .f32 0xFF800000#32 = ⊥ by simp [Ideal.ofBits, Ideal.ieee]) _ (fun _ => rfl) b

/-- The reference's draw, written out. -/
theorem first_eq {F : FTy → Type} [FloatOps F] (z g : FVec F S128x100000 .f32) : first z g = fun j =>
    (Host.argReduce reducer_argmax_f32_i32 (addf z g) (iotaInDim S128x100000 32 1) (constant S_ .f32 0xFF800000#32) (constantI S_ 32 0#32)
      reducesTo_S128x100000_S128_d1 h_S_ j).2 := by
  unfold first; rfl

/-- The rank picked is the first of the largest noisy score. -/
theorem first_at (z g : FVec Ideal S128x100000 .f32) (b : Fin 128) :
    ∃ k : Fin 100000, Tail.IsPick (fun q => z (ix2 b q) + g (ix2 b q)) k ∧ first z g (ix1 b) = BitVec.ofNat 32 k.val := by
  have h1 : 100000 < 2 ^ 31 := by norm_num
  have h2 : 0 < 100000 := by norm_num
  obtain ⟨k, hk, e⟩ := first_row h1 h2 reducesTo_S128x100000_S128_d1 h_S_ z g b
  exact ⟨k, hk, (congrFun (first_eq z g) (ix1 b)).trans e⟩

end

end Cert.ReferenceIdeal.Ops
-- ==== Proof.Ref.Whole.lean ====
/-
  The reference as one function, and its draw in a row.
-/
module

public import proofs.«01_k».proof.Proof.Ref.Read
public import proofs.«01_k».proof.Proof.Ref.Val1
public import proofs.«01_k».proof.Proof.Ref.Val2
public import proofs.«01_k».proof.Proof.Ref.Val3
public import proofs.«01_k».proof.Proof.Ref.Val4
public import proofs.«01_k».proof.Proof.Ref.Val5
public import proofs.«01_k».proof.Proof.Ref.Val6
public import Idealize.ShloMosaic.Lib.Pointwise
public import Idealize.ShloMosaic.Lib.ValueIdx
public import Idealize.ShloMosaic.PureOps.Ideal.Laws

@[expose] public section

set_option maxRecDepth 16384

namespace Cert.ReferenceIdeal.Ops

open Idealize.ShloMosaic
open Cert.ReferenceIdeal Facts₀ Facts

noncomputable section

/-- The ranked scores, the ranks past the cut removed. -/
def ranked (x : FVec Ideal S128x100000 .f32) (t : FVec Ideal S128 .f32) (tk : IVec S128 32) : FVec Ideal S128x100000 .f32 :=
  cut (taken (scaled x t) (order (scaled x t))) tk

/-- The reference's tokens. -/
def drawn (x : FVec Ideal S128x100000 .f32) (t tp : FVec Ideal S128 .f32) (tk : IVec S128 32) (g : FVec Ideal S128x100000 .f32) : IVec S128 32 :=
  token (order (scaled x t)) (first (mass (ranked x t tk) (soft (ranked x t tk)) tp) g)

/-- The word of −∞ is ⊥. -/
theorem ninf : Ideal.ofBits .f32 4286578688#32 = ⊥ := by simp [Ideal.ofBits, Ideal.ieee]

/-- A row's numerators. -/
theorem expo_row (y : FVec Ideal S128x100000 .f32) (b : Fin 128) (p : Fin 100000) :
    expo y (ix2 b p) = Tail.ex (fun q => y (ix2 b q)) p := by
  rw [expo_at, rowMax_at, ninf, max_eq_right bot_le]; rfl

/-- A row's softmax. -/
theorem soft_row (y : FVec Ideal S128x100000 .f32) (b : Fin 128) (p : Fin 100000) :
    soft y (ix2 b p) = Tail.prob (fun q => y (ix2 b q)) p := by
  rw [soft_at]
  simp only [expo_row]
  rfl

/-- A row after the mass cut. -/
theorem mass_row (y : FVec Ideal S128x100000 .f32) (tp : FVec Ideal S128 .f32) (b : Fin 128) (p : Fin 100000) :
    mass y (soft y) tp (ix2 b p) = Tail.kept (fun q => y (ix2 b q)) (tp (ix1 b)) p := by
  rw [mass_at, running_at, ninf]
  simp only [soft_row]
  rfl

/-- The scores by rank. -/
def byRank (X : Fin 100000 → EReal) (t : EReal) (k : BitVec 32) (σ : ℕ → Fin 100000) (j : Fin 64) : EReal :=
  Scalar.select (IntOp.cmpi .sge (BitVec.ofNat 32 j.val) (IntOp.maxsi k 1#32)) ⊥ (Ideal.div (X (σ j)) t)

/-- There are more than sixty-four tokens. -/
theorem le64 : 64 ≤ 100000 := by norm_num

/-- Every rank from sixty-four on is masked. -/
theorem past_cut (k : BitVec 32) (hk : k.toInt ≤ 64) (p : Fin 100000) (hp : 64 ≤ p.val) :
    IntOp.cmpi .sge (BitVec.ofNat 32 p.val) (IntOp.maxsi k 1#32) = 1#1 := by
  have hp' := p.isLt
  have h1 : (BitVec.ofNat 32 p.val).toInt = (p.val : ℤ) := toInt_small (by omega)
  have h2 : (IntOp.maxsi k 1#32).toInt ≤ 64 := by
    unfold IntOp.maxsi; split
    · exact hk
    · show (1#32 : BitVec 32).toInt ≤ 64
      decide
  have h3 : (IntOp.maxsi k 1#32).sle (BitVec.ofNat 32 p.val) = true := by
    rw [BitVec.sle]; exact decide_eq_true (by rw [h1]; omega)
  simp [IntOp.cmpi, h3]

/-- A row's sorted scores are the first sixty-four followed by −∞. -/
theorem ranked_row (x : FVec Ideal S128x100000 .f32) (t : FVec Ideal S128 .f32) (tk : IVec S128 32) (b : Fin 128) (σ : ℕ → Fin 100000)
    (hT : Top.Top (fun q => scaled x t (ix2 b q)) σ 64) (hk : (tk (ix1 b)).toInt ≤ 64) :
    Tail.Extends le64 (fun p => ranked x t tk (ix2 b p)) (byRank (fun q => x (ix2 b q)) (t (ix1 b)) (tk (ix1 b)) σ) := by
  refine ⟨fun j => ?_, fun p hp => ?_⟩
  · show ranked x t tk (ix2 b (j.castLE le64)) = _
    unfold ranked
    rw [cut_at, ninf, taken_at _ _ b _ (σ j) (order_top _ b σ le64 hT j), scaled_at]
    rfl
  · show ranked x t tk (ix2 b p) = _
    unfold ranked
    rw [cut_at, ninf, past_cut _ hk p hp]
    rfl

/-- The token of a row, given the draw among its first ranks. -/
theorem drawn_row (x : FVec Ideal S128x100000 .f32) (t tp : FVec Ideal S128 .f32) (tk : IVec S128 32) (g : FVec Ideal S128x100000 .f32)
    (b : Fin 128) (σ : ℕ → Fin 100000) (hT : Top.Top (fun q => scaled x t (ix2 b q)) σ 64) (hk : (tk (ix1 b)).toInt ≤ 64) (k : Fin 64)
    (hp : Tail.IsPick (fun j => Tail.kept (byRank (fun q => x (ix2 b q)) (t (ix1 b)) (tk (ix1 b)) σ) (tp (ix1 b)) j + g (ix2 b (j.castLE le64))) k) :
    drawn x t tp tk g (ix1 b) = BitVec.ofNat 32 (σ k).val := by
  obtain ⟨k', hk', e⟩ := first_at (mass (ranked x t tk) (soft (ranked x t tk)) tp) g b
  have hfun : (fun q => mass (ranked x t tk) (soft (ranked x t tk)) tp (ix2 b q) + g (ix2 b q))
      = fun q => Tail.kept (fun q => ranked x t tk (ix2 b q)) (tp (ix1 b)) q + g (ix2 b q) := by
    funext q; rw [mass_row]
  rw [hfun] at hk'
  have hkk := Tail.draw_ext le64 (ranked_row x t tk b σ hT hk) (g' := fun q => g (ix2 b q)) (fun _ => rfl) _ hp hk'
  unfold drawn
  rw [token_at _ _ b k' e, hkk]
  exact order_top _ b σ le64 hT k

/-- The tokens the reference ends with, its noise read where the noise stretch leaves it. -/
theorem final_token (V : Valuation τ sig (Elt Ideal)) : ∃ W : Valuation τ sig (Elt Ideal), final V (Proc.devRef .tc main_v44)
    = drawn (V (Proc.devRef .tc main_arg0)) (V (Proc.devRef .tc main_arg1)) (V (Proc.devRef .tc main_arg2)) (V (Proc.devRef .tc main_arg3))
        (StableHlo.after opsNoise W (Proc.devRef .tc main_v39)) := by
  refine ⟨StableHlo.after opsTopP (StableHlo.after opsSoft (StableHlo.after opsTopK (StableHlo.after opsTake (StableHlo.after opsSort V)))), ?_⟩
  unfold final
  rw [token_token, pick_first, opsPick_keeps (r := main_v4) (by decide), opsNoise_keeps (r := main_v4) (by decide),
    opsTopP_keeps (r := main_v4) (by decide), opsSoft_keeps (r := main_v4) (by decide), opsTopK_keeps (r := main_v4) (by decide),
    opsTake_keeps (r := main_v4) (by decide), sort_order, opsNoise_keeps (r := main_v31) (by decide), topp_mass,
    soft_soft, opsSoft_keeps (r := main_v14) (by decide), topk_cut, take_taken, sort_scaled, sort_order,
    opsSoft_keeps (r := main_arg2) (by decide), opsTopK_keeps (r := main_arg2) (by decide), opsTake_keeps (r := main_arg2) (by decide),
    opsSort_keeps (r := main_arg2) (by decide), opsTake_keeps (r := main_arg3) (by decide), opsSort_keeps (r := main_arg3) (by decide)]
  rfl

end

end Cert.ReferenceIdeal.Ops
-- ==== Proof.Math.Div.lean ====
/-
  Dividing by a positive number keeps the order; a row of scores has a first largest entry.
-/
module

public import proofs.«01_k».proof.Proof.Math.Tail
public import proofs.«01_k».proof.Proof.Math.Top

@[expose] public section

namespace Cert.Tail

open Idealize.ShloMosaic

/-- Dividing by a positive number keeps the order strictly. -/
theorem div_strict {t : EReal} (h0 : 0 < t) (h1 : t < ⊤) : StrictMono fun x => Ideal.div x t := by
  lift t to ℝ using ⟨h1.ne, (bot_le.trans_lt h0).ne'⟩
  have ht : 0 < t := by exact_mod_cast h0
  intro x y hxy
  have e : ∀ z : EReal, Ideal.div z (t : EReal) = z * ((t⁻¹ : ℝ) : EReal) := by
    intro z
    unfold Ideal.div
    rw [if_neg h0.ne', EReal.coe_inv]
  simp only [e]
  have hi : 0 < t⁻¹ := inv_pos.2 ht
  induction x with
  | bot =>
    rw [EReal.bot_mul_coe_of_pos hi]
    induction y with
    | bot => exact absurd hxy (lt_irrefl _)
    | top => rw [EReal.top_mul_coe_of_pos hi]; exact bot_lt_top
    | coe y => rw [← EReal.coe_mul]; exact EReal.bot_lt_coe _
  | top => exact absurd hxy (not_lt.2 le_top)
  | coe x =>
    induction y with
    | bot => exact absurd hxy (not_lt.2 bot_le)
    | top => rw [EReal.top_mul_coe_of_pos hi, ← EReal.coe_mul]; exact EReal.coe_lt_top _
    | coe y =>
      rw [← EReal.coe_mul, ← EReal.coe_mul, EReal.coe_lt_coe_iff]
      exact mul_lt_mul_of_pos_right (EReal.coe_lt_coe_iff.1 hxy) hi

/-- There is a first rank of the largest entry. -/
theorem exists_pick {n : ℕ} (hn : 0 < n) (s : Fin n → EReal) : ∃ k, IsPick s k := by
  classical
  obtain ⟨i, -, hi⟩ := Finset.exists_max_image Finset.univ s ⟨⟨0, hn⟩, Finset.mem_univ _⟩
  obtain ⟨k, hk, hm⟩ := Finset.exists_min_image (Finset.univ.filter fun j => s j = s i) id ⟨i, by simp⟩
  have hk' : s k = s i := by simpa using hk
  exact ⟨k, fun j => hk' ▸ hi j (Finset.mem_univ _), fun j hj => hm j (by simp [hj, hk'])⟩

end Cert.Tail
-- ==== Proof.Pre.lean ====
/-
  What the precondition says of the arguments: the logits are above the kernel's own removal value, the temperatures
  are positive numbers, and no row asks for more than sixty-four entries.
-/
module

public import proofs.«01_k».proof.Pre_admissible
public import Idealize.ShloMosaic.Lib.ReduceAll
public import Idealize.ShloMosaic.Lib.Affine
public import Idealize.ShloMosaic.PureOps.Ideal
public import Idealize.ShloMosaic.PureOps.Ideal.Laws

@[expose] public section

namespace Cert.Pre_admissible

open Idealize.ShloMosaic

noncomputable section

/-- The shape facts the precondition states. -/
theorem facts : Cert.Pre_admissible.Facts := by
  constructor <;> decide

instance : Subsingleton S_.Idx := ⟨fun a b => funext fun i => i.elim0⟩

/-- What a comparison says of two numbers. -/
theorem cmp_gt {a b : EReal} (h : Ideal.cmp .ogt a b = 1#1) : b < a := by
  by_contra hn
  simp [Ideal.cmp, hn] at h
/-- The other comparison. -/
theorem cmp_lt {a b : EReal} (h : Ideal.cmp .olt a b = 1#1) : a < b := by
  by_contra hn
  simp [Ideal.cmp, hn] at h

/-- The infinite word is ⊤. -/
theorem inf_eq : Ideal.ofBits .f32 0x7F800000#32 = ⊤ := by
  simp [Ideal.ofBits, Ideal.ieee]

/-- The precondition, entry by entry. -/
theorem fn_says [hf : Cert.Pre_admissible.Facts] (x : FVec Ideal S128x100000 .f32) (t tp : FVec Ideal S128 .f32) (k : IVec S128 32)
    (h : fn (F := Ideal) x t tp k = fun _ => 1#1) :
    (∀ i, Ideal.ofBits .f32 0xFF61B1E6#32 < x i) ∧ (∀ i, 0 < t i ∧ t i < ⊤) ∧ ∀ i, (k i).toInt ≤ 64 := by
  have h0 := congrFun h (fun i : Fin 0 => i.elim0)
  unfold fn at h0
  obtain ⟨h1, hk⟩ := IntOp.andi_eq_one.1 h0
  obtain ⟨h2, hlt⟩ := IntOp.andi_eq_one.1 h1
  obtain ⟨hx, hgt⟩ := IntOp.andi_eq_one.1 h2
  refine ⟨fun i => ?_, fun i => ⟨?_, ?_⟩, fun i => ?_⟩
  · exact cmp_gt (Host.reduce_andi_all _ _ _ _ _ hx i)
  · have := cmp_gt (Host.reduce_andi_all _ _ _ _ _ hgt i)
    exact Ideal.ofBits_zero_f32 ▸ this
  · have := cmp_lt (Host.reduce_andi_all _ _ _ _ _ hlt i)
    exact inf_eq ▸ this
  · have := Host.reduce_andi_all _ _ _ _ _ hk i
    have h' : IntOp.cmpi .sle (k i) 64#32 = 1#1 := this
    by_contra hn
    simp [IntOp.cmpi, BitVec.sle, hn] at h'

end

end Cert.Pre_admissible
-- ==== Proof.Value.lean ====
/-
  The kernel's tokens are the reference's tokens.
-/
module

public import proofs.«01_k».proof.Defs
public import proofs.«01_k».proof.Proof.KI.Out
public import proofs.«01_k».proof.Proof.Ref.Whole
public import proofs.«01_k».proof.Proof.Math.Div
public import proofs.«01_k».proof.Proof.Pre
public import proofs.«01_k».proof.Proof.Gen.ReferenceIdeal

@[expose] public section

set_option maxRecDepth 16384

noncomputable section

namespace Cert.KernelIdeal.Body

open Cert.KernelIdeal Cert.KernelIdeal.Gen
open Idealize.ShloMosaic Idealize.ShloMosaic.TcCoe
open Idealize.SL.Sem

variable (m : (ℓ : Loc nD τ sig) → Buf (Elt Ideal) ℓ)

/-- The logits. -/
abbrev argX (c : Dev nD) : FVec Ideal S128x100000 .f32 := m ((c : Thread nD τ).loc main_arg0)
/-- The temperatures. -/
abbrev argT (c : Dev nD) : FVec Ideal S128 .f32 := m ((c : Thread nD τ).loc main_arg1)
/-- The mass bounds. -/
abbrev argP (c : Dev nD) : FVec Ideal S128 .f32 := m ((c : Thread nD τ).loc main_arg2)
/-- The counts. -/
abbrev argK (c : Dev nD) : IVec S128 32 := m ((c : Thread nD τ).loc main_arg3)
/-- The noise. -/
abbrev noiseX (c : Dev nD) : FVec Ideal S128x100000 .f32 := W0 m c (Proc.devRef .tc main_v8)

/-- A block number as a grid point and back. -/
theorem pt_unpt (k : Fin 16) : pt (unpt k) = k := rfl

/-- A block's row is the row of the logits. -/
theorem row_eq (c : Dev nD) (k : Fin 16) (r : Fin 8) :
    rowX (iblk m c 0 (unpt k)) r = fun q => argX m c (ix2 (brow k r) q) := by
  funext q
  unfold rowX
  rw [in0, V_v0, pt_unpt, cast_row]
  congr 2
  apply Fin.ext
  show q.val / 500 * 500 + q.val % 500 = q.val
  omega

/-- The token the kernel draws for a row. -/
theorem token (c : Dev nD) (k : Fin 16) (r : Fin 8) (hX : ∀ q, lowE < argX m c (ix2 (brow k r) q)) :
    ∃ σ : ℕ → Fin 100000, Top.Top (fun q => argX m c (ix2 (brow k r) q)) σ 64 ∧ ∀ j : Fin 64,
      Tail.IsPick (fun j => Tail.kept (ReferenceIdeal.Ops.byRank (fun q => argX m c (ix2 (brow k r) q)) (argT m c (ix1 (brow k r))) (argK m c (ix1 (brow k r))) σ)
        (argP m c (ix1 (brow k r))) j + noiseX m c (ix2 (brow k r) (j.castLE ReferenceIdeal.Ops.le64))) j →
      shapeCast S128 (G m c) shapeCasts_S16x1x8_S128 (ix1 (brow k r)) = BitVec.ofNat 32 (σ j).val := by
  obtain ⟨σ, hT, hp⟩ := out_row (iblk m c 0 (unpt k)) (iblk m c 1 (unpt k)) (iblk m c 2 (unpt k)) (iblk m c 3 (unpt k)) (iblk m c 4 (unpt k)) r
    (fun p => by rw [row_eq]; exact hX p)
  rw [row_eq] at hT hp
  refine ⟨σ, hT, fun j hj => ?_⟩
  rw [cast_out]
  refine hp j ?_
  have e1 : (iblk m c 1 (unpt k) : Vec Ideal S1x1x8 .f32) (ix3 0 0 r) = argT m c (ix1 (brow k r)) := by
    rw [in1, V_v10, pt_unpt, cast_vec]
  have e2 : (iblk m c 2 (unpt k) : Vec Ideal S1x1x8 .f32) (ix3 0 0 r) = argP m c (ix1 (brow k r)) := by
    rw [in2, V_v11, pt_unpt, cast_vec]
  have e3 : (iblk m c 3 (unpt k) : Vec Ideal S1x1x8 .i32) (ix3 0 0 r) = argK m c (ix1 (brow k r)) := by
    rw [in3, V_v12, pt_unpt, cast_vec]
  have e4 : ∀ j : Fin 64, (iblk m c 4 (unpt k) : Vec Ideal S1x8x64 .f32) (ix3 0 r j) = noiseX m c (ix2 (brow k r) (j.castLE ReferenceIdeal.Ops.le64)) := by
    intro j
    rw [in4, V_v13, pt_unpt, cast_noise, slice_noise]
    rfl
  rw [e1, e2, e3]
  simp only [e4]
  exact hj

/-- The kernel's result is the reference's, where the precondition's facts hold. -/
theorem result_eq (c : Dev nD) (W : Noise.ValR Ideal) (hX : ∀ i, lowE < argX m c i) (hT : ∀ i, 0 < argT m c i ∧ argT m c i < ⊤)
    (hK : ∀ i, (argK m c i).toInt ≤ 64) : shapeCast S128 (G m c) shapeCasts_S16x1x8_S128
      = ReferenceIdeal.Ops.drawn (argX m c) (argT m c) (argP m c) (argK m c)
        (StableHlo.after ReferenceIdeal.Ops.opsNoise W (Proc.devRef .tc ReferenceIdeal.main_v39)) := by
  funext i
  obtain ⟨k, r, rfl⟩ : ∃ (k : Fin 16) (r : Fin 8), i = ix1 (brow k r) := by
    have hi : (i 0).val < 128 := (i 0).isLt
    refine ⟨⟨(i 0).val / 8, by omega⟩, ⟨(i 0).val % 8, by omega⟩, funext fun a => ?_⟩
    match a with
    | ⟨0, _⟩ =>
      apply Fin.ext
      show (i 0).val = (i 0).val / 8 * 8 + (i 0).val % 8
      omega
  obtain ⟨σ, hσ, hp⟩ := token m c k r fun q => hX _
  obtain ⟨j, hj⟩ := Tail.exists_pick (by decide : 0 < 64) fun j : Fin 64 => Tail.kept (ReferenceIdeal.Ops.byRank (fun q => argX m c (ix2 (brow k r) q)) (argT m c (ix1 (brow k r))) (argK m c (ix1 (brow k r))) σ)
        (argP m c (ix1 (brow k r))) j + noiseX m c (ix2 (brow k r) (j.castLE ReferenceIdeal.Ops.le64))
  rw [hp j hj]
  symm
  refine ReferenceIdeal.Ops.drawn_row (argX m c) (argT m c) (argP m c) (argK m c) _ (brow k r) σ ?_ (hK _) j ?_
  · exact hσ.map (fun x => Ideal.div x (argT m c (ix1 (brow k r)))) (Tail.div_strict (hT _).1 (hT _).2) fun q => ReferenceIdeal.Ops.scaled_at _ _ _ _
  · have e := W0_v8 m c W
    rw [← e]
    exact hj

end Cert.KernelIdeal.Body

namespace Cert

open Idealize.ShloMosaic Idealize.ShloMosaic.TcCoe Idealize.SL.Sem

/-- The kernel and the reference end with the same tokens. -/
theorem algebraic : algebraic_KernelIdeal_ReferenceIdeal_pre_admissible (hKernelIdeal := Cert.KernelIdeal.Gen.facts)
    (hReferenceIdeal := Cert.ReferenceIdeal.Gen.facts) (hPre_admissible := Cert.Pre_admissible.facts) := by
  intro m g m' g' hpre hargs
  refine ⟨fun c => shapeCast KernelIdeal.S128 (KernelIdeal.Body.G m c) KernelIdeal.Gen.facts.shapeCasts_S16x1x8_S128, KernelIdeal.Body.run m g, ?_⟩
  refine (θ_run _ _ _).mono ?_ (ReferenceIdeal.Ops.run m' g')
  intro r h c
  refine ⟨?_, ?_, ?_, ?_, ?_⟩
  · rw [h.1 c ReferenceIdeal.main_v44]
    obtain ⟨W, hW⟩ := ReferenceIdeal.Ops.final_token (StableHlo.launchContents m' c)
    rw [hW]
    have hf := Pre_admissible.fn_says (hf := Pre_admissible.facts) _ _ _ _ (hpre c)
    have e := KernelIdeal.Body.result_eq m c W hf.1 hf.2.1 hf.2.2
    obtain ⟨a0, a1, a2, a3⟩ := hargs c
    refine Eq.trans ?_ e.symm
    unfold KernelIdeal.Body.argX KernelIdeal.Body.argT KernelIdeal.Body.argP KernelIdeal.Body.argK
    rw [← a0, ← a1, ← a2, ← a3]
  all_goals exact (h.1 c _).trans (ReferenceIdeal.Ops.final_keeps (by decide) (by decide) (by decide) (by decide) (by decide) (by decide) (by decide) (by decide) _)

end Cert
-- ==== Proof.lean ====
module

public import proofs.«01_k».proof.Defs
public import proofs.«01_k».proof.Proof.K.Run
public import proofs.«01_k».proof.Proof.KI.Run
public import proofs.«01_k».proof.Proof.Ref.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The claims, proved. -/
theorem claim : Cert.Claim := ⟨Cert.Kernel.Gen.facts, Cert.KernelIdeal.Gen.facts, Cert.ReferenceIdeal.Gen.facts, Cert.Pre_admissible.facts,
  fun m ρ _ => Cert.Kernel.Body.frame m ρ, fun m ρ _ => Cert.KernelIdeal.Body.frame m ρ, fun m ρ _ => Cert.KernelIdeal.Body.frame m ρ,
  fun m ρ _ => Cert.ReferenceIdeal.Ops.frame m ρ, fun m ρ _ => Cert.ReferenceIdeal.Ops.frame m ρ,
  IdealRules.named_const.statement Cert.KernelIdeal.κ "mask" .f32 0xCE6E6B28#32 ⊥ rfl, Cert.algebraic⟩

end Cert.Proof

end
